-- ==== Defs.lean ====
def Pre_Kernel [hPre_segments_in_range : Cert.Pre_segments_in_range.Facts] (m : (ℓ : Loc Cert.Kernel.nD Cert.Kernel.τ Cert.Kernel.sig) → Buf (Elt Bits) ℓ) : Prop :=
  ∀ c : Dev Cert.Kernel.nD,
    (Cert.Pre_segments_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_segments_in_range : Cert.Pre_segments_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_segments_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_sorted_and_finite [hPre_sorted_and_finite : Cert.Pre_sorted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_sorted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_and_finite [hPre_sorted_and_finite : Cert.Pre_sorted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_sorted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def quiescent_Kernel [hKernel : Cert.Kernel.Facts] [hPre_segments_in_range : Cert.Pre_segments_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_segments_in_range : Cert.Pre_segments_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_sorted_and_finite [hKernelIdeal : Cert.KernelIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_sorted_and_finite [hReferenceIdeal : Cert.ReferenceIdeal.Facts] [hPre_sorted_and_finite : Cert.Pre_sorted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_sorted_and_finite [hKernelIdeal : Cert.KernelIdeal.Facts] [hReferenceIdeal : Cert.ReferenceIdeal.Facts] [hPre_sorted_and_finite : Cert.Pre_sorted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_segments_in_range : Cert.Pre_segments_in_range.Facts) (hPre_sorted_and_finite : Cert.Pre_sorted_and_finite.Facts),
    quiescent_Kernel (hKernel := hKernel) (hPre_segments_in_range := hPre_segments_in_range)
    ∧ quiescent_KernelIdeal (hKernelIdeal := hKernelIdeal) (hPre_segments_in_range := hPre_segments_in_range)
    ∧ quiescent_KernelIdeal_pre_sorted_and_finite (hKernelIdeal := hKernelIdeal) (hPre_sorted_and_finite := hPre_sorted_and_finite)
    ∧ quiescent_ReferenceIdeal (hReferenceIdeal := hReferenceIdeal)
    ∧ quiescent_ReferenceIdeal_pre_sorted_and_finite (hReferenceIdeal := hReferenceIdeal) (hPre_sorted_and_finite := hPre_sorted_and_finite)
    ∧ preserves_Kernel_KernelIdeal
    ∧ algebraic_KernelIdeal_ReferenceIdeal_pre_sorted_and_finite (hKernelIdeal := hKernelIdeal) (hReferenceIdeal := hReferenceIdeal) (hPre_sorted_and_finite := hPre_sorted_and_finite)
-- ==== Pre_segments_in_range.lean ====
abbrev S4096x16 : Shape := ⟨2, ![4096, 16]⟩
abbrev S4096 : Shape := ⟨1, ![4096]⟩
abbrev S16x32 : Shape := ⟨2, ![16, 32]⟩
abbrev S32x32 : Shape := ⟨2, ![32, 32]⟩
abbrev S32 : Shape := ⟨1, ![32]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S4096x16 .f32) (main_arg1 : IVec S4096 32) (main_arg2 : FVec F S16x32 .f32) (main_arg3 : FVec F S32x32 .f32) (main_arg4 : FVec F S32x32 .f32) (main_arg5 : FVec F S32x32 .f32) (main_arg6 : FVec F S32x32 .f32) (main_arg7 : FVec F S32 .f32) (main_arg8 : FVec F S32 .f32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 4#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Pre_sorted_and_finite.lean ====
abbrev S4096x16 : Shape := ⟨2, ![4096, 16]⟩
abbrev S4096 : Shape := ⟨1, ![4096]⟩
abbrev S16x32 : Shape := ⟨2, ![16, 32]⟩
abbrev S32x32 : Shape := ⟨2, ![32, 32]⟩
abbrev S32 : Shape := ⟨1, ![32]⟩
abbrev S_ : Shape := ⟨0, ![]⟩
abbrev S4095 : Shape := ⟨1, ![4095]⟩

class Facts : Prop where
  bcast_S_S4096 : S_.BroadcastsInDim S4096 (![] : Fin 0 → Fin S4096.rank)
  slices_S4096_S4095_0 : S4096.Slices ![0] S4095
  slices_S4096_S4095_1 : S4096.Slices ![1] S4095
  bcast_S_S4096x16 : S_.BroadcastsInDim S4096x16 (![] : Fin 0 → Fin S4096x16.rank)
  bcast_S_S16x32 : S_.BroadcastsInDim S16x32 (![] : Fin 0 → Fin S16x32.rank)
  bcast_S_S32x32 : S_.BroadcastsInDim S32x32 (![] : Fin 0 → Fin S32x32.rank)

variable [Facts]

def fn_part1 {F : FTy → Type} [FloatOps F] (main_arg5 : FVec F S32x32 .f32) (main_arg6 : FVec F S32x32 .f32) (main_v4 : IVec S4096 1) (main_v7 : IVec S4095 1) (main_v10 : IVec S4096x16 1) (main_v13 : IVec S16x32 1) (main_v16 : IVec S32x32 1) (main_v17 : FVec F S32x32 .f32) (main_cst_3 : FVec F S_ .f32) : IVec S4096 1 × IVec S4095 1 × IVec S4096x16 1 × IVec S16x32 1 × IVec S32x32 1 × IVec S32x32 1 × IVec S32x32 1 × IVec S32x32 1 :=
  let main_v18 : FVec F S32x32 .f32 := broadcastInDim S32x32 ![] bcast_S_S32x32 main_cst_3
  let main_v19 : IVec S32x32 1 := cmpf .olt main_v17 main_v18
  let main_v20 : FVec F S32x32 .f32 := Host.absf main_arg5
  let main_cst_4 : FVec F S_ .f32 := constant S_ .f32 0x7F800000#32
  let main_v21 : FVec F S32x32 .f32 := broadcastInDim S32x32 ![] bcast_S_S32x32 main_cst_4
  let main_v22 : IVec S32x32 1 := cmpf .olt main_v20 main_v21
  let main_v23 : FVec F S32x32 .f32 := Host.absf main_arg6
  let main_cst_5 : FVec F S_ .f32 := constant S_ .f32 0x7F800000#32
  let main_v24 : FVec F S32x32 .f32 := broadcastInDim S32x32 ![] bcast_S_S32x32 main_cst_5
  let main_v25 : IVec S32x32 1 := cmpf .olt main_v23 main_v24
  (main_v4, main_v7, main_v10, main_v13, main_v16, main_v19, main_v22, main_v25)

def fn {F : FTy → Type} [FloatOps F] (main_arg0 : FVec F S4096x16 .f32) (main_arg1 : IVec S4096 32) (main_arg2 : FVec F S16x32 .f32) (main_arg3 : FVec F S32x32 .f32) (main_arg4 : FVec F S32x32 .f32) (main_arg5 : FVec F S32x32 .f32) (main_arg6 : FVec F S32x32 .f32) (main_arg7 : FVec F S32 .f32) (main_arg8 : FVec F S32 .f32) : IVec S4096 1 × IVec S4095 1 × IVec S4096x16 1 × IVec S16x32 1 × IVec S32x32 1 × IVec S32x32 1 × IVec S32x32 1 × IVec S32x32 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 4#32
  let main_v2 : IVec S4096 32 := broadcastInDim S4096 ![] bcast_S_S4096 main_c_0
  let main_v3 : IVec S4096 1 := cmpi .slt main_arg1 main_v2
  let main_v4 : IVec S4096 1 := andi main_v1 main_v3
  let main_v5 : IVec S4095 32 := (extractStridedSlice S4095 ![0] · slices_S4096_S4095_0) main_arg1
  let main_v6 : IVec S4095 32 := (extractStridedSlice S4095 ![1] · slices_S4096_S4095_1) main_arg1
  let main_v7 : IVec S4095 1 := cmpi .sle main_v5 main_v6
  let main_v8 : FVec F S4096x16 .f32 := Host.absf main_arg0
  let main_cst : FVec F S_ .f32 := constant S_ .f32 0x7F800000#32
  let main_v9 : FVec F S4096x16 .f32 := broadcastInDim S4096x16 ![] bcast_S_S4096x16 main_cst
  let main_v10 : IVec S4096x16 1 := cmpf .olt main_v8 main_v9
  let main_v11 : FVec F S16x32 .f32 := Host.absf main_arg2
  let main_cst_1 : FVec F S_ .f32 := constant S_ .f32 0x7F800000#32
  let main_v12 : FVec F S16x32 .f32 := broadcastInDim S16x32 ![] bcast_S_S16x32 main_cst_1
  let main_v13 : IVec S16x32 1 := cmpf .olt main_v11 main_v12
  let main_v14 : FVec F S32x32 .f32 := Host.absf main_arg3
  let main_cst_2 : FVec F S_ .f32 := constant S_ .f32 0x7F800000#32
  let main_v15 : FVec F S32x32 .f32 := broadcastInDim S32x32 ![] bcast_S_S32x32 main_cst_2
  let main_v16 : IVec S32x32 1 := cmpf .olt main_v14 main_v15
  let main_v17 : FVec F S32x32 .f32 := Host.absf main_arg4
  let main_cst_3 : FVec F S_ .f32 := constant S_ .f32 0x7F800000#32
  fn_part1 (F := F) main_arg5 main_arg6 main_v4 main_v7 main_v10 main_v13 main_v16 main_v17 main_cst_3
-- ==== Kernel.lean ====
abbrev S4096x16 : Shape := ⟨2, ![4096, 16]⟩
abbrev S4096 : Shape := ⟨1, ![4096]⟩
abbrev S16x32 : Shape := ⟨2, ![16, 32]⟩
abbrev S32x32 : Shape := ⟨2, ![32, 32]⟩
abbrev S32 : Shape := ⟨1, ![32]⟩
abbrev S1x4096 : Shape := ⟨2, ![1, 4096]⟩
abbrev S4096x1 : Shape := ⟨2, ![4096, 1]⟩
abbrev S1x32 : Shape := ⟨2, ![1, 32]⟩
abbrev S4096x32 : Shape := ⟨2, ![4096, 32]⟩
abbrev S4096x33 : Shape := ⟨2, ![4096, 33]⟩
abbrev S1x5 : Shape := ⟨2, ![1, 5]⟩
abbrev S1x1 : Shape := ⟨2, ![1, 1]⟩
abbrev S512x32 : Shape := ⟨2, ![512, 32]⟩
abbrev S512x1 : Shape := ⟨2, ![512, 1]⟩
abbrev S512x33 : Shape := ⟨2, ![512, 33]⟩
abbrev S1024x32 : Shape := ⟨2, ![1024, 32]⟩
abbrev S1024x33 : Shape := ⟨2, ![1024, 33]⟩
abbrev S512x1024 : Shape := ⟨2, ![512, 1024]⟩
abbrev S1x1024 : Shape := ⟨2, ![1, 1024]⟩

abbrev nBuf : Space → Nat
  | .hbm => 14
  | .vmem => 15
  | .smem => 2
  | _ => 0

abbrev bufTy : (tb : Table) → Fin (tcTables nBuf tb) → BufTy
  | .hbm, ⟨0, _⟩ => ⟨S4096x16, .f32⟩
  | .hbm, ⟨1, _⟩ => ⟨S4096, .i32⟩
  | .hbm, ⟨2, _⟩ => ⟨S16x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S1x4096, .i32⟩
  | .hbm, ⟨10, _⟩ => ⟨S4096x1, .i32⟩
  | .hbm, ⟨11, _⟩ => ⟨S1x32, .f32⟩
  | .hbm, ⟨12, _⟩ => ⟨S1x32, .f32⟩
  | .hbm, ⟨13, _⟩ => ⟨S4096x32, .f32⟩
  | .local _ .vmem, ⟨0, _⟩ => ⟨S4096x16, .f32⟩
  | .local _ .vmem, ⟨1, _⟩ => ⟨S4096x1, .i32⟩
  | .local _ .vmem, ⟨2, _⟩ => ⟨S1x4096, .i32⟩
  | .local _ .vmem, ⟨3, _⟩ => ⟨S16x32, .f32⟩
  | .local _ .vmem, ⟨4, _⟩ => ⟨S32x32, .f32⟩
  | .local _ .vmem, ⟨5, _⟩ => ⟨S32x32, .f32⟩
  | .local _ .vmem, ⟨6, _⟩ => ⟨S32x32, .f32⟩
  | .local _ .vmem, ⟨7, _⟩ => ⟨S32x32, .f32⟩
  | .local _ .vmem, ⟨8, _⟩ => ⟨S1x32, .f32⟩
  | .local _ .vmem, ⟨9, _⟩ => ⟨S1x32, .f32⟩
  | .local _ .vmem, ⟨10, _⟩ => ⟨S4096x32, .f32⟩
  | .local _ .vmem, ⟨11, _⟩ => ⟨S4096x32, .f32⟩
  | .local _ .vmem, ⟨12, _⟩ => ⟨S4096x32, .bf16⟩
  | .local _ .vmem, ⟨13, _⟩ => ⟨S4096x33, .bf16⟩
  | .local _ .vmem, ⟨14, _⟩ => ⟨S4096x32, .f32⟩
  | .local _ .smem, ⟨0, _⟩ => ⟨S1x4096, .i32⟩
  | .local _ .smem, ⟨1, _⟩ => ⟨S1x5, .i32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_scratch4 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32_4 : BitVec 32 := 0#32
  let c12_i32 : BitVec 32 := 12#32
  let v2 : BitVec 32 := Scalar.addi c0_i32_4 c12_i32
  let c1_i32 : BitVec 32 := 1#32
  ⟨c0_i32_4, v2, c1_i32⟩
def k0_off1 (arg18 : BitVec 32) (arg19 : BitVec 32) : Fin 2 → Nat :=
  let c0_383 : Index := 0#32
  let v699 : BitVec 32 := Scalar.addi arg18 arg19
  let c0_i32_377 : BitVec 32 := 0#32
  let v701 : BitVec 1 := Scalar.cmpi .sgt v699 c0_i32_377
  let v702 : BitVec 32 := Scalar.extui v701
  let c0_i32_378 : BitVec 32 := 0#32
  let v703 : BitVec 1 := Scalar.cmpi .slt v699 c0_i32_378
  let v704 : BitVec 32 := Scalar.extui v703
  let v705 : BitVec 32 := Scalar.subi v702 v704
  let c2_i32 : BitVec 32 := 2#32
  let c0_i32_379 : BitVec 32 := 0#32
  let v706 : BitVec 1 := Scalar.cmpi .sgt c2_i32 c0_i32_379
  let v707 : BitVec 32 := Scalar.extui v706
  let c0_i32_380 : BitVec 32 := 0#32
  let v708 : BitVec 1 := Scalar.cmpi .slt c2_i32 c0_i32_380
  let v709 : BitVec 32 := Scalar.extui v708
  let v710 : BitVec 32 := Scalar.subi v707 v709
  let v711 : BitVec 1 := Scalar.cmpi .ne v705 v710
  let v712 : BitVec 32 := Scalar.remsi v699 c2_i32
  let c0_i32_381 : BitVec 32 := 0#32
  let v713 : BitVec 1 := Scalar.cmpi .ne v712 c0_i32_381
  let v714 : BitVec 1 := Scalar.andi v711 v713
  let v700 : BitVec 32 := Scalar.divsi v699 c2_i32
  let c1_i32_382 : BitVec 32 := 1#32
  let v715 : BitVec 32 := Scalar.subi v700 c1_i32_382
  let v716 : BitVec 32 := Scalar.select v714 v715 v700
  let v717 : Index := Scalar.indexCast v716
  ![0, v717.toNat]

def k0_chk1 (arg18 : BitVec 32) (arg19 : BitVec 32) : Prop :=
  (∀ a, (k0_off1 arg18 arg19) a + S1x1.size a ≤ S1x4096.size a)
theorem k0_off1_inb : ∀ (arg18 : BitVec 32) (arg19 : BitVec 32) (k0_hw1 : k0_chk1 arg18 arg19), ∀ a, (k0_off1 arg18 arg19) a + S1x1.size a ≤ S1x4096.size a := fun arg18 arg19 k0_hw1 => k0_hw1

@[reducible] def k0_t2_loop : Scf.Loop 32 :=
  let c0_i32_8 : BitVec 32 := 0#32
  let c12_i32_9 : BitVec 32 := 12#32
  let v5 : BitVec 32 := Scalar.addi c0_i32_8 c12_i32_9
  let c1_i32_10 : BitVec 32 := 1#32
  ⟨c0_i32_8, v5, c1_i32_10⟩
def k0_off2 (arg18 : BitVec 32) (arg19 : BitVec 32) : Fin 2 → Nat :=
  let c0_383 : Index := 0#32
  let v699 : BitVec 32 := Scalar.addi arg18 arg19
  let c0_i32_377 : BitVec 32 := 0#32
  let v701 : BitVec 1 := Scalar.cmpi .sgt v699 c0_i32_377
  let v702 : BitVec 32 := Scalar.extui v701
  let c0_i32_378 : BitVec 32 := 0#32
  let v703 : BitVec 1 := Scalar.cmpi .slt v699 c0_i32_378
  let v704 : BitVec 32 := Scalar.extui v703
  let v705 : BitVec 32 := Scalar.subi v702 v704
  let c2_i32 : BitVec 32 := 2#32
  let c0_i32_379 : BitVec 32 := 0#32
  let v706 : BitVec 1 := Scalar.cmpi .sgt c2_i32 c0_i32_379
  let v707 : BitVec 32 := Scalar.extui v706
  let c0_i32_380 : BitVec 32 := 0#32
  let v708 : BitVec 1 := Scalar.cmpi .slt c2_i32 c0_i32_380
  let v709 : BitVec 32 := Scalar.extui v708
  let v710 : BitVec 32 := Scalar.subi v707 v709
  let v711 : BitVec 1 := Scalar.cmpi .ne v705 v710
  let v712 : BitVec 32 := Scalar.remsi v699 c2_i32
  let c0_i32_381 : BitVec 32 := 0#32
  let v713 : BitVec 1 := Scalar.cmpi .ne v712 c0_i32_381
  let v714 : BitVec 1 := Scalar.andi v711 v713
  let v700 : BitVec 32 := Scalar.divsi v699 c2_i32
  let c1_i32_382 : BitVec 32 := 1#32
  let v715 : BitVec 32 := Scalar.subi v700 c1_i32_382
  let v716 : BitVec 32 := Scalar.select v714 v715 v700
  let v717 : Index := Scalar.indexCast v716
  ![0, v717.toNat]

def k0_chk2 (arg18 : BitVec 32) (arg19 : BitVec 32) : Prop :=
  (∀ a, (k0_off2 arg18 arg19) a + S1x1.size a ≤ S1x4096.size a)
theorem k0_off2_inb : ∀ (arg18 : BitVec 32) (arg19 : BitVec 32) (k0_hw2 : k0_chk2 arg18 arg19), ∀ a, (k0_off2 arg18 arg19) a + S1x1.size a ≤ S1x4096.size a := fun arg18 arg19 k0_hw2 => k0_hw2

@[reducible] def k0_t3_loop : Scf.Loop 32 :=
  let c0_i32_14 : BitVec 32 := 0#32
  let c12_i32_15 : BitVec 32 := 12#32
  let v8 : BitVec 32 := Scalar.addi c0_i32_14 c12_i32_15
  let c1_i32_16 : BitVec 32 := 1#32
  ⟨c0_i32_14, v8, c1_i32_16⟩
def k0_off3 (arg18 : BitVec 32) (arg19 : BitVec 32) : Fin 2 → Nat :=
  let c0_383 : Index := 0#32
  let v699 : BitVec 32 := Scalar.addi arg18 arg19
  let c0_i32_377 : BitVec 32 := 0#32
  let v701 : BitVec 1 := Scalar.cmpi .sgt v699 c0_i32_377
  let v702 : BitVec 32 := Scalar.extui v701
  let c0_i32_378 : BitVec 32 := 0#32
  let v703 : BitVec 1 := Scalar.cmpi .slt v699 c0_i32_378
  let v704 : BitVec 32 := Scalar.extui v703
  let v705 : BitVec 32 := Scalar.subi v702 v704
  let c2_i32 : BitVec 32 := 2#32
  let c0_i32_379 : BitVec 32 := 0#32
  let v706 : BitVec 1 := Scalar.cmpi .sgt c2_i32 c0_i32_379
  let v707 : BitVec 32 := Scalar.extui v706
  let c0_i32_380 : BitVec 32 := 0#32
  let v708 : BitVec 1 := Scalar.cmpi .slt c2_i32 c0_i32_380
  let v709 : BitVec 32 := Scalar.extui v708
  let v710 : BitVec 32 := Scalar.subi v707 v709
  let v711 : BitVec 1 := Scalar.cmpi .ne v705 v710
  let v712 : BitVec 32 := Scalar.remsi v699 c2_i32
  let c0_i32_381 : BitVec 32 := 0#32
  let v713 : BitVec 1 := Scalar.cmpi .ne v712 c0_i32_381
  let v714 : BitVec 1 := Scalar.andi v711 v713
  let v700 : BitVec 32 := Scalar.divsi v699 c2_i32
  let c1_i32_382 : BitVec 32 := 1#32
  let v715 : BitVec 32 := Scalar.subi v700 c1_i32_382
  let v716 : BitVec 32 := Scalar.select v714 v715 v700
  let v717 : Index := Scalar.indexCast v716
  ![0, v717.toNat]

def k0_chk3 (arg18 : BitVec 32) (arg19 : BitVec 32) : Prop :=
  (∀ a, (k0_off3 arg18 arg19) a + S1x1.size a ≤ S1x4096.size a)
theorem k0_off3_inb : ∀ (arg18 : BitVec 32) (arg19 : BitVec 32) (k0_hw3 : k0_chk3 arg18 arg19), ∀ a, (k0_off3 arg18 arg19) a + S1x1.size a ≤ S1x4096.size a := fun arg18 arg19 k0_hw3 => k0_hw3

def k0_off4 (v43 : BitVec 32) : Fin 2 → Nat :=
  let c0_51 : Index := 0#32
  let v45 : Index := Scalar.indexCast v43
  ![0, v45.toNat]

def k0_chk4 (v43 : BitVec 32) : Prop :=
  (∀ a, (k0_off4 v43) a + S1x1.size a ≤ S1x5.size a)
theorem k0_off4_inb : ∀ (v43 : BitVec 32) (k0_hw4 : k0_chk4 v43), ∀ a, (k0_off4 v43) a + S1x1.size a ≤ S1x5.size a := fun v43 k0_hw4 => k0_hw4

def k0_off5 (v44 : BitVec 32) : Fin 2 → Nat :=
  let c0_59 : Index := 0#32
  let c1_i32_58 : BitVec 32 := 1#32
  let v64 : BitVec 32 := Scalar.addi v44 c1_i32_58
  let v65 : Index := Scalar.indexCast v64
  ![0, v65.toNat]

def k0_chk5 (v44 : BitVec 32) : Prop :=
  (∀ a, (k0_off5 v44) a + S1x1.size a ≤ S1x5.size a)
theorem k0_off5_inb : ∀ (v44 : BitVec 32) (k0_hw5 : k0_chk5 v44), ∀ a, (k0_off5 v44) a + S1x1.size a ≤ S1x5.size a := fun v44 k0_hw5 => k0_hw5

@[reducible] def k0_t4_loop (v46 : BitVec 32) (v66 : BitVec 32) : Scf.Loop 32 :=
  let c0_i32_52 : BitVec 32 := 0#32
  let v48 : BitVec 1 := Scalar.cmpi .sgt v46 c0_i32_52
  let v49 : BitVec 32 := Scalar.extui v48
  let c0_i32_53 : BitVec 32 := 0#32
  let v50 : BitVec 1 := Scalar.cmpi .slt v46 c0_i32_53
  let v51 : BitVec 32 := Scalar.extui v50
  let v52 : BitVec 32 := Scalar.subi v49 v51
  let c1024_i32 : BitVec 32 := 1024#32
  let c0_i32_54 : BitVec 32 := 0#32
  let v53 : BitVec 1 := Scalar.cmpi .sgt c1024_i32 c0_i32_54
  let v54 : BitVec 32 := Scalar.extui v53
  let c0_i32_55 : BitVec 32 := 0#32
  let v55 : BitVec 1 := Scalar.cmpi .slt c1024_i32 c0_i32_55
  let v56 : BitVec 32 := Scalar.extui v55
  let v57 : BitVec 32 := Scalar.subi v54 v56
  let v58 : BitVec 1 := Scalar.cmpi .ne v52 v57
  let v59 : BitVec 32 := Scalar.remsi v46 c1024_i32
  let c0_i32_56 : BitVec 32 := 0#32
  let v60 : BitVec 1 := Scalar.cmpi .ne v59 c0_i32_56
  let v61 : BitVec 1 := Scalar.andi v58 v60
  let v47 : BitVec 32 := Scalar.divsi v46 c1024_i32
  let c1_i32_57 : BitVec 32 := 1#32
  let v62 : BitVec 32 := Scalar.subi v47 c1_i32_57
  let v63 : BitVec 32 := Scalar.select v61 v62 v47
  let c1024_i32_60 : BitVec 32 := 1024#32
  let v67 : BitVec 32 := Scalar.addi v66 c1024_i32_60
  let c1_i32_61 : BitVec 32 := 1#32
  let v68 : BitVec 32 := Scalar.subi v67 c1_i32_61
  let c0_i32_63 : BitVec 32 := 0#32
  let v70 : BitVec 1 := Scalar.cmpi .sgt v68 c0_i32_63
  let v71 : BitVec 32 := Scalar.extui v70
  let c0_i32_64 : BitVec 32 := 0#32
  let v72 : BitVec 1 := Scalar.cmpi .slt v68 c0_i32_64
  let v73 : BitVec 32 := Scalar.extui v72
  let v74 : BitVec 32 := Scalar.subi v71 v73
  let c1024_i32_62 : BitVec 32 := 1024#32
  let c0_i32_65 : BitVec 32 := 0#32
  let v75 : BitVec 1 := Scalar.cmpi .sgt c1024_i32_62 c0_i32_65
  let v76 : BitVec 32 := Scalar.extui v75
  let c0_i32_66 : BitVec 32 := 0#32
  let v77 : BitVec 1 := Scalar.cmpi .slt c1024_i32_62 c0_i32_66
  let v78 : BitVec 32 := Scalar.extui v77
  let v79 : BitVec 32 := Scalar.subi v76 v78
  let v80 : BitVec 1 := Scalar.cmpi .ne v74 v79
  let v81 : BitVec 32 := Scalar.remsi v68 c1024_i32_62
  let c0_i32_67 : BitVec 32 := 0#32
  let v82 : BitVec 1 := Scalar.cmpi .ne v81 c0_i32_67
  let v83 : BitVec 1 := Scalar.andi v80 v82
  let v69 : BitVec 32 := Scalar.divsi v68 c1024_i32_62
  let c1_i32_68 : BitVec 32 := 1#32
  let v84 : BitVec 32 := Scalar.subi v69 c1_i32_68
  let v85 : BitVec 32 := Scalar.select v83 v84 v69
  let v86 : BitVec 32 := Scalar.subi v85 v63
  let c1_i32_69 : BitVec 32 := 1#32
  let v88 : BitVec 32 := Scalar.divsi v86 c1_i32_69
  let v89 : BitVec 32 := Scalar.muli v88 c1_i32_69
  let v90 : BitVec 32 := Scalar.addi v63 v89
  let c1_i32_70 : BitVec 32 := 1#32
  ⟨v63, v90, c1_i32_70⟩

def k0_off6 (v46 : BitVec 32) (v66 : BitVec 32) (k0_t4 : Fin (k0_t4_loop v46 v66).trips) : Fin 2 → Nat :=
  let c0_i32_52 : BitVec 32 := 0#32
  let v48 : BitVec 1 := Scalar.cmpi .sgt v46 c0_i32_52
  let v49 : BitVec 32 := Scalar.extui v48
  let c0_i32_53 : BitVec 32 := 0#32
  let v50 : BitVec 1 := Scalar.cmpi .slt v46 c0_i32_53
  let v51 : BitVec 32 := Scalar.extui v50
  let v52 : BitVec 32 := Scalar.subi v49 v51
  let c1024_i32 : BitVec 32 := 1024#32
  let c0_i32_54 : BitVec 32 := 0#32
  let v53 : BitVec 1 := Scalar.cmpi .sgt c1024_i32 c0_i32_54
  let v54 : BitVec 32 := Scalar.extui v53
  let c0_i32_55 : BitVec 32 := 0#32
  let v55 : BitVec 1 := Scalar.cmpi .slt c1024_i32 c0_i32_55
  let v56 : BitVec 32 := Scalar.extui v55
  let v57 : BitVec 32 := Scalar.subi v54 v56
  let v58 : BitVec 1 := Scalar.cmpi .ne v52 v57
  let v59 : BitVec 32 := Scalar.remsi v46 c1024_i32
  let c0_i32_56 : BitVec 32 := 0#32
  let v60 : BitVec 1 := Scalar.cmpi .ne v59 c0_i32_56
  let v61 : BitVec 1 := Scalar.andi v58 v60
  let v47 : BitVec 32 := Scalar.divsi v46 c1024_i32
  let c1_i32_57 : BitVec 32 := 1#32
  let v62 : BitVec 32 := Scalar.subi v47 c1_i32_57
  let v63 : BitVec 32 := Scalar.select v61 v62 v47
  let c1_i32_70 : BitVec 32 := 1#32
  let arg17 : BitVec 32 := Scf.iv v63 c1_i32_70 k0_t4
  let c1024_i32_377 : BitVec 32 := 1024#32
  let v699 : BitVec 32 := Scalar.muli arg17 c1024_i32_377
  let v700 : Index := Scalar.indexCast v699
  let c0_378 : Index := 0#32
  ![v700.toNat, 0]
def k0_off7 (v46 : BitVec 32) (v66 : BitVec 32) (k0_t4 : Fin (k0_t4_loop v46 v66).trips) : Fin 2 → Nat :=
  let c0_i32_52 : BitVec 32 := 0#32
  let v48 : BitVec 1 := Scalar.cmpi .sgt v46 c0_i32_52
  let v49 : BitVec 32 := Scalar.extui v48
  let c0_i32_53 : BitVec 32 := 0#32
  let v50 : BitVec 1 := Scalar.cmpi .slt v46 c0_i32_53
  let v51 : BitVec 32 := Scalar.extui v50
  let v52 : BitVec 32 := Scalar.subi v49 v51
  let c1024_i32 : BitVec 32 := 1024#32
  let c0_i32_54 : BitVec 32 := 0#32
  let v53 : BitVec 1 := Scalar.cmpi .sgt c1024_i32 c0_i32_54
  let v54 : BitVec 32 := Scalar.extui v53
  let c0_i32_55 : BitVec 32 := 0#32
  let v55 : BitVec 1 := Scalar.cmpi .slt c1024_i32 c0_i32_55
  let v56 : BitVec 32 := Scalar.extui v55
  let v57 : BitVec 32 := Scalar.subi v54 v56
  let v58 : BitVec 1 := Scalar.cmpi .ne v52 v57
  let v59 : BitVec 32 := Scalar.remsi v46 c1024_i32
  let c0_i32_56 : BitVec 32 := 0#32
  let v60 : BitVec 1 := Scalar.cmpi .ne v59 c0_i32_56
  let v61 : BitVec 1 := Scalar.andi v58 v60
  let v47 : BitVec 32 := Scalar.divsi v46 c1024_i32
  let c1_i32_57 : BitVec 32 := 1#32
  let v62 : BitVec 32 := Scalar.subi v47 c1_i32_57
  let v63 : BitVec 32 := Scalar.select v61 v62 v47
  let c1_i32_70 : BitVec 32 := 1#32
  let arg17 : BitVec 32 := Scf.iv v63 c1_i32_70 k0_t4
  let c1024_i32_377 : BitVec 32 := 1024#32
  let v699 : BitVec 32 := Scalar.muli arg17 c1024_i32_377
  let v702 : Index := Scalar.indexCast v699
  let c0_379 : Index := 0#32
  ![v702.toNat, 0]
def k0_off8 (v46 : BitVec 32) (v66 : BitVec 32) (k0_t4 : Fin (k0_t4_loop v46 v66).trips) : Fin 2 → Nat :=
  let c0_381 : Index := 0#32
  let c0_i32_52 : BitVec 32 := 0#32
  let v48 : BitVec 1 := Scalar.cmpi .sgt v46 c0_i32_52
  let v49 : BitVec 32 := Scalar.extui v48
  let c0_i32_53 : BitVec 32 := 0#32
  let v50 : BitVec 1 := Scalar.cmpi .slt v46 c0_i32_53
  let v51 : BitVec 32 := Scalar.extui v50
  let v52 : BitVec 32 := Scalar.subi v49 v51
  let c1024_i32 : BitVec 32 := 1024#32
  let c0_i32_54 : BitVec 32 := 0#32
  let v53 : BitVec 1 := Scalar.cmpi .sgt c1024_i32 c0_i32_54
  let v54 : BitVec 32 := Scalar.extui v53
  let c0_i32_55 : BitVec 32 := 0#32
  let v55 : BitVec 1 := Scalar.cmpi .slt c1024_i32 c0_i32_55
  let v56 : BitVec 32 := Scalar.extui v55
  let v57 : BitVec 32 := Scalar.subi v54 v56
  let v58 : BitVec 1 := Scalar.cmpi .ne v52 v57
  let v59 : BitVec 32 := Scalar.remsi v46 c1024_i32
  let c0_i32_56 : BitVec 32 := 0#32
  let v60 : BitVec 1 := Scalar.cmpi .ne v59 c0_i32_56
  let v61 : BitVec 1 := Scalar.andi v58 v60
  let v47 : BitVec 32 := Scalar.divsi v46 c1024_i32
  let c1_i32_57 : BitVec 32 := 1#32
  let v62 : BitVec 32 := Scalar.subi v47 c1_i32_57
  let v63 : BitVec 32 := Scalar.select v61 v62 v47
  let c1_i32_70 : BitVec 32 := 1#32
  let arg17 : BitVec 32 := Scf.iv v63 c1_i32_70 k0_t4
  let c1024_i32_377 : BitVec 32 := 1024#32
  let v699 : BitVec 32 := Scalar.muli arg17 c1024_i32_377
  let v705 : Index := Scalar.indexCast v699
  ![0, v705.toNat]
@[reducible] def k0_t5_loop (v46 : BitVec 32) (v66 : BitVec 32) : Scf.Loop 32 :=
  let c0_i32_52 : BitVec 32 := 0#32
  let v48 : BitVec 1 := Scalar.cmpi .sgt v46 c0_i32_52
  let v49 : BitVec 32 := Scalar.extui v48
  let c0_i32_53 : BitVec 32 := 0#32
  let v50 : BitVec 1 := Scalar.cmpi .slt v46 c0_i32_53
  let v51 : BitVec 32 := Scalar.extui v50
  let v52 : BitVec 32 := Scalar.subi v49 v51
  let c1024_i32 : BitVec 32 := 1024#32
  let c0_i32_54 : BitVec 32 := 0#32
  let v53 : BitVec 1 := Scalar.cmpi .sgt c1024_i32 c0_i32_54
  let v54 : BitVec 32 := Scalar.extui v53
  let c0_i32_55 : BitVec 32 := 0#32
  let v55 : BitVec 1 := Scalar.cmpi .slt c1024_i32 c0_i32_55
  let v56 : BitVec 32 := Scalar.extui v55
  let v57 : BitVec 32 := Scalar.subi v54 v56
  let v58 : BitVec 1 := Scalar.cmpi .ne v52 v57
  let v59 : BitVec 32 := Scalar.remsi v46 c1024_i32
  let c0_i32_56 : BitVec 32 := 0#32
  let v60 : BitVec 1 := Scalar.cmpi .ne v59 c0_i32_56
  let v61 : BitVec 1 := Scalar.andi v58 v60
  let v47 : BitVec 32 := Scalar.divsi v46 c1024_i32
  let c1_i32_57 : BitVec 32 := 1#32
  let v62 : BitVec 32 := Scalar.subi v47 c1_i32_57
  let v63 : BitVec 32 := Scalar.select v61 v62 v47
  let c1024_i32_60 : BitVec 32 := 1024#32
  let v67 : BitVec 32 := Scalar.addi v66 c1024_i32_60
  let c1_i32_61 : BitVec 32 := 1#32
  let v68 : BitVec 32 := Scalar.subi v67 c1_i32_61
  let c0_i32_63 : BitVec 32 := 0#32
  let v70 : BitVec 1 := Scalar.cmpi .sgt v68 c0_i32_63
  let v71 : BitVec 32 := Scalar.extui v70
  let c0_i32_64 : BitVec 32 := 0#32
  let v72 : BitVec 1 := Scalar.cmpi .slt v68 c0_i32_64
  let v73 : BitVec 32 := Scalar.extui v72
  let v74 : BitVec 32 := Scalar.subi v71 v73
  let c1024_i32_62 : BitVec 32 := 1024#32
  let c0_i32_65 : BitVec 32 := 0#32
  let v75 : BitVec 1 := Scalar.cmpi .sgt c1024_i32_62 c0_i32_65
  let v76 : BitVec 32 := Scalar.extui v75
  let c0_i32_66 : BitVec 32 := 0#32
  let v77 : BitVec 1 := Scalar.cmpi .slt c1024_i32_62 c0_i32_66
  let v78 : BitVec 32 := Scalar.extui v77
  let v79 : BitVec 32 := Scalar.subi v76 v78
  let v80 : BitVec 1 := Scalar.cmpi .ne v74 v79
  let v81 : BitVec 32 := Scalar.remsi v68 c1024_i32_62
  let c0_i32_67 : BitVec 32 := 0#32
  let v82 : BitVec 1 := Scalar.cmpi .ne v81 c0_i32_67
  let v83 : BitVec 1 := Scalar.andi v80 v82
  let v69 : BitVec 32 := Scalar.divsi v68 c1024_i32_62
  let c1_i32_68 : BitVec 32 := 1#32
  let v84 : BitVec 32 := Scalar.subi v69 c1_i32_68
  let v85 : BitVec 32 := Scalar.select v83 v84 v69
  let v86 : BitVec 32 := Scalar.subi v85 v63
  let c1_i32_69 : BitVec 32 := 1#32
  let v88 : BitVec 32 := Scalar.divsi v86 c1_i32_69
  let v89 : BitVec 32 := Scalar.muli v88 c1_i32_69
  let v90 : BitVec 32 := Scalar.addi v63 v89
  let v87 : BitVec 32 := Scalar.addi v63 v86
  let c1_i32_71 : BitVec 32 := 1#32
  ⟨v90, v87, c1_i32_71⟩
def k0_off9 (v46 : BitVec 32) (v66 : BitVec 32) (k0_t5 : Fin (k0_t5_loop v46 v66).trips) : Fin 2 → Nat :=
  let c0_i32_52 : BitVec 32 := 0#32
  let v48 : BitVec 1 := Scalar.cmpi .sgt v46 c0_i32_52
  let v49 : BitVec 32 := Scalar.extui v48
  let c0_i32_53 : BitVec 32 := 0#32
  let v50 : BitVec 1 := Scalar.cmpi .slt v46 c0_i32_53
  let v51 : BitVec 32 := Scalar.extui v50
  let v52 : BitVec 32 := Scalar.subi v49 v51
  let c1024_i32 : BitVec 32 := 1024#32
  let c0_i32_54 : BitVec 32 := 0#32
  let v53 : BitVec 1 := Scalar.cmpi .sgt c1024_i32 c0_i32_54
  let v54 : BitVec 32 := Scalar.extui v53
  let c0_i32_55 : BitVec 32 := 0#32
  let v55 : BitVec 1 := Scalar.cmpi .slt c1024_i32 c0_i32_55
  let v56 : BitVec 32 := Scalar.extui v55
  let v57 : BitVec 32 := Scalar.subi v54 v56
  let v58 : BitVec 1 := Scalar.cmpi .ne v52 v57
  let v59 : BitVec 32 := Scalar.remsi v46 c1024_i32
  let c0_i32_56 : BitVec 32 := 0#32
  let v60 : BitVec 1 := Scalar.cmpi .ne v59 c0_i32_56
  let v61 : BitVec 1 := Scalar.andi v58 v60
  let v47 : BitVec 32 := Scalar.divsi v46 c1024_i32
  let c1_i32_57 : BitVec 32 := 1#32
  let v62 : BitVec 32 := Scalar.subi v47 c1_i32_57
  let v63 : BitVec 32 := Scalar.select v61 v62 v47
  let c1024_i32_60 : BitVec 32 := 1024#32
  let v67 : BitVec 32 := Scalar.addi v66 c1024_i32_60
  let c1_i32_61 : BitVec 32 := 1#32
  let v68 : BitVec 32 := Scalar.subi v67 c1_i32_61
  let c0_i32_63 : BitVec 32 := 0#32
  let v70 : BitVec 1 := Scalar.cmpi .sgt v68 c0_i32_63
  let v71 : BitVec 32 := Scalar.extui v70
  let c0_i32_64 : BitVec 32 := 0#32
  let v72 : BitVec 1 := Scalar.cmpi .slt v68 c0_i32_64
  let v73 : BitVec 32 := Scalar.extui v72
  let v74 : BitVec 32 := Scalar.subi v71 v73
  let c1024_i32_62 : BitVec 32 := 1024#32
  let c0_i32_65 : BitVec 32 := 0#32
  let v75 : BitVec 1 := Scalar.cmpi .sgt c1024_i32_62 c0_i32_65
  let v76 : BitVec 32 := Scalar.extui v75
  let c0_i32_66 : BitVec 32 := 0#32
  let v77 : BitVec 1 := Scalar.cmpi .slt c1024_i32_62 c0_i32_66
  let v78 : BitVec 32 := Scalar.extui v77
  let v79 : BitVec 32 := Scalar.subi v76 v78
  let v80 : BitVec 1 := Scalar.cmpi .ne v74 v79
  let v81 : BitVec 32 := Scalar.remsi v68 c1024_i32_62
  let c0_i32_67 : BitVec 32 := 0#32
  let v82 : BitVec 1 := Scalar.cmpi .ne v81 c0_i32_67
  let v83 : BitVec 1 := Scalar.andi v80 v82
  let v69 : BitVec 32 := Scalar.divsi v68 c1024_i32_62
  let c1_i32_68 : BitVec 32 := 1#32
  let v84 : BitVec 32 := Scalar.subi v69 c1_i32_68
  let v85 : BitVec 32 := Scalar.select v83 v84 v69
  let v86 : BitVec 32 := Scalar.subi v85 v63
  let c1_i32_69 : BitVec 32 := 1#32
  let v88 : BitVec 32 := Scalar.divsi v86 c1_i32_69
  let v89 : BitVec 32 := Scalar.muli v88 c1_i32_69
  let v90 : BitVec 32 := Scalar.addi v63 v89
  let c1_i32_71 : BitVec 32 := 1#32
  let arg17 : BitVec 32 := Scf.iv v90 c1_i32_71 k0_t5
  let c1024_i32_377 : BitVec 32 := 1024#32
  let v699 : BitVec 32 := Scalar.muli arg17 c1024_i32_377
  let v700 : Index := Scalar.indexCast v699
  let c0_378 : Index := 0#32
  ![v700.toNat, 0]
def k0_off10 (v46 : BitVec 32) (v66 : BitVec 32) (k0_t5 : Fin (k0_t5_loop v46 v66).trips) : Fin 2 → Nat :=
  let c0_i32_52 : BitVec 32 := 0#32
  let v48 : BitVec 1 := Scalar.cmpi .sgt v46 c0_i32_52
  let v49 : BitVec 32 := Scalar.extui v48
  let c0_i32_53 : BitVec 32 := 0#32
  let v50 : BitVec 1 := Scalar.cmpi .slt v46 c0_i32_53
  let v51 : BitVec 32 := Scalar.extui v50
  let v52 : BitVec 32 := Scalar.subi v49 v51
  let c1024_i32 : BitVec 32 := 1024#32
  let c0_i32_54 : BitVec 32 := 0#32
  let v53 : BitVec 1 := Scalar.cmpi .sgt c1024_i32 c0_i32_54
  let v54 : BitVec 32 := Scalar.extui v53
  let c0_i32_55 : BitVec 32 := 0#32
  let v55 : BitVec 1 := Scalar.cmpi .slt c1024_i32 c0_i32_55
  let v56 : BitVec 32 := Scalar.extui v55
  let v57 : BitVec 32 := Scalar.subi v54 v56
  let v58 : BitVec 1 := Scalar.cmpi .ne v52 v57
  let v59 : BitVec 32 := Scalar.remsi v46 c1024_i32
  let c0_i32_56 : BitVec 32 := 0#32
  let v60 : BitVec 1 := Scalar.cmpi .ne v59 c0_i32_56
  let v61 : BitVec 1 := Scalar.andi v58 v60
  let v47 : BitVec 32 := Scalar.divsi v46 c1024_i32
  let c1_i32_57 : BitVec 32 := 1#32
  let v62 : BitVec 32 := Scalar.subi v47 c1_i32_57
  let v63 : BitVec 32 := Scalar.select v61 v62 v47
  let c1024_i32_60 : BitVec 32 := 1024#32
  let v67 : BitVec 32 := Scalar.addi v66 c1024_i32_60
  let c1_i32_61 : BitVec 32 := 1#32
  let v68 : BitVec 32 := Scalar.subi v67 c1_i32_61
  let c0_i32_63 : BitVec 32 := 0#32
  let v70 : BitVec 1 := Scalar.cmpi .sgt v68 c0_i32_63
  let v71 : BitVec 32 := Scalar.extui v70
  let c0_i32_64 : BitVec 32 := 0#32
  let v72 : BitVec 1 := Scalar.cmpi .slt v68 c0_i32_64
  let v73 : BitVec 32 := Scalar.extui v72
  let v74 : BitVec 32 := Scalar.subi v71 v73
  let c1024_i32_62 : BitVec 32 := 1024#32
  let c0_i32_65 : BitVec 32 := 0#32
  let v75 : BitVec 1 := Scalar.cmpi .sgt c1024_i32_62 c0_i32_65
  let v76 : BitVec 32 := Scalar.extui v75
  let c0_i32_66 : BitVec 32 := 0#32
  let v77 : BitVec 1 := Scalar.cmpi .slt c1024_i32_62 c0_i32_66
  let v78 : BitVec 32 := Scalar.extui v77
  let v79 : BitVec 32 := Scalar.subi v76 v78
  let v80 : BitVec 1 := Scalar.cmpi .ne v74 v79
  let v81 : BitVec 32 := Scalar.remsi v68 c1024_i32_62
  let c0_i32_67 : BitVec 32 := 0#32
  let v82 : BitVec 1 := Scalar.cmpi .ne v81 c0_i32_67
  let v83 : BitVec 1 := Scalar.andi v80 v82
  let v69 : BitVec 32 := Scalar.divsi v68 c1024_i32_62
  let c1_i32_68 : BitVec 32 := 1#32
  let v84 : BitVec 32 := Scalar.subi v69 c1_i32_68
  let v85 : BitVec 32 := Scalar.select v83 v84 v69
  let v86 : BitVec 32 := Scalar.subi v85 v63
  let c1_i32_69 : BitVec 32 := 1#32
  let v88 : BitVec 32 := Scalar.divsi v86 c1_i32_69
  let v89 : BitVec 32 := Scalar.muli v88 c1_i32_69
  let v90 : BitVec 32 := Scalar.addi v63 v89
  let c1_i32_71 : BitVec 32 := 1#32
  let arg17 : BitVec 32 := Scf.iv v90 c1_i32_71 k0_t5
  let c1024_i32_377 : BitVec 32 := 1024#32
  let v699 : BitVec 32 := Scalar.muli arg17 c1024_i32_377
  let v702 : Index := Scalar.indexCast v699
  let c0_379 : Index := 0#32
  ![v702.toNat, 0]
def k0_off11 (v46 : BitVec 32) (v66 : BitVec 32) (k0_t5 : Fin (k0_t5_loop v46 v66).trips) : Fin 2 → Nat :=
  let c0_381 : Index := 0#32
  let c0_i32_52 : BitVec 32 := 0#32
  let v48 : BitVec 1 := Scalar.cmpi .sgt v46 c0_i32_52
  let v49 : BitVec 32 := Scalar.extui v48
  let c0_i32_53 : BitVec 32 := 0#32
  let v50 : BitVec 1 := Scalar.cmpi .slt v46 c0_i32_53
  let v51 : BitVec 32 := Scalar.extui v50
  let v52 : BitVec 32 := Scalar.subi v49 v51
  let c1024_i32 : BitVec 32 := 1024#32
  let c0_i32_54 : BitVec 32 := 0#32
  let v53 : BitVec 1 := Scalar.cmpi .sgt c1024_i32 c0_i32_54
  let v54 : BitVec 32 := Scalar.extui v53
  let c0_i32_55 : BitVec 32 := 0#32
  let v55 : BitVec 1 := Scalar.cmpi .slt c1024_i32 c0_i32_55
  let v56 : BitVec 32 := Scalar.extui v55
  let v57 : BitVec 32 := Scalar.subi v54 v56
  let v58 : BitVec 1 := Scalar.cmpi .ne v52 v57
  let v59 : BitVec 32 := Scalar.remsi v46 c1024_i32
  let c0_i32_56 : BitVec 32 := 0#32
  let v60 : BitVec 1 := Scalar.cmpi .ne v59 c0_i32_56
  let v61 : BitVec 1 := Scalar.andi v58 v60
  let v47 : BitVec 32 := Scalar.divsi v46 c1024_i32
  let c1_i32_57 : BitVec 32 := 1#32
  let v62 : BitVec 32 := Scalar.subi v47 c1_i32_57
  let v63 : BitVec 32 := Scalar.select v61 v62 v47
  let c1024_i32_60 : BitVec 32 := 1024#32
  let v67 : BitVec 32 := Scalar.addi v66 c1024_i32_60
  let c1_i32_61 : BitVec 32 := 1#32
  let v68 : BitVec 32 := Scalar.subi v67 c1_i32_61
  let c0_i32_63 : BitVec 32 := 0#32
  let v70 : BitVec 1 := Scalar.cmpi .sgt v68 c0_i32_63
  let v71 : BitVec 32 := Scalar.extui v70
  let c0_i32_64 : BitVec 32 := 0#32
  let v72 : BitVec 1 := Scalar.cmpi .slt v68 c0_i32_64
  let v73 : BitVec 32 := Scalar.extui v72
  let v74 : BitVec 32 := Scalar.subi v71 v73
  let c1024_i32_62 : BitVec 32 := 1024#32
  let c0_i32_65 : BitVec 32 := 0#32
  let v75 : BitVec 1 := Scalar.cmpi .sgt c1024_i32_62 c0_i32_65
  let v76 : BitVec 32 := Scalar.extui v75
  let c0_i32_66 : BitVec 32 := 0#32
  let v77 : BitVec 1 := Scalar.cmpi .slt c1024_i32_62 c0_i32_66
  let v78 : BitVec 32 := Scalar.extui v77
  let v79 : BitVec 32 := Scalar.subi v76 v78
  let v80 : BitVec 1 := Scalar.cmpi .ne v74 v79
  let v81 : BitVec 32 := Scalar.remsi v68 c1024_i32_62
  let c0_i32_67 : BitVec 32 := 0#32
  let v82 : BitVec 1 := Scalar.cmpi .ne v81 c0_i32_67
  let v83 : BitVec 1 := Scalar.andi v80 v82
  let v69 : BitVec 32 := Scalar.divsi v68 c1024_i32_62
  let c1_i32_68 : BitVec 32 := 1#32
  let v84 : BitVec 32 := Scalar.subi v69 c1_i32_68
  let v85 : BitVec 32 := Scalar.select v83 v84 v69
  let v86 : BitVec 32 := Scalar.subi v85 v63
  let c1_i32_69 : BitVec 32 := 1#32
  let v88 : BitVec 32 := Scalar.divsi v86 c1_i32_69
  let v89 : BitVec 32 := Scalar.muli v88 c1_i32_69
  let v90 : BitVec 32 := Scalar.addi v63 v89
  let c1_i32_71 : BitVec 32 := 1#32
  let arg17 : BitVec 32 := Scf.iv v90 c1_i32_71 k0_t5
  let c1024_i32_377 : BitVec 32 := 1024#32
  let v699 : BitVec 32 := Scalar.muli arg17 c1024_i32_377
  let v705 : Index := Scalar.indexCast v699
  ![0, v705.toNat]

def k0_chk6 (v46 : BitVec 32) (v66 : BitVec 32) : Prop :=
  ((k0_t4_loop v46 v66).OK) ∧
  (∀ k0_t4 : Fin (k0_t4_loop v46 v66).trips, ∀ a, (k0_off6 v46 v66 k0_t4) a + S1024x32.size a ≤ S4096x32.size a) ∧
  (∀ k0_t4 : Fin (k0_t4_loop v46 v66).trips, ∀ a, (k0_off7 v46 v66 k0_t4) a + S1024x33.size a ≤ S4096x33.size a) ∧
  (∀ k0_t4 : Fin (k0_t4_loop v46 v66).trips, ∀ a, (k0_off8 v46 v66 k0_t4) a + S1x1024.size a ≤ S1x4096.size a) ∧
  ((k0_t5_loop v46 v66).OK) ∧
  (∀ k0_t5 : Fin (k0_t5_loop v46 v66).trips, ∀ a, (k0_off9 v46 v66 k0_t5) a + S1024x32.size a ≤ S4096x32.size a) ∧
  (∀ k0_t5 : Fin (k0_t5_loop v46 v66).trips, ∀ a, (k0_off10 v46 v66 k0_t5) a + S1024x33.size a ≤ S4096x33.size a) ∧
  (∀ k0_t5 : Fin (k0_t5_loop v46 v66).trips, ∀ a, (k0_off11 v46 v66 k0_t5) a + S1x1024.size a ≤ S1x4096.size a)
theorem k0_t4_ok : ∀ (v46 : BitVec 32) (v66 : BitVec 32) (k0_hw6 : k0_chk6 v46 v66), (k0_t4_loop v46 v66).OK := fun v46 v66 k0_hw6 => k0_hw6.1
theorem k0_off6_inb : ∀ (v46 : BitVec 32) (v66 : BitVec 32) (k0_hw6 : k0_chk6 v46 v66) (k0_t4 : Fin (k0_t4_loop v46 v66).trips), ∀ a, (k0_off6 v46 v66 k0_t4) a + S1024x32.size a ≤ S4096x32.size a := fun v46 v66 k0_hw6 k0_t4 => k0_hw6.2.1 k0_t4
theorem k0_off7_inb : ∀ (v46 : BitVec 32) (v66 : BitVec 32) (k0_hw6 : k0_chk6 v46 v66) (k0_t4 : Fin (k0_t4_loop v46 v66).trips), ∀ a, (k0_off7 v46 v66 k0_t4) a + S1024x33.size a ≤ S4096x33.size a := fun v46 v66 k0_hw6 k0_t4 => k0_hw6.2.2.1 k0_t4
theorem k0_off8_inb : ∀ (v46 : BitVec 32) (v66 : BitVec 32) (k0_hw6 : k0_chk6 v46 v66) (k0_t4 : Fin (k0_t4_loop v46 v66).trips), ∀ a, (k0_off8 v46 v66 k0_t4) a + S1x1024.size a ≤ S1x4096.size a := fun v46 v66 k0_hw6 k0_t4 => k0_hw6.2.2.2.1 k0_t4
theorem k0_t5_ok : ∀ (v46 : BitVec 32) (v66 : BitVec 32) (k0_hw6 : k0_chk6 v46 v66), (k0_t5_loop v46 v66).OK := fun v46 v66 k0_hw6 => k0_hw6.2.2.2.2.1
theorem k0_off9_inb : ∀ (v46 : BitVec 32) (v66 : BitVec 32) (k0_hw6 : k0_chk6 v46 v66) (k0_t5 : Fin (k0_t5_loop v46 v66).trips), ∀ a, (k0_off9 v46 v66 k0_t5) a + S1024x32.size a ≤ S4096x32.size a := fun v46 v66 k0_hw6 k0_t5 => k0_hw6.2.2.2.2.2.1 k0_t5
theorem k0_off10_inb : ∀ (v46 : BitVec 32) (v66 : BitVec 32) (k0_hw6 : k0_chk6 v46 v66) (k0_t5 : Fin (k0_t5_loop v46 v66).trips), ∀ a, (k0_off10 v46 v66 k0_t5) a + S1024x33.size a ≤ S4096x33.size a := fun v46 v66 k0_hw6 k0_t5 => k0_hw6.2.2.2.2.2.2.1 k0_t5
theorem k0_off11_inb : ∀ (v46 : BitVec 32) (v66 : BitVec 32) (k0_hw6 : k0_chk6 v46 v66) (k0_t5 : Fin (k0_t5_loop v46 v66).trips), ∀ a, (k0_off11 v46 v66 k0_t5) a + S1x1024.size a ≤ S1x4096.size a := fun v46 v66 k0_hw6 k0_t5 => k0_hw6.2.2.2.2.2.2.2 k0_t5

def k0_off12 (v114 : BitVec 32) : Fin 2 → Nat :=
  let c0_85 : Index := 0#32
  let v116 : Index := Scalar.indexCast v114
  ![0, v116.toNat]

def k0_chk7 (v114 : BitVec 32) : Prop :=
  (∀ a, (k0_off12 v114) a + S1x1.size a ≤ S1x5.size a)
theorem k0_off12_inb : ∀ (v114 : BitVec 32) (k0_hw7 : k0_chk7 v114), ∀ a, (k0_off12 v114) a + S1x1.size a ≤ S1x5.size a := fun v114 k0_hw7 => k0_hw7

def k0_off13 (v115 : BitVec 32) : Fin 2 → Nat :=
  let c0_94 : Index := 0#32
  let c1_i32_93 : BitVec 32 := 1#32
  let v135 : BitVec 32 := Scalar.addi v115 c1_i32_93
  let v136 : Index := Scalar.indexCast v135
  ![0, v136.toNat]

def k0_chk8 (v115 : BitVec 32) : Prop :=
  (∀ a, (k0_off13 v115) a + S1x1.size a ≤ S1x5.size a)
theorem k0_off13_inb : ∀ (v115 : BitVec 32) (k0_hw8 : k0_chk8 v115), ∀ a, (k0_off13 v115) a + S1x1.size a ≤ S1x5.size a := fun v115 k0_hw8 => k0_hw8

@[reducible] def k0_t6_loop (v117 : BitVec 32) (v137 : BitVec 32) : Scf.Loop 32 :=
  let c0_i32_87 : BitVec 32 := 0#32
  let v119 : BitVec 1 := Scalar.cmpi .sgt v117 c0_i32_87
  let v120 : BitVec 32 := Scalar.extui v119
  let c0_i32_88 : BitVec 32 := 0#32
  let v121 : BitVec 1 := Scalar.cmpi .slt v117 c0_i32_88
  let v122 : BitVec 32 := Scalar.extui v121
  let v123 : BitVec 32 := Scalar.subi v120 v122
  let c1024_i32_86 : BitVec 32 := 1024#32
  let c0_i32_89 : BitVec 32 := 0#32
  let v124 : BitVec 1 := Scalar.cmpi .sgt c1024_i32_86 c0_i32_89
  let v125 : BitVec 32 := Scalar.extui v124
  let c0_i32_90 : BitVec 32 := 0#32
  let v126 : BitVec 1 := Scalar.cmpi .slt c1024_i32_86 c0_i32_90
  let v127 : BitVec 32 := Scalar.extui v126
  let v128 : BitVec 32 := Scalar.subi v125 v127
  let v129 : BitVec 1 := Scalar.cmpi .ne v123 v128
  let v130 : BitVec 32 := Scalar.remsi v117 c1024_i32_86
  let c0_i32_91 : BitVec 32 := 0#32
  let v131 : BitVec 1 := Scalar.cmpi .ne v130 c0_i32_91
  let v132 : BitVec 1 := Scalar.andi v129 v131
  let v118 : BitVec 32 := Scalar.divsi v117 c1024_i32_86
  let c1_i32_92 : BitVec 32 := 1#32
  let v133 : BitVec 32 := Scalar.subi v118 c1_i32_92
  let v134 : BitVec 32 := Scalar.select v132 v133 v118
  let c1024_i32_95 : BitVec 32 := 1024#32
  let v138 : BitVec 32 := Scalar.addi v137 c1024_i32_95
  let c1_i32_96 : BitVec 32 := 1#32
  let v139 : BitVec 32 := Scalar.subi v138 c1_i32_96
  let c0_i32_98 : BitVec 32 := 0#32
  let v141 : BitVec 1 := Scalar.cmpi .sgt v139 c0_i32_98
  let v142 : BitVec 32 := Scalar.extui v141
  let c0_i32_99 : BitVec 32 := 0#32
  let v143 : BitVec 1 := Scalar.cmpi .slt v139 c0_i32_99
  let v144 : BitVec 32 := Scalar.extui v143
  let v145 : BitVec 32 := Scalar.subi v142 v144
  let c1024_i32_97 : BitVec 32 := 1024#32
  let c0_i32_100 : BitVec 32 := 0#32
  let v146 : BitVec 1 := Scalar.cmpi .sgt c1024_i32_97 c0_i32_100
  let v147 : BitVec 32 := Scalar.extui v146
  let c0_i32_101 : BitVec 32 := 0#32
  let v148 : BitVec 1 := Scalar.cmpi .slt c1024_i32_97 c0_i32_101
  let v149 : BitVec 32 := Scalar.extui v148
  let v150 : BitVec 32 := Scalar.subi v147 v149
  let v151 : BitVec 1 := Scalar.cmpi .ne v145 v150
  let v152 : BitVec 32 := Scalar.remsi v139 c1024_i32_97
  let c0_i32_102 : BitVec 32 := 0#32
  let v153 : BitVec 1 := Scalar.cmpi .ne v152 c0_i32_102
  let v154 : BitVec 1 := Scalar.andi v151 v153
  let v140 : BitVec 32 := Scalar.divsi v139 c1024_i32_97
  let c1_i32_103 : BitVec 32 := 1#32
  let v155 : BitVec 32 := Scalar.subi v140 c1_i32_103
  let v156 : BitVec 32 := Scalar.select v154 v155 v140
  let v157 : BitVec 32 := Scalar.subi v156 v134
  let c1_i32_104 : BitVec 32 := 1#32
  let v159 : BitVec 32 := Scalar.divsi v157 c1_i32_104
  let v160 : BitVec 32 := Scalar.muli v159 c1_i32_104
  let v161 : BitVec 32 := Scalar.addi v134 v160
  let c1_i32_105 : BitVec 32 := 1#32
  ⟨v134, v161, c1_i32_105⟩

def k0_off14 (v117 : BitVec 32) (v137 : BitVec 32) (k0_t6 : Fin (k0_t6_loop v117 v137).trips) : Fin 2 → Nat :=
  let c0_i32_87 : BitVec 32 := 0#32
  let v119 : BitVec 1 := Scalar.cmpi .sgt v117 c0_i32_87
  let v120 : BitVec 32 := Scalar.extui v119
  let c0_i32_88 : BitVec 32 := 0#32
  let v121 : BitVec 1 := Scalar.cmpi .slt v117 c0_i32_88
  let v122 : BitVec 32 := Scalar.extui v121
  let v123 : BitVec 32 := Scalar.subi v120 v122
  let c1024_i32_86 : BitVec 32 := 1024#32
  let c0_i32_89 : BitVec 32 := 0#32
  let v124 : BitVec 1 := Scalar.cmpi .sgt c1024_i32_86 c0_i32_89
  let v125 : BitVec 32 := Scalar.extui v124
  let c0_i32_90 : BitVec 32 := 0#32
  let v126 : BitVec 1 := Scalar.cmpi .slt c1024_i32_86 c0_i32_90
  let v127 : BitVec 32 := Scalar.extui v126
  let v128 : BitVec 32 := Scalar.subi v125 v127
  let v129 : BitVec 1 := Scalar.cmpi .ne v123 v128
  let v130 : BitVec 32 := Scalar.remsi v117 c1024_i32_86
  let c0_i32_91 : BitVec 32 := 0#32
  let v131 : BitVec 1 := Scalar.cmpi .ne v130 c0_i32_91
  let v132 : BitVec 1 := Scalar.andi v129 v131
  let v118 : BitVec 32 := Scalar.divsi v117 c1024_i32_86
  let c1_i32_92 : BitVec 32 := 1#32
  let v133 : BitVec 32 := Scalar.subi v118 c1_i32_92
  let v134 : BitVec 32 := Scalar.select v132 v133 v118
  let c1_i32_105 : BitVec 32 := 1#32
  let arg17 : BitVec 32 := Scf.iv v134 c1_i32_105 k0_t6
  let c1024_i32_377 : BitVec 32 := 1024#32
  let v699 : BitVec 32 := Scalar.muli arg17 c1024_i32_377
  let v700 : Index := Scalar.indexCast v699
  let c0_378 : Index := 0#32
  ![v700.toNat, 0]
def k0_off15 (v117 : BitVec 32) (v137 : BitVec 32) (k0_t6 : Fin (k0_t6_loop v117 v137).trips) : Fin 2 → Nat :=
  let c0_i32_87 : BitVec 32 := 0#32
  let v119 : BitVec 1 := Scalar.cmpi .sgt v117 c0_i32_87
  let v120 : BitVec 32 := Scalar.extui v119
  let c0_i32_88 : BitVec 32 := 0#32
  let v121 : BitVec 1 := Scalar.cmpi .slt v117 c0_i32_88
  let v122 : BitVec 32 := Scalar.extui v121
  let v123 : BitVec 32 := Scalar.subi v120 v122
  let c1024_i32_86 : BitVec 32 := 1024#32
  let c0_i32_89 : BitVec 32 := 0#32
  let v124 : BitVec 1 := Scalar.cmpi .sgt c1024_i32_86 c0_i32_89
  let v125 : BitVec 32 := Scalar.extui v124
  let c0_i32_90 : BitVec 32 := 0#32
  let v126 : BitVec 1 := Scalar.cmpi .slt c1024_i32_86 c0_i32_90
  let v127 : BitVec 32 := Scalar.extui v126
  let v128 : BitVec 32 := Scalar.subi v125 v127
  let v129 : BitVec 1 := Scalar.cmpi .ne v123 v128
  let v130 : BitVec 32 := Scalar.remsi v117 c1024_i32_86
  let c0_i32_91 : BitVec 32 := 0#32
  let v131 : BitVec 1 := Scalar.cmpi .ne v130 c0_i32_91
  let v132 : BitVec 1 := Scalar.andi v129 v131
  let v118 : BitVec 32 := Scalar.divsi v117 c1024_i32_86
  let c1_i32_92 : BitVec 32 := 1#32
  let v133 : BitVec 32 := Scalar.subi v118 c1_i32_92
  let v134 : BitVec 32 := Scalar.select v132 v133 v118
  let c1_i32_105 : BitVec 32 := 1#32
  let arg17 : BitVec 32 := Scf.iv v134 c1_i32_105 k0_t6
  let c1024_i32_377 : BitVec 32 := 1024#32
  let v699 : BitVec 32 := Scalar.muli arg17 c1024_i32_377
  let v702 : Index := Scalar.indexCast v699
  let c0_379 : Index := 0#32
  ![v702.toNat, 0]
def k0_off16 (v117 : BitVec 32) (v137 : BitVec 32) (k0_t6 : Fin (k0_t6_loop v117 v137).trips) : Fin 2 → Nat :=
  let c0_381 : Index := 0#32
  let c0_i32_87 : BitVec 32 := 0#32
  let v119 : BitVec 1 := Scalar.cmpi .sgt v117 c0_i32_87
  let v120 : BitVec 32 := Scalar.extui v119
  let c0_i32_88 : BitVec 32 := 0#32
  let v121 : BitVec 1 := Scalar.cmpi .slt v117 c0_i32_88
  let v122 : BitVec 32 := Scalar.extui v121
  let v123 : BitVec 32 := Scalar.subi v120 v122
  let c1024_i32_86 : BitVec 32 := 1024#32
  let c0_i32_89 : BitVec 32 := 0#32
  let v124 : BitVec 1 := Scalar.cmpi .sgt c1024_i32_86 c0_i32_89
  let v125 : BitVec 32 := Scalar.extui v124
  let c0_i32_90 : BitVec 32 := 0#32
  let v126 : BitVec 1 := Scalar.cmpi .slt c1024_i32_86 c0_i32_90
  let v127 : BitVec 32 := Scalar.extui v126
  let v128 : BitVec 32 := Scalar.subi v125 v127
  let v129 : BitVec 1 := Scalar.cmpi .ne v123 v128
  let v130 : BitVec 32 := Scalar.remsi v117 c1024_i32_86
  let c0_i32_91 : BitVec 32 := 0#32
  let v131 : BitVec 1 := Scalar.cmpi .ne v130 c0_i32_91
  let v132 : BitVec 1 := Scalar.andi v129 v131
  let v118 : BitVec 32 := Scalar.divsi v117 c1024_i32_86
  let c1_i32_92 : BitVec 32 := 1#32
  let v133 : BitVec 32 := Scalar.subi v118 c1_i32_92
  let v134 : BitVec 32 := Scalar.select v132 v133 v118
  let c1_i32_105 : BitVec 32 := 1#32
  let arg17 : BitVec 32 := Scf.iv v134 c1_i32_105 k0_t6
  let c1024_i32_377 : BitVec 32 := 1024#32
  let v699 : BitVec 32 := Scalar.muli arg17 c1024_i32_377
  let v705 : Index := Scalar.indexCast v699
  ![0, v705.toNat]
@[reducible] def k0_t7_loop (v117 : BitVec 32) (v137 : BitVec 32) : Scf.Loop 32 :=
  let c0_i32_87 : BitVec 32 := 0#32
  let v119 : BitVec 1 := Scalar.cmpi .sgt v117 c0_i32_87
  let v120 : BitVec 32 := Scalar.extui v119
  let c0_i32_88 : BitVec 32 := 0#32
  let v121 : BitVec 1 := Scalar.cmpi .slt v117 c0_i32_88
  let v122 : BitVec 32 := Scalar.extui v121
  let v123 : BitVec 32 := Scalar.subi v120 v122
  let c1024_i32_86 : BitVec 32 := 1024#32
  let c0_i32_89 : BitVec 32 := 0#32
  let v124 : BitVec 1 := Scalar.cmpi .sgt c1024_i32_86 c0_i32_89
  let v125 : BitVec 32 := Scalar.extui v124
  let c0_i32_90 : BitVec 32 := 0#32
  let v126 : BitVec 1 := Scalar.cmpi .slt c1024_i32_86 c0_i32_90
  let v127 : BitVec 32 := Scalar.extui v126
  let v128 : BitVec 32 := Scalar.subi v125 v127
  let v129 : BitVec 1 := Scalar.cmpi .ne v123 v128
  let v130 : BitVec 32 := Scalar.remsi v117 c1024_i32_86
  let c0_i32_91 : BitVec 32 := 0#32
  let v131 : BitVec 1 := Scalar.cmpi .ne v130 c0_i32_91
  let v132 : BitVec 1 := Scalar.andi v129 v131
  let v118 : BitVec 32 := Scalar.divsi v117 c1024_i32_86
  let c1_i32_92 : BitVec 32 := 1#32
  let v133 : BitVec 32 := Scalar.subi v118 c1_i32_92
  let v134 : BitVec 32 := Scalar.select v132 v133 v118
  let c1024_i32_95 : BitVec 32 := 1024#32
  let v138 : BitVec 32 := Scalar.addi v137 c1024_i32_95
  let c1_i32_96 : BitVec 32 := 1#32
  let v139 : BitVec 32 := Scalar.subi v138 c1_i32_96
  let c0_i32_98 : BitVec 32 := 0#32
  let v141 : BitVec 1 := Scalar.cmpi .sgt v139 c0_i32_98
  let v142 : BitVec 32 := Scalar.extui v141
  let c0_i32_99 : BitVec 32 := 0#32
  let v143 : BitVec 1 := Scalar.cmpi .slt v139 c0_i32_99
  let v144 : BitVec 32 := Scalar.extui v143
  let v145 : BitVec 32 := Scalar.subi v142 v144
  let c1024_i32_97 : BitVec 32 := 1024#32
  let c0_i32_100 : BitVec 32 := 0#32
  let v146 : BitVec 1 := Scalar.cmpi .sgt c1024_i32_97 c0_i32_100
  let v147 : BitVec 32 := Scalar.extui v146
  let c0_i32_101 : BitVec 32 := 0#32
  let v148 : BitVec 1 := Scalar.cmpi .slt c1024_i32_97 c0_i32_101
  let v149 : BitVec 32 := Scalar.extui v148
  let v150 : BitVec 32 := Scalar.subi v147 v149
  let v151 : BitVec 1 := Scalar.cmpi .ne v145 v150
  let v152 : BitVec 32 := Scalar.remsi v139 c1024_i32_97
  let c0_i32_102 : BitVec 32 := 0#32
  let v153 : BitVec 1 := Scalar.cmpi .ne v152 c0_i32_102
  let v154 : BitVec 1 := Scalar.andi v151 v153
  let v140 : BitVec 32 := Scalar.divsi v139 c1024_i32_97
  let c1_i32_103 : BitVec 32 := 1#32
  let v155 : BitVec 32 := Scalar.subi v140 c1_i32_103
  let v156 : BitVec 32 := Scalar.select v154 v155 v140
  let v157 : BitVec 32 := Scalar.subi v156 v134
  let c1_i32_104 : BitVec 32 := 1#32
  let v159 : BitVec 32 := Scalar.divsi v157 c1_i32_104
  let v160 : BitVec 32 := Scalar.muli v159 c1_i32_104
  let v161 : BitVec 32 := Scalar.addi v134 v160
  let v158 : BitVec 32 := Scalar.addi v134 v157
  let c1_i32_106 : BitVec 32 := 1#32
  ⟨v161, v158, c1_i32_106⟩
def k0_off17 (v117 : BitVec 32) (v137 : BitVec 32) (k0_t7 : Fin (k0_t7_loop v117 v137).trips) : Fin 2 → Nat :=
  let c0_i32_87 : BitVec 32 := 0#32
  let v119 : BitVec 1 := Scalar.cmpi .sgt v117 c0_i32_87
  let v120 : BitVec 32 := Scalar.extui v119
  let c0_i32_88 : BitVec 32 := 0#32
  let v121 : BitVec 1 := Scalar.cmpi .slt v117 c0_i32_88
  let v122 : BitVec 32 := Scalar.extui v121
  let v123 : BitVec 32 := Scalar.subi v120 v122
  let c1024_i32_86 : BitVec 32 := 1024#32
  let c0_i32_89 : BitVec 32 := 0#32
  let v124 : BitVec 1 := Scalar.cmpi .sgt c1024_i32_86 c0_i32_89
  let v125 : BitVec 32 := Scalar.extui v124
  let c0_i32_90 : BitVec 32 := 0#32
  let v126 : BitVec 1 := Scalar.cmpi .slt c1024_i32_86 c0_i32_90
  let v127 : BitVec 32 := Scalar.extui v126
  let v128 : BitVec 32 := Scalar.subi v125 v127
  let v129 : BitVec 1 := Scalar.cmpi .ne v123 v128
  let v130 : BitVec 32 := Scalar.remsi v117 c1024_i32_86
  let c0_i32_91 : BitVec 32 := 0#32
  let v131 : BitVec 1 := Scalar.cmpi .ne v130 c0_i32_91
  let v132 : BitVec 1 := Scalar.andi v129 v131
  let v118 : BitVec 32 := Scalar.divsi v117 c1024_i32_86
  let c1_i32_92 : BitVec 32 := 1#32
  let v133 : BitVec 32 := Scalar.subi v118 c1_i32_92
  let v134 : BitVec 32 := Scalar.select v132 v133 v118
  let c1024_i32_95 : BitVec 32 := 1024#32
  let v138 : BitVec 32 := Scalar.addi v137 c1024_i32_95
  let c1_i32_96 : BitVec 32 := 1#32
  let v139 : BitVec 32 := Scalar.subi v138 c1_i32_96
  let c0_i32_98 : BitVec 32 := 0#32
  let v141 : BitVec 1 := Scalar.cmpi .sgt v139 c0_i32_98
  let v142 : BitVec 32 := Scalar.extui v141
  let c0_i32_99 : BitVec 32 := 0#32
  let v143 : BitVec 1 := Scalar.cmpi .slt v139 c0_i32_99
  let v144 : BitVec 32 := Scalar.extui v143
  let v145 : BitVec 32 := Scalar.subi v142 v144
  let c1024_i32_97 : BitVec 32 := 1024#32
  let c0_i32_100 : BitVec 32 := 0#32
  let v146 : BitVec 1 := Scalar.cmpi .sgt c1024_i32_97 c0_i32_100
  let v147 : BitVec 32 := Scalar.extui v146
  let c0_i32_101 : BitVec 32 := 0#32
  let v148 : BitVec 1 := Scalar.cmpi .slt c1024_i32_97 c0_i32_101
  let v149 : BitVec 32 := Scalar.extui v148
  let v150 : BitVec 32 := Scalar.subi v147 v149
  let v151 : BitVec 1 := Scalar.cmpi .ne v145 v150
  let v152 : BitVec 32 := Scalar.remsi v139 c1024_i32_97
  let c0_i32_102 : BitVec 32 := 0#32
  let v153 : BitVec 1 := Scalar.cmpi .ne v152 c0_i32_102
  let v154 : BitVec 1 := Scalar.andi v151 v153
  let v140 : BitVec 32 := Scalar.divsi v139 c1024_i32_97
  let c1_i32_103 : BitVec 32 := 1#32
  let v155 : BitVec 32 := Scalar.subi v140 c1_i32_103
  let v156 : BitVec 32 := Scalar.select v154 v155 v140
  let v157 : BitVec 32 := Scalar.subi v156 v134
  let c1_i32_104 : BitVec 32 := 1#32
  let v159 : BitVec 32 := Scalar.divsi v157 c1_i32_104
  let v160 : BitVec 32 := Scalar.muli v159 c1_i32_104
  let v161 : BitVec 32 := Scalar.addi v134 v160
  let c1_i32_106 : BitVec 32 := 1#32
  let arg17 : BitVec 32 := Scf.iv v161 c1_i32_106 k0_t7
  let c1024_i32_377 : BitVec 32 := 1024#32
  let v699 : BitVec 32 := Scalar.muli arg17 c1024_i32_377
  let v700 : Index := Scalar.indexCast v699
  let c0_378 : Index := 0#32
  ![v700.toNat, 0]
def k0_off18 (v117 : BitVec 32) (v137 : BitVec 32) (k0_t7 : Fin (k0_t7_loop v117 v137).trips) : Fin 2 → Nat :=
  let c0_i32_87 : BitVec 32 := 0#32
  let v119 : BitVec 1 := Scalar.cmpi .sgt v117 c0_i32_87
  let v120 : BitVec 32 := Scalar.extui v119
  let c0_i32_88 : BitVec 32 := 0#32
  let v121 : BitVec 1 := Scalar.cmpi .slt v117 c0_i32_88
  let v122 : BitVec 32 := Scalar.extui v121
  let v123 : BitVec 32 := Scalar.subi v120 v122
  let c1024_i32_86 : BitVec 32 := 1024#32
  let c0_i32_89 : BitVec 32 := 0#32
  let v124 : BitVec 1 := Scalar.cmpi .sgt c1024_i32_86 c0_i32_89
  let v125 : BitVec 32 := Scalar.extui v124
  let c0_i32_90 : BitVec 32 := 0#32
  let v126 : BitVec 1 := Scalar.cmpi .slt c1024_i32_86 c0_i32_90
  let v127 : BitVec 32 := Scalar.extui v126
  let v128 : BitVec 32 := Scalar.subi v125 v127
  let v129 : BitVec 1 := Scalar.cmpi .ne v123 v128
  let v130 : BitVec 32 := Scalar.remsi v117 c1024_i32_86
  let c0_i32_91 : BitVec 32 := 0#32
  let v131 : BitVec 1 := Scalar.cmpi .ne v130 c0_i32_91
  let v132 : BitVec 1 := Scalar.andi v129 v131
  let v118 : BitVec 32 := Scalar.divsi v117 c1024_i32_86
  let c1_i32_92 : BitVec 32 := 1#32
  let v133 : BitVec 32 := Scalar.subi v118 c1_i32_92
  let v134 : BitVec 32 := Scalar.select v132 v133 v118
  let c1024_i32_95 : BitVec 32 := 1024#32
  let v138 : BitVec 32 := Scalar.addi v137 c1024_i32_95
  let c1_i32_96 : BitVec 32 := 1#32
  let v139 : BitVec 32 := Scalar.subi v138 c1_i32_96
  let c0_i32_98 : BitVec 32 := 0#32
  let v141 : BitVec 1 := Scalar.cmpi .sgt v139 c0_i32_98
  let v142 : BitVec 32 := Scalar.extui v141
  let c0_i32_99 : BitVec 32 := 0#32
  let v143 : BitVec 1 := Scalar.cmpi .slt v139 c0_i32_99
  let v144 : BitVec 32 := Scalar.extui v143
  let v145 : BitVec 32 := Scalar.subi v142 v144
  let c1024_i32_97 : BitVec 32 := 1024#32
  let c0_i32_100 : BitVec 32 := 0#32
  let v146 : BitVec 1 := Scalar.cmpi .sgt c1024_i32_97 c0_i32_100
  let v147 : BitVec 32 := Scalar.extui v146
  let c0_i32_101 : BitVec 32 := 0#32
  let v148 : BitVec 1 := Scalar.cmpi .slt c1024_i32_97 c0_i32_101
  let v149 : BitVec 32 := Scalar.extui v148
  let v150 : BitVec 32 := Scalar.subi v147 v149
  let v151 : BitVec 1 := Scalar.cmpi .ne v145 v150
  let v152 : BitVec 32 := Scalar.remsi v139 c1024_i32_97
  let c0_i32_102 : BitVec 32 := 0#32
  let v153 : BitVec 1 := Scalar.cmpi .ne v152 c0_i32_102
  let v154 : BitVec 1 := Scalar.andi v151 v153
  let v140 : BitVec 32 := Scalar.divsi v139 c1024_i32_97
  let c1_i32_103 : BitVec 32 := 1#32
  let v155 : BitVec 32 := Scalar.subi v140 c1_i32_103
  let v156 : BitVec 32 := Scalar.select v154 v155 v140
  let v157 : BitVec 32 := Scalar.subi v156 v134
  let c1_i32_104 : BitVec 32 := 1#32
  let v159 : BitVec 32 := Scalar.divsi v157 c1_i32_104
  let v160 : BitVec 32 := Scalar.muli v159 c1_i32_104
  let v161 : BitVec 32 := Scalar.addi v134 v160
  let c1_i32_106 : BitVec 32 := 1#32
  let arg17 : BitVec 32 := Scf.iv v161 c1_i32_106 k0_t7
  let c1024_i32_377 : BitVec 32 := 1024#32
  let v699 : BitVec 32 := Scalar.muli arg17 c1024_i32_377
  let v702 : Index := Scalar.indexCast v699
  let c0_379 : Index := 0#32
  ![v702.toNat, 0]
def k0_off19 (v117 : BitVec 32) (v137 : BitVec 32) (k0_t7 : Fin (k0_t7_loop v117 v137).trips) : Fin 2 → Nat :=
  let c0_381 : Index := 0#32
  let c0_i32_87 : BitVec 32 := 0#32
  let v119 : BitVec 1 := Scalar.cmpi .sgt v117 c0_i32_87
  let v120 : BitVec 32 := Scalar.extui v119
  let c0_i32_88 : BitVec 32 := 0#32
  let v121 : BitVec 1 := Scalar.cmpi .slt v117 c0_i32_88
  let v122 : BitVec 32 := Scalar.extui v121
  let v123 : BitVec 32 := Scalar.subi v120 v122
  let c1024_i32_86 : BitVec 32 := 1024#32
  let c0_i32_89 : BitVec 32 := 0#32
  let v124 : BitVec 1 := Scalar.cmpi .sgt c1024_i32_86 c0_i32_89
  let v125 : BitVec 32 := Scalar.extui v124
  let c0_i32_90 : BitVec 32 := 0#32
  let v126 : BitVec 1 := Scalar.cmpi .slt c1024_i32_86 c0_i32_90
  let v127 : BitVec 32 := Scalar.extui v126
  let v128 : BitVec 32 := Scalar.subi v125 v127
  let v129 : BitVec 1 := Scalar.cmpi .ne v123 v128
  let v130 : BitVec 32 := Scalar.remsi v117 c1024_i32_86
  let c0_i32_91 : BitVec 32 := 0#32
  let v131 : BitVec 1 := Scalar.cmpi .ne v130 c0_i32_91
  let v132 : BitVec 1 := Scalar.andi v129 v131
  let v118 : BitVec 32 := Scalar.divsi v117 c1024_i32_86
  let c1_i32_92 : BitVec 32 := 1#32
  let v133 : BitVec 32 := Scalar.subi v118 c1_i32_92
  let v134 : BitVec 32 := Scalar.select v132 v133 v118
  let c1024_i32_95 : BitVec 32 := 1024#32
  let v138 : BitVec 32 := Scalar.addi v137 c1024_i32_95
  let c1_i32_96 : BitVec 32 := 1#32
  let v139 : BitVec 32 := Scalar.subi v138 c1_i32_96
  let c0_i32_98 : BitVec 32 := 0#32
  let v141 : BitVec 1 := Scalar.cmpi .sgt v139 c0_i32_98
  let v142 : BitVec 32 := Scalar.extui v141
  let c0_i32_99 : BitVec 32 := 0#32
  let v143 : BitVec 1 := Scalar.cmpi .slt v139 c0_i32_99
  let v144 : BitVec 32 := Scalar.extui v143
  let v145 : BitVec 32 := Scalar.subi v142 v144
  let c1024_i32_97 : BitVec 32 := 1024#32
  let c0_i32_100 : BitVec 32 := 0#32
  let v146 : BitVec 1 := Scalar.cmpi .sgt c1024_i32_97 c0_i32_100
  let v147 : BitVec 32 := Scalar.extui v146
  let c0_i32_101 : BitVec 32 := 0#32
  let v148 : BitVec 1 := Scalar.cmpi .slt c1024_i32_97 c0_i32_101
  let v149 : BitVec 32 := Scalar.extui v148
  let v150 : BitVec 32 := Scalar.subi v147 v149
  let v151 : BitVec 1 := Scalar.cmpi .ne v145 v150
  let v152 : BitVec 32 := Scalar.remsi v139 c1024_i32_97
  let c0_i32_102 : BitVec 32 := 0#32
  let v153 : BitVec 1 := Scalar.cmpi .ne v152 c0_i32_102
  let v154 : BitVec 1 := Scalar.andi v151 v153
  let v140 : BitVec 32 := Scalar.divsi v139 c1024_i32_97
  let c1_i32_103 : BitVec 32 := 1#32
  let v155 : BitVec 32 := Scalar.subi v140 c1_i32_103
  let v156 : BitVec 32 := Scalar.select v154 v155 v140
  let v157 : BitVec 32 := Scalar.subi v156 v134
  let c1_i32_104 : BitVec 32 := 1#32
  let v159 : BitVec 32 := Scalar.divsi v157 c1_i32_104
  let v160 : BitVec 32 := Scalar.muli v159 c1_i32_104
  let v161 : BitVec 32 := Scalar.addi v134 v160
  let c1_i32_106 : BitVec 32 := 1#32
  let arg17 : BitVec 32 := Scf.iv v161 c1_i32_106 k0_t7
  let c1024_i32_377 : BitVec 32 := 1024#32
  let v699 : BitVec 32 := Scalar.muli arg17 c1024_i32_377
  let v705 : Index := Scalar.indexCast v699
  ![0, v705.toNat]

def k0_chk9 (v117 : BitVec 32) (v137 : BitVec 32) : Prop :=
  ((k0_t6_loop v117 v137).OK) ∧
  (∀ k0_t6 : Fin (k0_t6_loop v117 v137).trips, ∀ a, (k0_off14 v117 v137 k0_t6) a + S1024x32.size a ≤ S4096x32.size a) ∧
  (∀ k0_t6 : Fin (k0_t6_loop v117 v137).trips, ∀ a, (k0_off15 v117 v137 k0_t6) a + S1024x33.size a ≤ S4096x33.size a) ∧
  (∀ k0_t6 : Fin (k0_t6_loop v117 v137).trips, ∀ a, (k0_off16 v117 v137 k0_t6) a + S1x1024.size a ≤ S1x4096.size a) ∧
  ((k0_t7_loop v117 v137).OK) ∧
  (∀ k0_t7 : Fin (k0_t7_loop v117 v137).trips, ∀ a, (k0_off17 v117 v137 k0_t7) a + S1024x32.size a ≤ S4096x32.size a) ∧
  (∀ k0_t7 : Fin (k0_t7_loop v117 v137).trips, ∀ a, (k0_off18 v117 v137 k0_t7) a + S1024x33.size a ≤ S4096x33.size a) ∧
  (∀ k0_t7 : Fin (k0_t7_loop v117 v137).trips, ∀ a, (k0_off19 v117 v137 k0_t7) a + S1x1024.size a ≤ S1x4096.size a)
theorem k0_t6_ok : ∀ (v117 : BitVec 32) (v137 : BitVec 32) (k0_hw9 : k0_chk9 v117 v137), (k0_t6_loop v117 v137).OK := fun v117 v137 k0_hw9 => k0_hw9.1
theorem k0_off14_inb : ∀ (v117 : BitVec 32) (v137 : BitVec 32) (k0_hw9 : k0_chk9 v117 v137) (k0_t6 : Fin (k0_t6_loop v117 v137).trips), ∀ a, (k0_off14 v117 v137 k0_t6) a + S1024x32.size a ≤ S4096x32.size a := fun v117 v137 k0_hw9 k0_t6 => k0_hw9.2.1 k0_t6
theorem k0_off15_inb : ∀ (v117 : BitVec 32) (v137 : BitVec 32) (k0_hw9 : k0_chk9 v117 v137) (k0_t6 : Fin (k0_t6_loop v117 v137).trips), ∀ a, (k0_off15 v117 v137 k0_t6) a + S1024x33.size a ≤ S4096x33.size a := fun v117 v137 k0_hw9 k0_t6 => k0_hw9.2.2.1 k0_t6
theorem k0_off16_inb : ∀ (v117 : BitVec 32) (v137 : BitVec 32) (k0_hw9 : k0_chk9 v117 v137) (k0_t6 : Fin (k0_t6_loop v117 v137).trips), ∀ a, (k0_off16 v117 v137 k0_t6) a + S1x1024.size a ≤ S1x4096.size a := fun v117 v137 k0_hw9 k0_t6 => k0_hw9.2.2.2.1 k0_t6
theorem k0_t7_ok : ∀ (v117 : BitVec 32) (v137 : BitVec 32) (k0_hw9 : k0_chk9 v117 v137), (k0_t7_loop v117 v137).OK := fun v117 v137 k0_hw9 => k0_hw9.2.2.2.2.1
theorem k0_off17_inb : ∀ (v117 : BitVec 32) (v137 : BitVec 32) (k0_hw9 : k0_chk9 v117 v137) (k0_t7 : Fin (k0_t7_loop v117 v137).trips), ∀ a, (k0_off17 v117 v137 k0_t7) a + S1024x32.size a ≤ S4096x32.size a := fun v117 v137 k0_hw9 k0_t7 => k0_hw9.2.2.2.2.2.1 k0_t7
theorem k0_off18_inb : ∀ (v117 : BitVec 32) (v137 : BitVec 32) (k0_hw9 : k0_chk9 v117 v137) (k0_t7 : Fin (k0_t7_loop v117 v137).trips), ∀ a, (k0_off18 v117 v137 k0_t7) a + S1024x33.size a ≤ S4096x33.size a := fun v117 v137 k0_hw9 k0_t7 => k0_hw9.2.2.2.2.2.2.1 k0_t7
theorem k0_off19_inb : ∀ (v117 : BitVec 32) (v137 : BitVec 32) (k0_hw9 : k0_chk9 v117 v137) (k0_t7 : Fin (k0_t7_loop v117 v137).trips), ∀ a, (k0_off19 v117 v137 k0_t7) a + S1x1024.size a ≤ S1x4096.size a := fun v117 v137 k0_hw9 k0_t7 => k0_hw9.2.2.2.2.2.2.2 k0_t7

def k0_off20 (v185 : BitVec 32) : Fin 2 → Nat :=
  let c0_120 : Index := 0#32
  let v187 : Index := Scalar.indexCast v185
  ![0, v187.toNat]

def k0_chk10 (v185 : BitVec 32) : Prop :=
  (∀ a, (k0_off20 v185) a + S1x1.size a ≤ S1x5.size a)
theorem k0_off20_inb : ∀ (v185 : BitVec 32) (k0_hw10 : k0_chk10 v185), ∀ a, (k0_off20 v185) a + S1x1.size a ≤ S1x5.size a := fun v185 k0_hw10 => k0_hw10

def k0_off21 (v186 : BitVec 32) : Fin 2 → Nat :=
  let c0_129 : Index := 0#32
  let c1_i32_128 : BitVec 32 := 1#32
  let v206 : BitVec 32 := Scalar.addi v186 c1_i32_128
  let v207 : Index := Scalar.indexCast v206
  ![0, v207.toNat]

def k0_chk11 (v186 : BitVec 32) : Prop :=
  (∀ a, (k0_off21 v186) a + S1x1.size a ≤ S1x5.size a)
theorem k0_off21_inb : ∀ (v186 : BitVec 32) (k0_hw11 : k0_chk11 v186), ∀ a, (k0_off21 v186) a + S1x1.size a ≤ S1x5.size a := fun v186 k0_hw11 => k0_hw11

@[reducible] def k0_t8_loop (v188 : BitVec 32) (v208 : BitVec 32) : Scf.Loop 32 :=
  let c0_i32_122 : BitVec 32 := 0#32
  let v190 : BitVec 1 := Scalar.cmpi .sgt v188 c0_i32_122
  let v191 : BitVec 32 := Scalar.extui v190
  let c0_i32_123 : BitVec 32 := 0#32
  let v192 : BitVec 1 := Scalar.cmpi .slt v188 c0_i32_123
  let v193 : BitVec 32 := Scalar.extui v192
  let v194 : BitVec 32 := Scalar.subi v191 v193
  let c1024_i32_121 : BitVec 32 := 1024#32
  let c0_i32_124 : BitVec 32 := 0#32
  let v195 : BitVec 1 := Scalar.cmpi .sgt c1024_i32_121 c0_i32_124
  let v196 : BitVec 32 := Scalar.extui v195
  let c0_i32_125 : BitVec 32 := 0#32
  let v197 : BitVec 1 := Scalar.cmpi .slt c1024_i32_121 c0_i32_125
  let v198 : BitVec 32 := Scalar.extui v197
  let v199 : BitVec 32 := Scalar.subi v196 v198
  let v200 : BitVec 1 := Scalar.cmpi .ne v194 v199
  let v201 : BitVec 32 := Scalar.remsi v188 c1024_i32_121
  let c0_i32_126 : BitVec 32 := 0#32
  let v202 : BitVec 1 := Scalar.cmpi .ne v201 c0_i32_126
  let v203 : BitVec 1 := Scalar.andi v200 v202
  let v189 : BitVec 32 := Scalar.divsi v188 c1024_i32_121
  let c1_i32_127 : BitVec 32 := 1#32
  let v204 : BitVec 32 := Scalar.subi v189 c1_i32_127
  let v205 : BitVec 32 := Scalar.select v203 v204 v189
  let c1024_i32_130 : BitVec 32 := 1024#32
  let v209 : BitVec 32 := Scalar.addi v208 c1024_i32_130
  let c1_i32_131 : BitVec 32 := 1#32
  let v210 : BitVec 32 := Scalar.subi v209 c1_i32_131
  let c0_i32_133 : BitVec 32 := 0#32
  let v212 : BitVec 1 := Scalar.cmpi .sgt v210 c0_i32_133
  let v213 : BitVec 32 := Scalar.extui v212
  let c0_i32_134 : BitVec 32 := 0#32
  let v214 : BitVec 1 := Scalar.cmpi .slt v210 c0_i32_134
  let v215 : BitVec 32 := Scalar.extui v214
  let v216 : BitVec 32 := Scalar.subi v213 v215
  let c1024_i32_132 : BitVec 32 := 1024#32
  let c0_i32_135 : BitVec 32 := 0#32
  let v217 : BitVec 1 := Scalar.cmpi .sgt c1024_i32_132 c0_i32_135
  let v218 : BitVec 32 := Scalar.extui v217
  let c0_i32_136 : BitVec 32 := 0#32
  let v219 : BitVec 1 := Scalar.cmpi .slt c1024_i32_132 c0_i32_136
  let v220 : BitVec 32 := Scalar.extui v219
  let v221 : BitVec 32 := Scalar.subi v218 v220
  let v222 : BitVec 1 := Scalar.cmpi .ne v216 v221
  let v223 : BitVec 32 := Scalar.remsi v210 c1024_i32_132
  let c0_i32_137 : BitVec 32 := 0#32
  let v224 : BitVec 1 := Scalar.cmpi .ne v223 c0_i32_137
  let v225 : BitVec 1 := Scalar.andi v222 v224
  let v211 : BitVec 32 := Scalar.divsi v210 c1024_i32_132
  let c1_i32_138 : BitVec 32 := 1#32
  let v226 : BitVec 32 := Scalar.subi v211 c1_i32_138
  let v227 : BitVec 32 := Scalar.select v225 v226 v211
  let v228 : BitVec 32 := Scalar.subi v227 v205
  let c1_i32_139 : BitVec 32 := 1#32
  let v230 : BitVec 32 := Scalar.divsi v228 c1_i32_139
  let v231 : BitVec 32 := Scalar.muli v230 c1_i32_139
  let v232 : BitVec 32 := Scalar.addi v205 v231
  let c1_i32_140 : BitVec 32 := 1#32
  ⟨v205, v232, c1_i32_140⟩

def k0_off22 (v188 : BitVec 32) (v208 : BitVec 32) (k0_t8 : Fin (k0_t8_loop v188 v208).trips) : Fin 2 → Nat :=
  let c0_i32_122 : BitVec 32 := 0#32
  let v190 : BitVec 1 := Scalar.cmpi .sgt v188 c0_i32_122
  let v191 : BitVec 32 := Scalar.extui v190
  let c0_i32_123 : BitVec 32 := 0#32
  let v192 : BitVec 1 := Scalar.cmpi .slt v188 c0_i32_123
  let v193 : BitVec 32 := Scalar.extui v192
  let v194 : BitVec 32 := Scalar.subi v191 v193
  let c1024_i32_121 : BitVec 32 := 1024#32
  let c0_i32_124 : BitVec 32 := 0#32
  let v195 : BitVec 1 := Scalar.cmpi .sgt c1024_i32_121 c0_i32_124
  let v196 : BitVec 32 := Scalar.extui v195
  let c0_i32_125 : BitVec 32 := 0#32
  let v197 : BitVec 1 := Scalar.cmpi .slt c1024_i32_121 c0_i32_125
  let v198 : BitVec 32 := Scalar.extui v197
  let v199 : BitVec 32 := Scalar.subi v196 v198
  let v200 : BitVec 1 := Scalar.cmpi .ne v194 v199
  let v201 : BitVec 32 := Scalar.remsi v188 c1024_i32_121
  let c0_i32_126 : BitVec 32 := 0#32
  let v202 : BitVec 1 := Scalar.cmpi .ne v201 c0_i32_126
  let v203 : BitVec 1 := Scalar.andi v200 v202
  let v189 : BitVec 32 := Scalar.divsi v188 c1024_i32_121
  let c1_i32_127 : BitVec 32 := 1#32
  let v204 : BitVec 32 := Scalar.subi v189 c1_i32_127
  let v205 : BitVec 32 := Scalar.select v203 v204 v189
  let c1_i32_140 : BitVec 32 := 1#32
  let arg17 : BitVec 32 := Scf.iv v205 c1_i32_140 k0_t8
  let c1024_i32_377 : BitVec 32 := 1024#32
  let v699 : BitVec 32 := Scalar.muli arg17 c1024_i32_377
  let v700 : Index := Scalar.indexCast v699
  let c0_378 : Index := 0#32
  ![v700.toNat, 0]
def k0_off23 (v188 : BitVec 32) (v208 : BitVec 32) (k0_t8 : Fin (k0_t8_loop v188 v208).trips) : Fin 2 → Nat :=
  let c0_i32_122 : BitVec 32 := 0#32
  let v190 : BitVec 1 := Scalar.cmpi .sgt v188 c0_i32_122
  let v191 : BitVec 32 := Scalar.extui v190
  let c0_i32_123 : BitVec 32 := 0#32
  let v192 : BitVec 1 := Scalar.cmpi .slt v188 c0_i32_123
  let v193 : BitVec 32 := Scalar.extui v192
  let v194 : BitVec 32 := Scalar.subi v191 v193
  let c1024_i32_121 : BitVec 32 := 1024#32
  let c0_i32_124 : BitVec 32 := 0#32
  let v195 : BitVec 1 := Scalar.cmpi .sgt c1024_i32_121 c0_i32_124
  let v196 : BitVec 32 := Scalar.extui v195
  let c0_i32_125 : BitVec 32 := 0#32
  let v197 : BitVec 1 := Scalar.cmpi .slt c1024_i32_121 c0_i32_125
  let v198 : BitVec 32 := Scalar.extui v197
  let v199 : BitVec 32 := Scalar.subi v196 v198
  let v200 : BitVec 1 := Scalar.cmpi .ne v194 v199
  let v201 : BitVec 32 := Scalar.remsi v188 c1024_i32_121
  let c0_i32_126 : BitVec 32 := 0#32
  let v202 : BitVec 1 := Scalar.cmpi .ne v201 c0_i32_126
  let v203 : BitVec 1 := Scalar.andi v200 v202
  let v189 : BitVec 32 := Scalar.divsi v188 c1024_i32_121
  let c1_i32_127 : BitVec 32 := 1#32
  let v204 : BitVec 32 := Scalar.subi v189 c1_i32_127
  let v205 : BitVec 32 := Scalar.select v203 v204 v189
  let c1_i32_140 : BitVec 32 := 1#32
  let arg17 : BitVec 32 := Scf.iv v205 c1_i32_140 k0_t8
  let c1024_i32_377 : BitVec 32 := 1024#32
  let v699 : BitVec 32 := Scalar.muli arg17 c1024_i32_377
  let v702 : Index := Scalar.indexCast v699
  let c0_379 : Index := 0#32
  ![v702.toNat, 0]
def k0_off24 (v188 : BitVec 32) (v208 : BitVec 32) (k0_t8 : Fin (k0_t8_loop v188 v208).trips) : Fin 2 → Nat :=
  let c0_381 : Index := 0#32
  let c0_i32_122 : BitVec 32 := 0#32
  let v190 : BitVec 1 := Scalar.cmpi .sgt v188 c0_i32_122
  let v191 : BitVec 32 := Scalar.extui v190
  let c0_i32_123 : BitVec 32 := 0#32
  let v192 : BitVec 1 := Scalar.cmpi .slt v188 c0_i32_123
  let v193 : BitVec 32 := Scalar.extui v192
  let v194 : BitVec 32 := Scalar.subi v191 v193
  let c1024_i32_121 : BitVec 32 := 1024#32
  let c0_i32_124 : BitVec 32 := 0#32
  let v195 : BitVec 1 := Scalar.cmpi .sgt c1024_i32_121 c0_i32_124
  let v196 : BitVec 32 := Scalar.extui v195
  let c0_i32_125 : BitVec 32 := 0#32
  let v197 : BitVec 1 := Scalar.cmpi .slt c1024_i32_121 c0_i32_125
  let v198 : BitVec 32 := Scalar.extui v197
  let v199 : BitVec 32 := Scalar.subi v196 v198
  let v200 : BitVec 1 := Scalar.cmpi .ne v194 v199
  let v201 : BitVec 32 := Scalar.remsi v188 c1024_i32_121
  let c0_i32_126 : BitVec 32 := 0#32
  let v202 : BitVec 1 := Scalar.cmpi .ne v201 c0_i32_126
  let v203 : BitVec 1 := Scalar.andi v200 v202
  let v189 : BitVec 32 := Scalar.divsi v188 c1024_i32_121
  let c1_i32_127 : BitVec 32 := 1#32
  let v204 : BitVec 32 := Scalar.subi v189 c1_i32_127
  let v205 : BitVec 32 := Scalar.select v203 v204 v189
  let c1_i32_140 : BitVec 32 := 1#32
  let arg17 : BitVec 32 := Scf.iv v205 c1_i32_140 k0_t8
  let c1024_i32_377 : BitVec 32 := 1024#32
  let v699 : BitVec 32 := Scalar.muli arg17 c1024_i32_377
  let v705 : Index := Scalar.indexCast v699
  ![0, v705.toNat]
@[reducible] def k0_t9_loop (v188 : BitVec 32) (v208 : BitVec 32) : Scf.Loop 32 :=
  let c0_i32_122 : BitVec 32 := 0#32
  let v190 : BitVec 1 := Scalar.cmpi .sgt v188 c0_i32_122
  let v191 : BitVec 32 := Scalar.extui v190
  let c0_i32_123 : BitVec 32 := 0#32
  let v192 : BitVec 1 := Scalar.cmpi .slt v188 c0_i32_123
  let v193 : BitVec 32 := Scalar.extui v192
  let v194 : BitVec 32 := Scalar.subi v191 v193
  let c1024_i32_121 : BitVec 32 := 1024#32
  let c0_i32_124 : BitVec 32 := 0#32
  let v195 : BitVec 1 := Scalar.cmpi .sgt c1024_i32_121 c0_i32_124
  let v196 : BitVec 32 := Scalar.extui v195
  let c0_i32_125 : BitVec 32 := 0#32
  let v197 : BitVec 1 := Scalar.cmpi .slt c1024_i32_121 c0_i32_125
  let v198 : BitVec 32 := Scalar.extui v197
  let v199 : BitVec 32 := Scalar.subi v196 v198
  let v200 : BitVec 1 := Scalar.cmpi .ne v194 v199
  let v201 : BitVec 32 := Scalar.remsi v188 c1024_i32_121
  let c0_i32_126 : BitVec 32 := 0#32
  let v202 : BitVec 1 := Scalar.cmpi .ne v201 c0_i32_126
  let v203 : BitVec 1 := Scalar.andi v200 v202
  let v189 : BitVec 32 := Scalar.divsi v188 c1024_i32_121
  let c1_i32_127 : BitVec 32 := 1#32
  let v204 : BitVec 32 := Scalar.subi v189 c1_i32_127
  let v205 : BitVec 32 := Scalar.select v203 v204 v189
  let c1024_i32_130 : BitVec 32 := 1024#32
  let v209 : BitVec 32 := Scalar.addi v208 c1024_i32_130
  let c1_i32_131 : BitVec 32 := 1#32
  let v210 : BitVec 32 := Scalar.subi v209 c1_i32_131
  let c0_i32_133 : BitVec 32 := 0#32
  let v212 : BitVec 1 := Scalar.cmpi .sgt v210 c0_i32_133
  let v213 : BitVec 32 := Scalar.extui v212
  let c0_i32_134 : BitVec 32 := 0#32
  let v214 : BitVec 1 := Scalar.cmpi .slt v210 c0_i32_134
  let v215 : BitVec 32 := Scalar.extui v214
  let v216 : BitVec 32 := Scalar.subi v213 v215
  let c1024_i32_132 : BitVec 32 := 1024#32
  let c0_i32_135 : BitVec 32 := 0#32
  let v217 : BitVec 1 := Scalar.cmpi .sgt c1024_i32_132 c0_i32_135
  let v218 : BitVec 32 := Scalar.extui v217
  let c0_i32_136 : BitVec 32 := 0#32
  let v219 : BitVec 1 := Scalar.cmpi .slt c1024_i32_132 c0_i32_136
  let v220 : BitVec 32 := Scalar.extui v219
  let v221 : BitVec 32 := Scalar.subi v218 v220
  let v222 : BitVec 1 := Scalar.cmpi .ne v216 v221
  let v223 : BitVec 32 := Scalar.remsi v210 c1024_i32_132
  let c0_i32_137 : BitVec 32 := 0#32
  let v224 : BitVec 1 := Scalar.cmpi .ne v223 c0_i32_137
  let v225 : BitVec 1 := Scalar.andi v222 v224
  let v211 : BitVec 32 := Scalar.divsi v210 c1024_i32_132
  let c1_i32_138 : BitVec 32 := 1#32
  let v226 : BitVec 32 := Scalar.subi v211 c1_i32_138
  let v227 : BitVec 32 := Scalar.select v225 v226 v211
  let v228 : BitVec 32 := Scalar.subi v227 v205
  let c1_i32_139 : BitVec 32 := 1#32
  let v230 : BitVec 32 := Scalar.divsi v228 c1_i32_139
  let v231 : BitVec 32 := Scalar.muli v230 c1_i32_139
  let v232 : BitVec 32 := Scalar.addi v205 v231
  let v229 : BitVec 32 := Scalar.addi v205 v228
  let c1_i32_141 : BitVec 32 := 1#32
  ⟨v232, v229, c1_i32_141⟩
def k0_off25 (v188 : BitVec 32) (v208 : BitVec 32) (k0_t9 : Fin (k0_t9_loop v188 v208).trips) : Fin 2 → Nat :=
  let c0_i32_122 : BitVec 32 := 0#32
  let v190 : BitVec 1 := Scalar.cmpi .sgt v188 c0_i32_122
  let v191 : BitVec 32 := Scalar.extui v190
  let c0_i32_123 : BitVec 32 := 0#32
  let v192 : BitVec 1 := Scalar.cmpi .slt v188 c0_i32_123
  let v193 : BitVec 32 := Scalar.extui v192
  let v194 : BitVec 32 := Scalar.subi v191 v193
  let c1024_i32_121 : BitVec 32 := 1024#32
  let c0_i32_124 : BitVec 32 := 0#32
  let v195 : BitVec 1 := Scalar.cmpi .sgt c1024_i32_121 c0_i32_124
  let v196 : BitVec 32 := Scalar.extui v195
  let c0_i32_125 : BitVec 32 := 0#32
  let v197 : BitVec 1 := Scalar.cmpi .slt c1024_i32_121 c0_i32_125
  let v198 : BitVec 32 := Scalar.extui v197
  let v199 : BitVec 32 := Scalar.subi v196 v198
  let v200 : BitVec 1 := Scalar.cmpi .ne v194 v199
  let v201 : BitVec 32 := Scalar.remsi v188 c1024_i32_121
  let c0_i32_126 : BitVec 32 := 0#32
  let v202 : BitVec 1 := Scalar.cmpi .ne v201 c0_i32_126
  let v203 : BitVec 1 := Scalar.andi v200 v202
  let v189 : BitVec 32 := Scalar.divsi v188 c1024_i32_121
  let c1_i32_127 : BitVec 32 := 1#32
  let v204 : BitVec 32 := Scalar.subi v189 c1_i32_127
  let v205 : BitVec 32 := Scalar.select v203 v204 v189
  let c1024_i32_130 : BitVec 32 := 1024#32
  let v209 : BitVec 32 := Scalar.addi v208 c1024_i32_130
  let c1_i32_131 : BitVec 32 := 1#32
  let v210 : BitVec 32 := Scalar.subi v209 c1_i32_131
  let c0_i32_133 : BitVec 32 := 0#32
  let v212 : BitVec 1 := Scalar.cmpi .sgt v210 c0_i32_133
  let v213 : BitVec 32 := Scalar.extui v212
  let c0_i32_134 : BitVec 32 := 0#32
  let v214 : BitVec 1 := Scalar.cmpi .slt v210 c0_i32_134
  let v215 : BitVec 32 := Scalar.extui v214
  let v216 : BitVec 32 := Scalar.subi v213 v215
  let c1024_i32_132 : BitVec 32 := 1024#32
  let c0_i32_135 : BitVec 32 := 0#32
  let v217 : BitVec 1 := Scalar.cmpi .sgt c1024_i32_132 c0_i32_135
  let v218 : BitVec 32 := Scalar.extui v217
  let c0_i32_136 : BitVec 32 := 0#32
  let v219 : BitVec 1 := Scalar.cmpi .slt c1024_i32_132 c0_i32_136
  let v220 : BitVec 32 := Scalar.extui v219
  let v221 : BitVec 32 := Scalar.subi v218 v220
  let v222 : BitVec 1 := Scalar.cmpi .ne v216 v221
  let v223 : BitVec 32 := Scalar.remsi v210 c1024_i32_132
  let c0_i32_137 : BitVec 32 := 0#32
  let v224 : BitVec 1 := Scalar.cmpi .ne v223 c0_i32_137
  let v225 : BitVec 1 := Scalar.andi v222 v224
  let v211 : BitVec 32 := Scalar.divsi v210 c1024_i32_132
  let c1_i32_138 : BitVec 32 := 1#32
  let v226 : BitVec 32 := Scalar.subi v211 c1_i32_138
  let v227 : BitVec 32 := Scalar.select v225 v226 v211
  let v228 : BitVec 32 := Scalar.subi v227 v205
  let c1_i32_139 : BitVec 32 := 1#32
  let v230 : BitVec 32 := Scalar.divsi v228 c1_i32_139
  let v231 : BitVec 32 := Scalar.muli v230 c1_i32_139
  let v232 : BitVec 32 := Scalar.addi v205 v231
  let c1_i32_141 : BitVec 32 := 1#32
  let arg17 : BitVec 32 := Scf.iv v232 c1_i32_141 k0_t9
  let c1024_i32_377 : BitVec 32 := 1024#32
  let v699 : BitVec 32 := Scalar.muli arg17 c1024_i32_377
  let v700 : Index := Scalar.indexCast v699
  let c0_378 : Index := 0#32
  ![v700.toNat, 0]
def k0_off26 (v188 : BitVec 32) (v208 : BitVec 32) (k0_t9 : Fin (k0_t9_loop v188 v208).trips) : Fin 2 → Nat :=
  let c0_i32_122 : BitVec 32 := 0#32
  let v190 : BitVec 1 := Scalar.cmpi .sgt v188 c0_i32_122
  let v191 : BitVec 32 := Scalar.extui v190
  let c0_i32_123 : BitVec 32 := 0#32
  let v192 : BitVec 1 := Scalar.cmpi .slt v188 c0_i32_123
  let v193 : BitVec 32 := Scalar.extui v192
  let v194 : BitVec 32 := Scalar.subi v191 v193
  let c1024_i32_121 : BitVec 32 := 1024#32
  let c0_i32_124 : BitVec 32 := 0#32
  let v195 : BitVec 1 := Scalar.cmpi .sgt c1024_i32_121 c0_i32_124
  let v196 : BitVec 32 := Scalar.extui v195
  let c0_i32_125 : BitVec 32 := 0#32
  let v197 : BitVec 1 := Scalar.cmpi .slt c1024_i32_121 c0_i32_125
  let v198 : BitVec 32 := Scalar.extui v197
  let v199 : BitVec 32 := Scalar.subi v196 v198
  let v200 : BitVec 1 := Scalar.cmpi .ne v194 v199
  let v201 : BitVec 32 := Scalar.remsi v188 c1024_i32_121
  let c0_i32_126 : BitVec 32 := 0#32
  let v202 : BitVec 1 := Scalar.cmpi .ne v201 c0_i32_126
  let v203 : BitVec 1 := Scalar.andi v200 v202
  let v189 : BitVec 32 := Scalar.divsi v188 c1024_i32_121
  let c1_i32_127 : BitVec 32 := 1#32
  let v204 : BitVec 32 := Scalar.subi v189 c1_i32_127
  let v205 : BitVec 32 := Scalar.select v203 v204 v189
  let c1024_i32_130 : BitVec 32 := 1024#32
  let v209 : BitVec 32 := Scalar.addi v208 c1024_i32_130
  let c1_i32_131 : BitVec 32 := 1#32
  let v210 : BitVec 32 := Scalar.subi v209 c1_i32_131
  let c0_i32_133 : BitVec 32 := 0#32
  let v212 : BitVec 1 := Scalar.cmpi .sgt v210 c0_i32_133
  let v213 : BitVec 32 := Scalar.extui v212
  let c0_i32_134 : BitVec 32 := 0#32
  let v214 : BitVec 1 := Scalar.cmpi .slt v210 c0_i32_134
  let v215 : BitVec 32 := Scalar.extui v214
  let v216 : BitVec 32 := Scalar.subi v213 v215
  let c1024_i32_132 : BitVec 32 := 1024#32
  let c0_i32_135 : BitVec 32 := 0#32
  let v217 : BitVec 1 := Scalar.cmpi .sgt c1024_i32_132 c0_i32_135
  let v218 : BitVec 32 := Scalar.extui v217
  let c0_i32_136 : BitVec 32 := 0#32
  let v219 : BitVec 1 := Scalar.cmpi .slt c1024_i32_132 c0_i32_136
  let v220 : BitVec 32 := Scalar.extui v219
  let v221 : BitVec 32 := Scalar.subi v218 v220
  let v222 : BitVec 1 := Scalar.cmpi .ne v216 v221
  let v223 : BitVec 32 := Scalar.remsi v210 c1024_i32_132
  let c0_i32_137 : BitVec 32 := 0#32
  let v224 : BitVec 1 := Scalar.cmpi .ne v223 c0_i32_137
  let v225 : BitVec 1 := Scalar.andi v222 v224
  let v211 : BitVec 32 := Scalar.divsi v210 c1024_i32_132
  let c1_i32_138 : BitVec 32 := 1#32
  let v226 : BitVec 32 := Scalar.subi v211 c1_i32_138
  let v227 : BitVec 32 := Scalar.select v225 v226 v211
  let v228 : BitVec 32 := Scalar.subi v227 v205
  let c1_i32_139 : BitVec 32 := 1#32
  let v230 : BitVec 32 := Scalar.divsi v228 c1_i32_139
  let v231 : BitVec 32 := Scalar.muli v230 c1_i32_139
  let v232 : BitVec 32 := Scalar.addi v205 v231
  let c1_i32_141 : BitVec 32 := 1#32
  let arg17 : BitVec 32 := Scf.iv v232 c1_i32_141 k0_t9
  let c1024_i32_377 : BitVec 32 := 1024#32
  let v699 : BitVec 32 := Scalar.muli arg17 c1024_i32_377
  let v702 : Index := Scalar.indexCast v699
  let c0_379 : Index := 0#32
  ![v702.toNat, 0]
def k0_off27 (v188 : BitVec 32) (v208 : BitVec 32) (k0_t9 : Fin (k0_t9_loop v188 v208).trips) : Fin 2 → Nat :=
  let c0_381 : Index := 0#32
  let c0_i32_122 : BitVec 32 := 0#32
  let v190 : BitVec 1 := Scalar.cmpi .sgt v188 c0_i32_122
  let v191 : BitVec 32 := Scalar.extui v190
  let c0_i32_123 : BitVec 32 := 0#32
  let v192 : BitVec 1 := Scalar.cmpi .slt v188 c0_i32_123
  let v193 : BitVec 32 := Scalar.extui v192
  let v194 : BitVec 32 := Scalar.subi v191 v193
  let c1024_i32_121 : BitVec 32 := 1024#32
  let c0_i32_124 : BitVec 32 := 0#32
  let v195 : BitVec 1 := Scalar.cmpi .sgt c1024_i32_121 c0_i32_124
  let v196 : BitVec 32 := Scalar.extui v195
  let c0_i32_125 : BitVec 32 := 0#32
  let v197 : BitVec 1 := Scalar.cmpi .slt c1024_i32_121 c0_i32_125
  let v198 : BitVec 32 := Scalar.extui v197
  let v199 : BitVec 32 := Scalar.subi v196 v198
  let v200 : BitVec 1 := Scalar.cmpi .ne v194 v199
  let v201 : BitVec 32 := Scalar.remsi v188 c1024_i32_121
  let c0_i32_126 : BitVec 32 := 0#32
  let v202 : BitVec 1 := Scalar.cmpi .ne v201 c0_i32_126
  let v203 : BitVec 1 := Scalar.andi v200 v202
  let v189 : BitVec 32 := Scalar.divsi v188 c1024_i32_121
  let c1_i32_127 : BitVec 32 := 1#32
  let v204 : BitVec 32 := Scalar.subi v189 c1_i32_127
  let v205 : BitVec 32 := Scalar.select v203 v204 v189
  let c1024_i32_130 : BitVec 32 := 1024#32
  let v209 : BitVec 32 := Scalar.addi v208 c1024_i32_130
  let c1_i32_131 : BitVec 32 := 1#32
  let v210 : BitVec 32 := Scalar.subi v209 c1_i32_131
  let c0_i32_133 : BitVec 32 := 0#32
  let v212 : BitVec 1 := Scalar.cmpi .sgt v210 c0_i32_133
  let v213 : BitVec 32 := Scalar.extui v212
  let c0_i32_134 : BitVec 32 := 0#32
  let v214 : BitVec 1 := Scalar.cmpi .slt v210 c0_i32_134
  let v215 : BitVec 32 := Scalar.extui v214
  let v216 : BitVec 32 := Scalar.subi v213 v215
  let c1024_i32_132 : BitVec 32 := 1024#32
  let c0_i32_135 : BitVec 32 := 0#32
  let v217 : BitVec 1 := Scalar.cmpi .sgt c1024_i32_132 c0_i32_135
  let v218 : BitVec 32 := Scalar.extui v217
  let c0_i32_136 : BitVec 32 := 0#32
  let v219 : BitVec 1 := Scalar.cmpi .slt c1024_i32_132 c0_i32_136
  let v220 : BitVec 32 := Scalar.extui v219
  let v221 : BitVec 32 := Scalar.subi v218 v220
  let v222 : BitVec 1 := Scalar.cmpi .ne v216 v221
  let v223 : BitVec 32 := Scalar.remsi v210 c1024_i32_132
  let c0_i32_137 : BitVec 32 := 0#32
  let v224 : BitVec 1 := Scalar.cmpi .ne v223 c0_i32_137
  let v225 : BitVec 1 := Scalar.andi v222 v224
  let v211 : BitVec 32 := Scalar.divsi v210 c1024_i32_132
  let c1_i32_138 : BitVec 32 := 1#32
  let v226 : BitVec 32 := Scalar.subi v211 c1_i32_138
  let v227 : BitVec 32 := Scalar.select v225 v226 v211
  let v228 : BitVec 32 := Scalar.subi v227 v205
  let c1_i32_139 : BitVec 32 := 1#32
  let v230 : BitVec 32 := Scalar.divsi v228 c1_i32_139
  let v231 : BitVec 32 := Scalar.muli v230 c1_i32_139
  let v232 : BitVec 32 := Scalar.addi v205 v231
  let c1_i32_141 : BitVec 32 := 1#32
  let arg17 : BitVec 32 := Scf.iv v232 c1_i32_141 k0_t9
  let c1024_i32_377 : BitVec 32 := 1024#32
  let v699 : BitVec 32 := Scalar.muli arg17 c1024_i32_377
  let v705 : Index := Scalar.indexCast v699
  ![0, v705.toNat]

def k0_chk12 (v188 : BitVec 32) (v208 : BitVec 32) : Prop :=
  ((k0_t8_loop v188 v208).OK) ∧
  (∀ k0_t8 : Fin (k0_t8_loop v188 v208).trips, ∀ a, (k0_off22 v188 v208 k0_t8) a + S1024x32.size a ≤ S4096x32.size a) ∧
  (∀ k0_t8 : Fin (k0_t8_loop v188 v208).trips, ∀ a, (k0_off23 v188 v208 k0_t8) a + S1024x33.size a ≤ S4096x33.size a) ∧
  (∀ k0_t8 : Fin (k0_t8_loop v188 v208).trips, ∀ a, (k0_off24 v188 v208 k0_t8) a + S1x1024.size a ≤ S1x4096.size a) ∧
  ((k0_t9_loop v188 v208).OK) ∧
  (∀ k0_t9 : Fin (k0_t9_loop v188 v208).trips, ∀ a, (k0_off25 v188 v208 k0_t9) a + S1024x32.size a ≤ S4096x32.size a) ∧
  (∀ k0_t9 : Fin (k0_t9_loop v188 v208).trips, ∀ a, (k0_off26 v188 v208 k0_t9) a + S1024x33.size a ≤ S4096x33.size a) ∧
  (∀ k0_t9 : Fin (k0_t9_loop v188 v208).trips, ∀ a, (k0_off27 v188 v208 k0_t9) a + S1x1024.size a ≤ S1x4096.size a)
theorem k0_t8_ok : ∀ (v188 : BitVec 32) (v208 : BitVec 32) (k0_hw12 : k0_chk12 v188 v208), (k0_t8_loop v188 v208).OK := fun v188 v208 k0_hw12 => k0_hw12.1
theorem k0_off22_inb : ∀ (v188 : BitVec 32) (v208 : BitVec 32) (k0_hw12 : k0_chk12 v188 v208) (k0_t8 : Fin (k0_t8_loop v188 v208).trips), ∀ a, (k0_off22 v188 v208 k0_t8) a + S1024x32.size a ≤ S4096x32.size a := fun v188 v208 k0_hw12 k0_t8 => k0_hw12.2.1 k0_t8
theorem k0_off23_inb : ∀ (v188 : BitVec 32) (v208 : BitVec 32) (k0_hw12 : k0_chk12 v188 v208) (k0_t8 : Fin (k0_t8_loop v188 v208).trips), ∀ a, (k0_off23 v188 v208 k0_t8) a + S1024x33.size a ≤ S4096x33.size a := fun v188 v208 k0_hw12 k0_t8 => k0_hw12.2.2.1 k0_t8
theorem k0_off24_inb : ∀ (v188 : BitVec 32) (v208 : BitVec 32) (k0_hw12 : k0_chk12 v188 v208) (k0_t8 : Fin (k0_t8_loop v188 v208).trips), ∀ a, (k0_off24 v188 v208 k0_t8) a + S1x1024.size a ≤ S1x4096.size a := fun v188 v208 k0_hw12 k0_t8 => k0_hw12.2.2.2.1 k0_t8
theorem k0_t9_ok : ∀ (v188 : BitVec 32) (v208 : BitVec 32) (k0_hw12 : k0_chk12 v188 v208), (k0_t9_loop v188 v208).OK := fun v188 v208 k0_hw12 => k0_hw12.2.2.2.2.1
theorem k0_off25_inb : ∀ (v188 : BitVec 32) (v208 : BitVec 32) (k0_hw12 : k0_chk12 v188 v208) (k0_t9 : Fin (k0_t9_loop v188 v208).trips), ∀ a, (k0_off25 v188 v208 k0_t9) a + S1024x32.size a ≤ S4096x32.size a := fun v188 v208 k0_hw12 k0_t9 => k0_hw12.2.2.2.2.2.1 k0_t9
theorem k0_off26_inb : ∀ (v188 : BitVec 32) (v208 : BitVec 32) (k0_hw12 : k0_chk12 v188 v208) (k0_t9 : Fin (k0_t9_loop v188 v208).trips), ∀ a, (k0_off26 v188 v208 k0_t9) a + S1024x33.size a ≤ S4096x33.size a := fun v188 v208 k0_hw12 k0_t9 => k0_hw12.2.2.2.2.2.2.1 k0_t9
theorem k0_off27_inb : ∀ (v188 : BitVec 32) (v208 : BitVec 32) (k0_hw12 : k0_chk12 v188 v208) (k0_t9 : Fin (k0_t9_loop v188 v208).trips), ∀ a, (k0_off27 v188 v208 k0_t9) a + S1x1024.size a ≤ S1x4096.size a := fun v188 v208 k0_hw12 k0_t9 => k0_hw12.2.2.2.2.2.2.2 k0_t9

def k0_off28 (v256 : BitVec 32) : Fin 2 → Nat :=
  let c0_155 : Index := 0#32
  let v258 : Index := Scalar.indexCast v256
  ![0, v258.toNat]

def k0_chk13 (v256 : BitVec 32) : Prop :=
  (∀ a, (k0_off28 v256) a + S1x1.size a ≤ S1x5.size a)
theorem k0_off28_inb : ∀ (v256 : BitVec 32) (k0_hw13 : k0_chk13 v256), ∀ a, (k0_off28 v256) a + S1x1.size a ≤ S1x5.size a := fun v256 k0_hw13 => k0_hw13

def k0_off29 (v257 : BitVec 32) : Fin 2 → Nat :=
  let c0_164 : Index := 0#32
  let c1_i32_163 : BitVec 32 := 1#32
  let v277 : BitVec 32 := Scalar.addi v257 c1_i32_163
  let v278 : Index := Scalar.indexCast v277
  ![0, v278.toNat]

def k0_chk14 (v257 : BitVec 32) : Prop :=
  (∀ a, (k0_off29 v257) a + S1x1.size a ≤ S1x5.size a)
theorem k0_off29_inb : ∀ (v257 : BitVec 32) (k0_hw14 : k0_chk14 v257), ∀ a, (k0_off29 v257) a + S1x1.size a ≤ S1x5.size a := fun v257 k0_hw14 => k0_hw14

@[reducible] def k0_t10_loop (v259 : BitVec 32) (v279 : BitVec 32) : Scf.Loop 32 :=
  let c0_i32_157 : BitVec 32 := 0#32
  let v261 : BitVec 1 := Scalar.cmpi .sgt v259 c0_i32_157
  let v262 : BitVec 32 := Scalar.extui v261
  let c0_i32_158 : BitVec 32 := 0#32
  let v263 : BitVec 1 := Scalar.cmpi .slt v259 c0_i32_158
  let v264 : BitVec 32 := Scalar.extui v263
  let v265 : BitVec 32 := Scalar.subi v262 v264
  let c1024_i32_156 : BitVec 32 := 1024#32
  let c0_i32_159 : BitVec 32 := 0#32
  let v266 : BitVec 1 := Scalar.cmpi .sgt c1024_i32_156 c0_i32_159
  let v267 : BitVec 32 := Scalar.extui v266
  let c0_i32_160 : BitVec 32 := 0#32
  let v268 : BitVec 1 := Scalar.cmpi .slt c1024_i32_156 c0_i32_160
  let v269 : BitVec 32 := Scalar.extui v268
  let v270 : BitVec 32 := Scalar.subi v267 v269
  let v271 : BitVec 1 := Scalar.cmpi .ne v265 v270
  let v272 : BitVec 32 := Scalar.remsi v259 c1024_i32_156
  let c0_i32_161 : BitVec 32 := 0#32
  let v273 : BitVec 1 := Scalar.cmpi .ne v272 c0_i32_161
  let v274 : BitVec 1 := Scalar.andi v271 v273
  let v260 : BitVec 32 := Scalar.divsi v259 c1024_i32_156
  let c1_i32_162 : BitVec 32 := 1#32
  let v275 : BitVec 32 := Scalar.subi v260 c1_i32_162
  let v276 : BitVec 32 := Scalar.select v274 v275 v260
  let c1024_i32_165 : BitVec 32 := 1024#32
  let v280 : BitVec 32 := Scalar.addi v279 c1024_i32_165
  let c1_i32_166 : BitVec 32 := 1#32
  let v281 : BitVec 32 := Scalar.subi v280 c1_i32_166
  let c0_i32_168 : BitVec 32 := 0#32
  let v283 : BitVec 1 := Scalar.cmpi .sgt v281 c0_i32_168
  let v284 : BitVec 32 := Scalar.extui v283
  let c0_i32_169 : BitVec 32 := 0#32
  let v285 : BitVec 1 := Scalar.cmpi .slt v281 c0_i32_169
  let v286 : BitVec 32 := Scalar.extui v285
  let v287 : BitVec 32 := Scalar.subi v284 v286
  let c1024_i32_167 : BitVec 32 := 1024#32
  let c0_i32_170 : BitVec 32 := 0#32
  let v288 : BitVec 1 := Scalar.cmpi .sgt c1024_i32_167 c0_i32_170
  let v289 : BitVec 32 := Scalar.extui v288
  let c0_i32_171 : BitVec 32 := 0#32
  let v290 : BitVec 1 := Scalar.cmpi .slt c1024_i32_167 c0_i32_171
  let v291 : BitVec 32 := Scalar.extui v290
  let v292 : BitVec 32 := Scalar.subi v289 v291
  let v293 : BitVec 1 := Scalar.cmpi .ne v287 v292
  let v294 : BitVec 32 := Scalar.remsi v281 c1024_i32_167
  let c0_i32_172 : BitVec 32 := 0#32
  let v295 : BitVec 1 := Scalar.cmpi .ne v294 c0_i32_172
  let v296 : BitVec 1 := Scalar.andi v293 v295
  let v282 : BitVec 32 := Scalar.divsi v281 c1024_i32_167
  let c1_i32_173 : BitVec 32 := 1#32
  let v297 : BitVec 32 := Scalar.subi v282 c1_i32_173
  let v298 : BitVec 32 := Scalar.select v296 v297 v282
  let v299 : BitVec 32 := Scalar.subi v298 v276
  let c1_i32_174 : BitVec 32 := 1#32
  let v301 : BitVec 32 := Scalar.divsi v299 c1_i32_174
  let v302 : BitVec 32 := Scalar.muli v301 c1_i32_174
  let v303 : BitVec 32 := Scalar.addi v276 v302
  let c1_i32_175 : BitVec 32 := 1#32
  ⟨v276, v303, c1_i32_175⟩

def k0_off30 (v259 : BitVec 32) (v279 : BitVec 32) (k0_t10 : Fin (k0_t10_loop v259 v279).trips) : Fin 2 → Nat :=
  let c0_i32_157 : BitVec 32 := 0#32
  let v261 : BitVec 1 := Scalar.cmpi .sgt v259 c0_i32_157
  let v262 : BitVec 32 := Scalar.extui v261
  let c0_i32_158 : BitVec 32 := 0#32
  let v263 : BitVec 1 := Scalar.cmpi .slt v259 c0_i32_158
  let v264 : BitVec 32 := Scalar.extui v263
  let v265 : BitVec 32 := Scalar.subi v262 v264
  let c1024_i32_156 : BitVec 32 := 1024#32
  let c0_i32_159 : BitVec 32 := 0#32
  let v266 : BitVec 1 := Scalar.cmpi .sgt c1024_i32_156 c0_i32_159
  let v267 : BitVec 32 := Scalar.extui v266
  let c0_i32_160 : BitVec 32 := 0#32
  let v268 : BitVec 1 := Scalar.cmpi .slt c1024_i32_156 c0_i32_160
  let v269 : BitVec 32 := Scalar.extui v268
  let v270 : BitVec 32 := Scalar.subi v267 v269
  let v271 : BitVec 1 := Scalar.cmpi .ne v265 v270
  let v272 : BitVec 32 := Scalar.remsi v259 c1024_i32_156
  let c0_i32_161 : BitVec 32 := 0#32
  let v273 : BitVec 1 := Scalar.cmpi .ne v272 c0_i32_161
  let v274 : BitVec 1 := Scalar.andi v271 v273
  let v260 : BitVec 32 := Scalar.divsi v259 c1024_i32_156
  let c1_i32_162 : BitVec 32 := 1#32
  let v275 : BitVec 32 := Scalar.subi v260 c1_i32_162
  let v276 : BitVec 32 := Scalar.select v274 v275 v260
  let c1_i32_175 : BitVec 32 := 1#32
  let arg17 : BitVec 32 := Scf.iv v276 c1_i32_175 k0_t10
  let c1024_i32_377 : BitVec 32 := 1024#32
  let v699 : BitVec 32 := Scalar.muli arg17 c1024_i32_377
  let v700 : Index := Scalar.indexCast v699
  let c0_378 : Index := 0#32
  ![v700.toNat, 0]
def k0_off31 (v259 : BitVec 32) (v279 : BitVec 32) (k0_t10 : Fin (k0_t10_loop v259 v279).trips) : Fin 2 → Nat :=
  let c0_i32_157 : BitVec 32 := 0#32
  let v261 : BitVec 1 := Scalar.cmpi .sgt v259 c0_i32_157
  let v262 : BitVec 32 := Scalar.extui v261
  let c0_i32_158 : BitVec 32 := 0#32
  let v263 : BitVec 1 := Scalar.cmpi .slt v259 c0_i32_158
  let v264 : BitVec 32 := Scalar.extui v263
  let v265 : BitVec 32 := Scalar.subi v262 v264
  let c1024_i32_156 : BitVec 32 := 1024#32
  let c0_i32_159 : BitVec 32 := 0#32
  let v266 : BitVec 1 := Scalar.cmpi .sgt c1024_i32_156 c0_i32_159
  let v267 : BitVec 32 := Scalar.extui v266
  let c0_i32_160 : BitVec 32 := 0#32
  let v268 : BitVec 1 := Scalar.cmpi .slt c1024_i32_156 c0_i32_160
  let v269 : BitVec 32 := Scalar.extui v268
  let v270 : BitVec 32 := Scalar.subi v267 v269
  let v271 : BitVec 1 := Scalar.cmpi .ne v265 v270
  let v272 : BitVec 32 := Scalar.remsi v259 c1024_i32_156
  let c0_i32_161 : BitVec 32 := 0#32
  let v273 : BitVec 1 := Scalar.cmpi .ne v272 c0_i32_161
  let v274 : BitVec 1 := Scalar.andi v271 v273
  let v260 : BitVec 32 := Scalar.divsi v259 c1024_i32_156
  let c1_i32_162 : BitVec 32 := 1#32
  let v275 : BitVec 32 := Scalar.subi v260 c1_i32_162
  let v276 : BitVec 32 := Scalar.select v274 v275 v260
  let c1_i32_175 : BitVec 32 := 1#32
  let arg17 : BitVec 32 := Scf.iv v276 c1_i32_175 k0_t10
  let c1024_i32_377 : BitVec 32 := 1024#32
  let v699 : BitVec 32 := Scalar.muli arg17 c1024_i32_377
  let v702 : Index := Scalar.indexCast v699
  let c0_379 : Index := 0#32
  ![v702.toNat, 0]
def k0_off32 (v259 : BitVec 32) (v279 : BitVec 32) (k0_t10 : Fin (k0_t10_loop v259 v279).trips) : Fin 2 → Nat :=
  let c0_381 : Index := 0#32
  let c0_i32_157 : BitVec 32 := 0#32
  let v261 : BitVec 1 := Scalar.cmpi .sgt v259 c0_i32_157
  let v262 : BitVec 32 := Scalar.extui v261
  let c0_i32_158 : BitVec 32 := 0#32
  let v263 : BitVec 1 := Scalar.cmpi .slt v259 c0_i32_158
  let v264 : BitVec 32 := Scalar.extui v263
  let v265 : BitVec 32 := Scalar.subi v262 v264
  let c1024_i32_156 : BitVec 32 := 1024#32
  let c0_i32_159 : BitVec 32 := 0#32
  let v266 : BitVec 1 := Scalar.cmpi .sgt c1024_i32_156 c0_i32_159
  let v267 : BitVec 32 := Scalar.extui v266
  let c0_i32_160 : BitVec 32 := 0#32
  let v268 : BitVec 1 := Scalar.cmpi .slt c1024_i32_156 c0_i32_160
  let v269 : BitVec 32 := Scalar.extui v268
  let v270 : BitVec 32 := Scalar.subi v267 v269
  let v271 : BitVec 1 := Scalar.cmpi .ne v265 v270
  let v272 : BitVec 32 := Scalar.remsi v259 c1024_i32_156
  let c0_i32_161 : BitVec 32 := 0#32
  let v273 : BitVec 1 := Scalar.cmpi .ne v272 c0_i32_161
  let v274 : BitVec 1 := Scalar.andi v271 v273
  let v260 : BitVec 32 := Scalar.divsi v259 c1024_i32_156
  let c1_i32_162 : BitVec 32 := 1#32
  let v275 : BitVec 32 := Scalar.subi v260 c1_i32_162
  let v276 : BitVec 32 := Scalar.select v274 v275 v260
  let c1_i32_175 : BitVec 32 := 1#32
  let arg17 : BitVec 32 := Scf.iv v276 c1_i32_175 k0_t10
  let c1024_i32_377 : BitVec 32 := 1024#32
  let v699 : BitVec 32 := Scalar.muli arg17 c1024_i32_377
  let v705 : Index := Scalar.indexCast v699
  ![0, v705.toNat]
@[reducible] def k0_t11_loop (v259 : BitVec 32) (v279 : BitVec 32) : Scf.Loop 32 :=
  let c0_i32_157 : BitVec 32 := 0#32
  let v261 : BitVec 1 := Scalar.cmpi .sgt v259 c0_i32_157
  let v262 : BitVec 32 := Scalar.extui v261
  let c0_i32_158 : BitVec 32 := 0#32
  let v263 : BitVec 1 := Scalar.cmpi .slt v259 c0_i32_158
  let v264 : BitVec 32 := Scalar.extui v263
  let v265 : BitVec 32 := Scalar.subi v262 v264
  let c1024_i32_156 : BitVec 32 := 1024#32
  let c0_i32_159 : BitVec 32 := 0#32
  let v266 : BitVec 1 := Scalar.cmpi .sgt c1024_i32_156 c0_i32_159
  let v267 : BitVec 32 := Scalar.extui v266
  let c0_i32_160 : BitVec 32 := 0#32
  let v268 : BitVec 1 := Scalar.cmpi .slt c1024_i32_156 c0_i32_160
  let v269 : BitVec 32 := Scalar.extui v268
  let v270 : BitVec 32 := Scalar.subi v267 v269
  let v271 : BitVec 1 := Scalar.cmpi .ne v265 v270
  let v272 : BitVec 32 := Scalar.remsi v259 c1024_i32_156
  let c0_i32_161 : BitVec 32 := 0#32
  let v273 : BitVec 1 := Scalar.cmpi .ne v272 c0_i32_161
  let v274 : BitVec 1 := Scalar.andi v271 v273
  let v260 : BitVec 32 := Scalar.divsi v259 c1024_i32_156
  let c1_i32_162 : BitVec 32 := 1#32
  let v275 : BitVec 32 := Scalar.subi v260 c1_i32_162
  let v276 : BitVec 32 := Scalar.select v274 v275 v260
  let c1024_i32_165 : BitVec 32 := 1024#32
  let v280 : BitVec 32 := Scalar.addi v279 c1024_i32_165
  let c1_i32_166 : BitVec 32 := 1#32
  let v281 : BitVec 32 := Scalar.subi v280 c1_i32_166
  let c0_i32_168 : BitVec 32 := 0#32
  let v283 : BitVec 1 := Scalar.cmpi .sgt v281 c0_i32_168
  let v284 : BitVec 32 := Scalar.extui v283
  let c0_i32_169 : BitVec 32 := 0#32
  let v285 : BitVec 1 := Scalar.cmpi .slt v281 c0_i32_169
  let v286 : BitVec 32 := Scalar.extui v285
  let v287 : BitVec 32 := Scalar.subi v284 v286
  let c1024_i32_167 : BitVec 32 := 1024#32
  let c0_i32_170 : BitVec 32 := 0#32
  let v288 : BitVec 1 := Scalar.cmpi .sgt c1024_i32_167 c0_i32_170
  let v289 : BitVec 32 := Scalar.extui v288
  let c0_i32_171 : BitVec 32 := 0#32
  let v290 : BitVec 1 := Scalar.cmpi .slt c1024_i32_167 c0_i32_171
  let v291 : BitVec 32 := Scalar.extui v290
  let v292 : BitVec 32 := Scalar.subi v289 v291
  let v293 : BitVec 1 := Scalar.cmpi .ne v287 v292
  let v294 : BitVec 32 := Scalar.remsi v281 c1024_i32_167
  let c0_i32_172 : BitVec 32 := 0#32
  let v295 : BitVec 1 := Scalar.cmpi .ne v294 c0_i32_172
  let v296 : BitVec 1 := Scalar.andi v293 v295
  let v282 : BitVec 32 := Scalar.divsi v281 c1024_i32_167
  let c1_i32_173 : BitVec 32 := 1#32
  let v297 : BitVec 32 := Scalar.subi v282 c1_i32_173
  let v298 : BitVec 32 := Scalar.select v296 v297 v282
  let v299 : BitVec 32 := Scalar.subi v298 v276
  let c1_i32_174 : BitVec 32 := 1#32
  let v301 : BitVec 32 := Scalar.divsi v299 c1_i32_174
  let v302 : BitVec 32 := Scalar.muli v301 c1_i32_174
  let v303 : BitVec 32 := Scalar.addi v276 v302
  let v300 : BitVec 32 := Scalar.addi v276 v299
  let c1_i32_176 : BitVec 32 := 1#32
  ⟨v303, v300, c1_i32_176⟩
def k0_off33 (v259 : BitVec 32) (v279 : BitVec 32) (k0_t11 : Fin (k0_t11_loop v259 v279).trips) : Fin 2 → Nat :=
  let c0_i32_157 : BitVec 32 := 0#32
  let v261 : BitVec 1 := Scalar.cmpi .sgt v259 c0_i32_157
  let v262 : BitVec 32 := Scalar.extui v261
  let c0_i32_158 : BitVec 32 := 0#32
  let v263 : BitVec 1 := Scalar.cmpi .slt v259 c0_i32_158
  let v264 : BitVec 32 := Scalar.extui v263
  let v265 : BitVec 32 := Scalar.subi v262 v264
  let c1024_i32_156 : BitVec 32 := 1024#32
  let c0_i32_159 : BitVec 32 := 0#32
  let v266 : BitVec 1 := Scalar.cmpi .sgt c1024_i32_156 c0_i32_159
  let v267 : BitVec 32 := Scalar.extui v266
  let c0_i32_160 : BitVec 32 := 0#32
  let v268 : BitVec 1 := Scalar.cmpi .slt c1024_i32_156 c0_i32_160
  let v269 : BitVec 32 := Scalar.extui v268
  let v270 : BitVec 32 := Scalar.subi v267 v269
  let v271 : BitVec 1 := Scalar.cmpi .ne v265 v270
  let v272 : BitVec 32 := Scalar.remsi v259 c1024_i32_156
  let c0_i32_161 : BitVec 32 := 0#32
  let v273 : BitVec 1 := Scalar.cmpi .ne v272 c0_i32_161
  let v274 : BitVec 1 := Scalar.andi v271 v273
  let v260 : BitVec 32 := Scalar.divsi v259 c1024_i32_156
  let c1_i32_162 : BitVec 32 := 1#32
  let v275 : BitVec 32 := Scalar.subi v260 c1_i32_162
  let v276 : BitVec 32 := Scalar.select v274 v275 v260
  let c1024_i32_165 : BitVec 32 := 1024#32
  let v280 : BitVec 32 := Scalar.addi v279 c1024_i32_165
  let c1_i32_166 : BitVec 32 := 1#32
  let v281 : BitVec 32 := Scalar.subi v280 c1_i32_166
  let c0_i32_168 : BitVec 32 := 0#32
  let v283 : BitVec 1 := Scalar.cmpi .sgt v281 c0_i32_168
  let v284 : BitVec 32 := Scalar.extui v283
  let c0_i32_169 : BitVec 32 := 0#32
  let v285 : BitVec 1 := Scalar.cmpi .slt v281 c0_i32_169
  let v286 : BitVec 32 := Scalar.extui v285
  let v287 : BitVec 32 := Scalar.subi v284 v286
  let c1024_i32_167 : BitVec 32 := 1024#32
  let c0_i32_170 : BitVec 32 := 0#32
  let v288 : BitVec 1 := Scalar.cmpi .sgt c1024_i32_167 c0_i32_170
  let v289 : BitVec 32 := Scalar.extui v288
  let c0_i32_171 : BitVec 32 := 0#32
  let v290 : BitVec 1 := Scalar.cmpi .slt c1024_i32_167 c0_i32_171
  let v291 : BitVec 32 := Scalar.extui v290
  let v292 : BitVec 32 := Scalar.subi v289 v291
  let v293 : BitVec 1 := Scalar.cmpi .ne v287 v292
  let v294 : BitVec 32 := Scalar.remsi v281 c1024_i32_167
  let c0_i32_172 : BitVec 32 := 0#32
  let v295 : BitVec 1 := Scalar.cmpi .ne v294 c0_i32_172
  let v296 : BitVec 1 := Scalar.andi v293 v295
  let v282 : BitVec 32 := Scalar.divsi v281 c1024_i32_167
  let c1_i32_173 : BitVec 32 := 1#32
  let v297 : BitVec 32 := Scalar.subi v282 c1_i32_173
  let v298 : BitVec 32 := Scalar.select v296 v297 v282
  let v299 : BitVec 32 := Scalar.subi v298 v276
  let c1_i32_174 : BitVec 32 := 1#32
  let v301 : BitVec 32 := Scalar.divsi v299 c1_i32_174
  let v302 : BitVec 32 := Scalar.muli v301 c1_i32_174
  let v303 : BitVec 32 := Scalar.addi v276 v302
  let c1_i32_176 : BitVec 32 := 1#32
  let arg17 : BitVec 32 := Scf.iv v303 c1_i32_176 k0_t11
  let c1024_i32_377 : BitVec 32 := 1024#32
  let v699 : BitVec 32 := Scalar.muli arg17 c1024_i32_377
  let v700 : Index := Scalar.indexCast v699
  let c0_378 : Index := 0#32
  ![v700.toNat, 0]
def k0_off34 (v259 : BitVec 32) (v279 : BitVec 32) (k0_t11 : Fin (k0_t11_loop v259 v279).trips) : Fin 2 → Nat :=
  let c0_i32_157 : BitVec 32 := 0#32
  let v261 : BitVec 1 := Scalar.cmpi .sgt v259 c0_i32_157
  let v262 : BitVec 32 := Scalar.extui v261
  let c0_i32_158 : BitVec 32 := 0#32
  let v263 : BitVec 1 := Scalar.cmpi .slt v259 c0_i32_158
  let v264 : BitVec 32 := Scalar.extui v263
  let v265 : BitVec 32 := Scalar.subi v262 v264
  let c1024_i32_156 : BitVec 32 := 1024#32
  let c0_i32_159 : BitVec 32 := 0#32
  let v266 : BitVec 1 := Scalar.cmpi .sgt c1024_i32_156 c0_i32_159
  let v267 : BitVec 32 := Scalar.extui v266
  let c0_i32_160 : BitVec 32 := 0#32
  let v268 : BitVec 1 := Scalar.cmpi .slt c1024_i32_156 c0_i32_160
  let v269 : BitVec 32 := Scalar.extui v268
  let v270 : BitVec 32 := Scalar.subi v267 v269
  let v271 : BitVec 1 := Scalar.cmpi .ne v265 v270
  let v272 : BitVec 32 := Scalar.remsi v259 c1024_i32_156
  let c0_i32_161 : BitVec 32 := 0#32
  let v273 : BitVec 1 := Scalar.cmpi .ne v272 c0_i32_161
  let v274 : BitVec 1 := Scalar.andi v271 v273
  let v260 : BitVec 32 := Scalar.divsi v259 c1024_i32_156
  let c1_i32_162 : BitVec 32 := 1#32
  let v275 : BitVec 32 := Scalar.subi v260 c1_i32_162
  let v276 : BitVec 32 := Scalar.select v274 v275 v260
  let c1024_i32_165 : BitVec 32 := 1024#32
  let v280 : BitVec 32 := Scalar.addi v279 c1024_i32_165
  let c1_i32_166 : BitVec 32 := 1#32
  let v281 : BitVec 32 := Scalar.subi v280 c1_i32_166
  let c0_i32_168 : BitVec 32 := 0#32
  let v283 : BitVec 1 := Scalar.cmpi .sgt v281 c0_i32_168
  let v284 : BitVec 32 := Scalar.extui v283
  let c0_i32_169 : BitVec 32 := 0#32
  let v285 : BitVec 1 := Scalar.cmpi .slt v281 c0_i32_169
  let v286 : BitVec 32 := Scalar.extui v285
  let v287 : BitVec 32 := Scalar.subi v284 v286
  let c1024_i32_167 : BitVec 32 := 1024#32
  let c0_i32_170 : BitVec 32 := 0#32
  let v288 : BitVec 1 := Scalar.cmpi .sgt c1024_i32_167 c0_i32_170
  let v289 : BitVec 32 := Scalar.extui v288
  let c0_i32_171 : BitVec 32 := 0#32
  let v290 : BitVec 1 := Scalar.cmpi .slt c1024_i32_167 c0_i32_171
  let v291 : BitVec 32 := Scalar.extui v290
  let v292 : BitVec 32 := Scalar.subi v289 v291
  let v293 : BitVec 1 := Scalar.cmpi .ne v287 v292
  let v294 : BitVec 32 := Scalar.remsi v281 c1024_i32_167
  let c0_i32_172 : BitVec 32 := 0#32
  let v295 : BitVec 1 := Scalar.cmpi .ne v294 c0_i32_172
  let v296 : BitVec 1 := Scalar.andi v293 v295
  let v282 : BitVec 32 := Scalar.divsi v281 c1024_i32_167
  let c1_i32_173 : BitVec 32 := 1#32
  let v297 : BitVec 32 := Scalar.subi v282 c1_i32_173
  let v298 : BitVec 32 := Scalar.select v296 v297 v282
  let v299 : BitVec 32 := Scalar.subi v298 v276
  let c1_i32_174 : BitVec 32 := 1#32
  let v301 : BitVec 32 := Scalar.divsi v299 c1_i32_174
  let v302 : BitVec 32 := Scalar.muli v301 c1_i32_174
  let v303 : BitVec 32 := Scalar.addi v276 v302
  let c1_i32_176 : BitVec 32 := 1#32
  let arg17 : BitVec 32 := Scf.iv v303 c1_i32_176 k0_t11
  let c1024_i32_377 : BitVec 32 := 1024#32
  let v699 : BitVec 32 := Scalar.muli arg17 c1024_i32_377
  let v702 : Index := Scalar.indexCast v699
  let c0_379 : Index := 0#32
  ![v702.toNat, 0]
def k0_off35 (v259 : BitVec 32) (v279 : BitVec 32) (k0_t11 : Fin (k0_t11_loop v259 v279).trips) : Fin 2 → Nat :=
  let c0_381 : Index := 0#32
  let c0_i32_157 : BitVec 32 := 0#32
  let v261 : BitVec 1 := Scalar.cmpi .sgt v259 c0_i32_157
  let v262 : BitVec 32 := Scalar.extui v261
  let c0_i32_158 : BitVec 32 := 0#32
  let v263 : BitVec 1 := Scalar.cmpi .slt v259 c0_i32_158
  let v264 : BitVec 32 := Scalar.extui v263
  let v265 : BitVec 32 := Scalar.subi v262 v264
  let c1024_i32_156 : BitVec 32 := 1024#32
  let c0_i32_159 : BitVec 32 := 0#32
  let v266 : BitVec 1 := Scalar.cmpi .sgt c1024_i32_156 c0_i32_159
  let v267 : BitVec 32 := Scalar.extui v266
  let c0_i32_160 : BitVec 32 := 0#32
  let v268 : BitVec 1 := Scalar.cmpi .slt c1024_i32_156 c0_i32_160
  let v269 : BitVec 32 := Scalar.extui v268
  let v270 : BitVec 32 := Scalar.subi v267 v269
  let v271 : BitVec 1 := Scalar.cmpi .ne v265 v270
  let v272 : BitVec 32 := Scalar.remsi v259 c1024_i32_156
  let c0_i32_161 : BitVec 32 := 0#32
  let v273 : BitVec 1 := Scalar.cmpi .ne v272 c0_i32_161
  let v274 : BitVec 1 := Scalar.andi v271 v273
  let v260 : BitVec 32 := Scalar.divsi v259 c1024_i32_156
  let c1_i32_162 : BitVec 32 := 1#32
  let v275 : BitVec 32 := Scalar.subi v260 c1_i32_162
  let v276 : BitVec 32 := Scalar.select v274 v275 v260
  let c1024_i32_165 : BitVec 32 := 1024#32
  let v280 : BitVec 32 := Scalar.addi v279 c1024_i32_165
  let c1_i32_166 : BitVec 32 := 1#32
  let v281 : BitVec 32 := Scalar.subi v280 c1_i32_166
  let c0_i32_168 : BitVec 32 := 0#32
  let v283 : BitVec 1 := Scalar.cmpi .sgt v281 c0_i32_168
  let v284 : BitVec 32 := Scalar.extui v283
  let c0_i32_169 : BitVec 32 := 0#32
  let v285 : BitVec 1 := Scalar.cmpi .slt v281 c0_i32_169
  let v286 : BitVec 32 := Scalar.extui v285
  let v287 : BitVec 32 := Scalar.subi v284 v286
  let c1024_i32_167 : BitVec 32 := 1024#32
  let c0_i32_170 : BitVec 32 := 0#32
  let v288 : BitVec 1 := Scalar.cmpi .sgt c1024_i32_167 c0_i32_170
  let v289 : BitVec 32 := Scalar.extui v288
  let c0_i32_171 : BitVec 32 := 0#32
  let v290 : BitVec 1 := Scalar.cmpi .slt c1024_i32_167 c0_i32_171
  let v291 : BitVec 32 := Scalar.extui v290
  let v292 : BitVec 32 := Scalar.subi v289 v291
  let v293 : BitVec 1 := Scalar.cmpi .ne v287 v292
  let v294 : BitVec 32 := Scalar.remsi v281 c1024_i32_167
  let c0_i32_172 : BitVec 32 := 0#32
  let v295 : BitVec 1 := Scalar.cmpi .ne v294 c0_i32_172
  let v296 : BitVec 1 := Scalar.andi v293 v295
  let v282 : BitVec 32 := Scalar.divsi v281 c1024_i32_167
  let c1_i32_173 : BitVec 32 := 1#32
  let v297 : BitVec 32 := Scalar.subi v282 c1_i32_173
  let v298 : BitVec 32 := Scalar.select v296 v297 v282
  let v299 : BitVec 32 := Scalar.subi v298 v276
  let c1_i32_174 : BitVec 32 := 1#32
  let v301 : BitVec 32 := Scalar.divsi v299 c1_i32_174
  let v302 : BitVec 32 := Scalar.muli v301 c1_i32_174
  let v303 : BitVec 32 := Scalar.addi v276 v302
  let c1_i32_176 : BitVec 32 := 1#32
  let arg17 : BitVec 32 := Scf.iv v303 c1_i32_176 k0_t11
  let c1024_i32_377 : BitVec 32 := 1024#32
  let v699 : BitVec 32 := Scalar.muli arg17 c1024_i32_377
  let v705 : Index := Scalar.indexCast v699
  ![0, v705.toNat]

def k0_chk15 (v259 : BitVec 32) (v279 : BitVec 32) : Prop :=
  ((k0_t10_loop v259 v279).OK) ∧
  (∀ k0_t10 : Fin (k0_t10_loop v259 v279).trips, ∀ a, (k0_off30 v259 v279 k0_t10) a + S1024x32.size a ≤ S4096x32.size a) ∧
  (∀ k0_t10 : Fin (k0_t10_loop v259 v279).trips, ∀ a, (k0_off31 v259 v279 k0_t10) a + S1024x33.size a ≤ S4096x33.size a) ∧
  (∀ k0_t10 : Fin (k0_t10_loop v259 v279).trips, ∀ a, (k0_off32 v259 v279 k0_t10) a + S1x1024.size a ≤ S1x4096.size a) ∧
  ((k0_t11_loop v259 v279).OK) ∧
  (∀ k0_t11 : Fin (k0_t11_loop v259 v279).trips, ∀ a, (k0_off33 v259 v279 k0_t11) a + S1024x32.size a ≤ S4096x32.size a) ∧
  (∀ k0_t11 : Fin (k0_t11_loop v259 v279).trips, ∀ a, (k0_off34 v259 v279 k0_t11) a + S1024x33.size a ≤ S4096x33.size a) ∧
  (∀ k0_t11 : Fin (k0_t11_loop v259 v279).trips, ∀ a, (k0_off35 v259 v279 k0_t11) a + S1x1024.size a ≤ S1x4096.size a)
theorem k0_t10_ok : ∀ (v259 : BitVec 32) (v279 : BitVec 32) (k0_hw15 : k0_chk15 v259 v279), (k0_t10_loop v259 v279).OK := fun v259 v279 k0_hw15 => k0_hw15.1
theorem k0_off30_inb : ∀ (v259 : BitVec 32) (v279 : BitVec 32) (k0_hw15 : k0_chk15 v259 v279) (k0_t10 : Fin (k0_t10_loop v259 v279).trips), ∀ a, (k0_off30 v259 v279 k0_t10) a + S1024x32.size a ≤ S4096x32.size a := fun v259 v279 k0_hw15 k0_t10 => k0_hw15.2.1 k0_t10
theorem k0_off31_inb : ∀ (v259 : BitVec 32) (v279 : BitVec 32) (k0_hw15 : k0_chk15 v259 v279) (k0_t10 : Fin (k0_t10_loop v259 v279).trips), ∀ a, (k0_off31 v259 v279 k0_t10) a + S1024x33.size a ≤ S4096x33.size a := fun v259 v279 k0_hw15 k0_t10 => k0_hw15.2.2.1 k0_t10
theorem k0_off32_inb : ∀ (v259 : BitVec 32) (v279 : BitVec 32) (k0_hw15 : k0_chk15 v259 v279) (k0_t10 : Fin (k0_t10_loop v259 v279).trips), ∀ a, (k0_off32 v259 v279 k0_t10) a + S1x1024.size a ≤ S1x4096.size a := fun v259 v279 k0_hw15 k0_t10 => k0_hw15.2.2.2.1 k0_t10
theorem k0_t11_ok : ∀ (v259 : BitVec 32) (v279 : BitVec 32) (k0_hw15 : k0_chk15 v259 v279), (k0_t11_loop v259 v279).OK := fun v259 v279 k0_hw15 => k0_hw15.2.2.2.2.1
theorem k0_off33_inb : ∀ (v259 : BitVec 32) (v279 : BitVec 32) (k0_hw15 : k0_chk15 v259 v279) (k0_t11 : Fin (k0_t11_loop v259 v279).trips), ∀ a, (k0_off33 v259 v279 k0_t11) a + S1024x32.size a ≤ S4096x32.size a := fun v259 v279 k0_hw15 k0_t11 => k0_hw15.2.2.2.2.2.1 k0_t11
theorem k0_off34_inb : ∀ (v259 : BitVec 32) (v279 : BitVec 32) (k0_hw15 : k0_chk15 v259 v279) (k0_t11 : Fin (k0_t11_loop v259 v279).trips), ∀ a, (k0_off34 v259 v279 k0_t11) a + S1024x33.size a ≤ S4096x33.size a := fun v259 v279 k0_hw15 k0_t11 => k0_hw15.2.2.2.2.2.2.1 k0_t11
theorem k0_off35_inb : ∀ (v259 : BitVec 32) (v279 : BitVec 32) (k0_hw15 : k0_chk15 v259 v279) (k0_t11 : Fin (k0_t11_loop v259 v279).trips), ∀ a, (k0_off35 v259 v279 k0_t11) a + S1x1024.size a ≤ S1x4096.size a := fun v259 v279 k0_hw15 k0_t11 => k0_hw15.2.2.2.2.2.2.2 k0_t11

def k0_off36 (v327 : BitVec 32) : Fin 2 → Nat :=
  let c0_190 : Index := 0#32
  let v329 : Index := Scalar.indexCast v327
  ![0, v329.toNat]

def k0_chk16 (v327 : BitVec 32) : Prop :=
  (∀ a, (k0_off36 v327) a + S1x1.size a ≤ S1x5.size a)
theorem k0_off36_inb : ∀ (v327 : BitVec 32) (k0_hw16 : k0_chk16 v327), ∀ a, (k0_off36 v327) a + S1x1.size a ≤ S1x5.size a := fun v327 k0_hw16 => k0_hw16

def k0_off37 (v328 : BitVec 32) : Fin 2 → Nat :=
  let c0_199 : Index := 0#32
  let c1_i32_198 : BitVec 32 := 1#32
  let v348 : BitVec 32 := Scalar.addi v328 c1_i32_198
  let v349 : Index := Scalar.indexCast v348
  ![0, v349.toNat]

def k0_chk17 (v328 : BitVec 32) : Prop :=
  (∀ a, (k0_off37 v328) a + S1x1.size a ≤ S1x5.size a)
theorem k0_off37_inb : ∀ (v328 : BitVec 32) (k0_hw17 : k0_chk17 v328), ∀ a, (k0_off37 v328) a + S1x1.size a ≤ S1x5.size a := fun v328 k0_hw17 => k0_hw17

@[reducible] def k0_t12_loop (v330 : BitVec 32) (v350 : BitVec 32) : Scf.Loop 32 :=
  let c0_i32_192 : BitVec 32 := 0#32
  let v332 : BitVec 1 := Scalar.cmpi .sgt v330 c0_i32_192
  let v333 : BitVec 32 := Scalar.extui v332
  let c0_i32_193 : BitVec 32 := 0#32
  let v334 : BitVec 1 := Scalar.cmpi .slt v330 c0_i32_193
  let v335 : BitVec 32 := Scalar.extui v334
  let v336 : BitVec 32 := Scalar.subi v333 v335
  let c1024_i32_191 : BitVec 32 := 1024#32
  let c0_i32_194 : BitVec 32 := 0#32
  let v337 : BitVec 1 := Scalar.cmpi .sgt c1024_i32_191 c0_i32_194
  let v338 : BitVec 32 := Scalar.extui v337
  let c0_i32_195 : BitVec 32 := 0#32
  let v339 : BitVec 1 := Scalar.cmpi .slt c1024_i32_191 c0_i32_195
  let v340 : BitVec 32 := Scalar.extui v339
  let v341 : BitVec 32 := Scalar.subi v338 v340
  let v342 : BitVec 1 := Scalar.cmpi .ne v336 v341
  let v343 : BitVec 32 := Scalar.remsi v330 c1024_i32_191
  let c0_i32_196 : BitVec 32 := 0#32
  let v344 : BitVec 1 := Scalar.cmpi .ne v343 c0_i32_196
  let v345 : BitVec 1 := Scalar.andi v342 v344
  let v331 : BitVec 32 := Scalar.divsi v330 c1024_i32_191
  let c1_i32_197 : BitVec 32 := 1#32
  let v346 : BitVec 32 := Scalar.subi v331 c1_i32_197
  let v347 : BitVec 32 := Scalar.select v345 v346 v331
  let c1024_i32_200 : BitVec 32 := 1024#32
  let v351 : BitVec 32 := Scalar.addi v350 c1024_i32_200
  let c1_i32_201 : BitVec 32 := 1#32
  let v352 : BitVec 32 := Scalar.subi v351 c1_i32_201
  let c0_i32_203 : BitVec 32 := 0#32
  let v354 : BitVec 1 := Scalar.cmpi .sgt v352 c0_i32_203
  let v355 : BitVec 32 := Scalar.extui v354
  let c0_i32_204 : BitVec 32 := 0#32
  let v356 : BitVec 1 := Scalar.cmpi .slt v352 c0_i32_204
  let v357 : BitVec 32 := Scalar.extui v356
  let v358 : BitVec 32 := Scalar.subi v355 v357
  let c1024_i32_202 : BitVec 32 := 1024#32
  let c0_i32_205 : BitVec 32 := 0#32
  let v359 : BitVec 1 := Scalar.cmpi .sgt c1024_i32_202 c0_i32_205
  let v360 : BitVec 32 := Scalar.extui v359
  let c0_i32_206 : BitVec 32 := 0#32
  let v361 : BitVec 1 := Scalar.cmpi .slt c1024_i32_202 c0_i32_206
  let v362 : BitVec 32 := Scalar.extui v361
  let v363 : BitVec 32 := Scalar.subi v360 v362
  let v364 : BitVec 1 := Scalar.cmpi .ne v358 v363
  let v365 : BitVec 32 := Scalar.remsi v352 c1024_i32_202
  let c0_i32_207 : BitVec 32 := 0#32
  let v366 : BitVec 1 := Scalar.cmpi .ne v365 c0_i32_207
  let v367 : BitVec 1 := Scalar.andi v364 v366
  let v353 : BitVec 32 := Scalar.divsi v352 c1024_i32_202
  let c1_i32_208 : BitVec 32 := 1#32
  let v368 : BitVec 32 := Scalar.subi v353 c1_i32_208
  let v369 : BitVec 32 := Scalar.select v367 v368 v353
  let v370 : BitVec 32 := Scalar.subi v369 v347
  let c1_i32_209 : BitVec 32 := 1#32
  let v372 : BitVec 32 := Scalar.divsi v370 c1_i32_209
  let v373 : BitVec 32 := Scalar.muli v372 c1_i32_209
  let v374 : BitVec 32 := Scalar.addi v347 v373
  let c1_i32_210 : BitVec 32 := 1#32
  ⟨v347, v374, c1_i32_210⟩

def k0_off38 (v330 : BitVec 32) (v350 : BitVec 32) (k0_t12 : Fin (k0_t12_loop v330 v350).trips) : Fin 2 → Nat :=
  let c0_i32_192 : BitVec 32 := 0#32
  let v332 : BitVec 1 := Scalar.cmpi .sgt v330 c0_i32_192
  let v333 : BitVec 32 := Scalar.extui v332
  let c0_i32_193 : BitVec 32 := 0#32
  let v334 : BitVec 1 := Scalar.cmpi .slt v330 c0_i32_193
  let v335 : BitVec 32 := Scalar.extui v334
  let v336 : BitVec 32 := Scalar.subi v333 v335
  let c1024_i32_191 : BitVec 32 := 1024#32
  let c0_i32_194 : BitVec 32 := 0#32
  let v337 : BitVec 1 := Scalar.cmpi .sgt c1024_i32_191 c0_i32_194
  let v338 : BitVec 32 := Scalar.extui v337
  let c0_i32_195 : BitVec 32 := 0#32
  let v339 : BitVec 1 := Scalar.cmpi .slt c1024_i32_191 c0_i32_195
  let v340 : BitVec 32 := Scalar.extui v339
  let v341 : BitVec 32 := Scalar.subi v338 v340
  let v342 : BitVec 1 := Scalar.cmpi .ne v336 v341
  let v343 : BitVec 32 := Scalar.remsi v330 c1024_i32_191
  let c0_i32_196 : BitVec 32 := 0#32
  let v344 : BitVec 1 := Scalar.cmpi .ne v343 c0_i32_196
  let v345 : BitVec 1 := Scalar.andi v342 v344
  let v331 : BitVec 32 := Scalar.divsi v330 c1024_i32_191
  let c1_i32_197 : BitVec 32 := 1#32
  let v346 : BitVec 32 := Scalar.subi v331 c1_i32_197
  let v347 : BitVec 32 := Scalar.select v345 v346 v331
  let c1_i32_210 : BitVec 32 := 1#32
  let arg17 : BitVec 32 := Scf.iv v347 c1_i32_210 k0_t12
  let c1024_i32_377 : BitVec 32 := 1024#32
  let v699 : BitVec 32 := Scalar.muli arg17 c1024_i32_377
  let v700 : Index := Scalar.indexCast v699
  let c0_378 : Index := 0#32
  ![v700.toNat, 0]
def k0_off39 (v330 : BitVec 32) (v350 : BitVec 32) (k0_t12 : Fin (k0_t12_loop v330 v350).trips) : Fin 2 → Nat :=
  let c0_i32_192 : BitVec 32 := 0#32
  let v332 : BitVec 1 := Scalar.cmpi .sgt v330 c0_i32_192
  let v333 : BitVec 32 := Scalar.extui v332
  let c0_i32_193 : BitVec 32 := 0#32
  let v334 : BitVec 1 := Scalar.cmpi .slt v330 c0_i32_193
  let v335 : BitVec 32 := Scalar.extui v334
  let v336 : BitVec 32 := Scalar.subi v333 v335
  let c1024_i32_191 : BitVec 32 := 1024#32
  let c0_i32_194 : BitVec 32 := 0#32
  let v337 : BitVec 1 := Scalar.cmpi .sgt c1024_i32_191 c0_i32_194
  let v338 : BitVec 32 := Scalar.extui v337
  let c0_i32_195 : BitVec 32 := 0#32
  let v339 : BitVec 1 := Scalar.cmpi .slt c1024_i32_191 c0_i32_195
  let v340 : BitVec 32 := Scalar.extui v339
  let v341 : BitVec 32 := Scalar.subi v338 v340
  let v342 : BitVec 1 := Scalar.cmpi .ne v336 v341
  let v343 : BitVec 32 := Scalar.remsi v330 c1024_i32_191
  let c0_i32_196 : BitVec 32 := 0#32
  let v344 : BitVec 1 := Scalar.cmpi .ne v343 c0_i32_196
  let v345 : BitVec 1 := Scalar.andi v342 v344
  let v331 : BitVec 32 := Scalar.divsi v330 c1024_i32_191
  let c1_i32_197 : BitVec 32 := 1#32
  let v346 : BitVec 32 := Scalar.subi v331 c1_i32_197
  let v347 : BitVec 32 := Scalar.select v345 v346 v331
  let c1_i32_210 : BitVec 32 := 1#32
  let arg17 : BitVec 32 := Scf.iv v347 c1_i32_210 k0_t12
  let c1024_i32_377 : BitVec 32 := 1024#32
  let v699 : BitVec 32 := Scalar.muli arg17 c1024_i32_377
  let v702 : Index := Scalar.indexCast v699
  let c0_379 : Index := 0#32
  ![v702.toNat, 0]
def k0_off40 (v330 : BitVec 32) (v350 : BitVec 32) (k0_t12 : Fin (k0_t12_loop v330 v350).trips) : Fin 2 → Nat :=
  let c0_381 : Index := 0#32
  let c0_i32_192 : BitVec 32 := 0#32
  let v332 : BitVec 1 := Scalar.cmpi .sgt v330 c0_i32_192
  let v333 : BitVec 32 := Scalar.extui v332
  let c0_i32_193 : BitVec 32 := 0#32
  let v334 : BitVec 1 := Scalar.cmpi .slt v330 c0_i32_193
  let v335 : BitVec 32 := Scalar.extui v334
  let v336 : BitVec 32 := Scalar.subi v333 v335
  let c1024_i32_191 : BitVec 32 := 1024#32
  let c0_i32_194 : BitVec 32 := 0#32
  let v337 : BitVec 1 := Scalar.cmpi .sgt c1024_i32_191 c0_i32_194
  let v338 : BitVec 32 := Scalar.extui v337
  let c0_i32_195 : BitVec 32 := 0#32
  let v339 : BitVec 1 := Scalar.cmpi .slt c1024_i32_191 c0_i32_195
  let v340 : BitVec 32 := Scalar.extui v339
  let v341 : BitVec 32 := Scalar.subi v338 v340
  let v342 : BitVec 1 := Scalar.cmpi .ne v336 v341
  let v343 : BitVec 32 := Scalar.remsi v330 c1024_i32_191
  let c0_i32_196 : BitVec 32 := 0#32
  let v344 : BitVec 1 := Scalar.cmpi .ne v343 c0_i32_196
  let v345 : BitVec 1 := Scalar.andi v342 v344
  let v331 : BitVec 32 := Scalar.divsi v330 c1024_i32_191
  let c1_i32_197 : BitVec 32 := 1#32
  let v346 : BitVec 32 := Scalar.subi v331 c1_i32_197
  let v347 : BitVec 32 := Scalar.select v345 v346 v331
  let c1_i32_210 : BitVec 32 := 1#32
  let arg17 : BitVec 32 := Scf.iv v347 c1_i32_210 k0_t12
  let c1024_i32_377 : BitVec 32 := 1024#32
  let v699 : BitVec 32 := Scalar.muli arg17 c1024_i32_377
  let v705 : Index := Scalar.indexCast v699
  ![0, v705.toNat]
@[reducible] def k0_t13_loop (v330 : BitVec 32) (v350 : BitVec 32) : Scf.Loop 32 :=
  let c0_i32_192 : BitVec 32 := 0#32
  let v332 : BitVec 1 := Scalar.cmpi .sgt v330 c0_i32_192
  let v333 : BitVec 32 := Scalar.extui v332
  let c0_i32_193 : BitVec 32 := 0#32
  let v334 : BitVec 1 := Scalar.cmpi .slt v330 c0_i32_193
  let v335 : BitVec 32 := Scalar.extui v334
  let v336 : BitVec 32 := Scalar.subi v333 v335
  let c1024_i32_191 : BitVec 32 := 1024#32
  let c0_i32_194 : BitVec 32 := 0#32
  let v337 : BitVec 1 := Scalar.cmpi .sgt c1024_i32_191 c0_i32_194
  let v338 : BitVec 32 := Scalar.extui v337
  let c0_i32_195 : BitVec 32 := 0#32
  let v339 : BitVec 1 := Scalar.cmpi .slt c1024_i32_191 c0_i32_195
  let v340 : BitVec 32 := Scalar.extui v339
  let v341 : BitVec 32 := Scalar.subi v338 v340
  let v342 : BitVec 1 := Scalar.cmpi .ne v336 v341
  let v343 : BitVec 32 := Scalar.remsi v330 c1024_i32_191
  let c0_i32_196 : BitVec 32 := 0#32
  let v344 : BitVec 1 := Scalar.cmpi .ne v343 c0_i32_196
  let v345 : BitVec 1 := Scalar.andi v342 v344
  let v331 : BitVec 32 := Scalar.divsi v330 c1024_i32_191
  let c1_i32_197 : BitVec 32 := 1#32
  let v346 : BitVec 32 := Scalar.subi v331 c1_i32_197
  let v347 : BitVec 32 := Scalar.select v345 v346 v331
  let c1024_i32_200 : BitVec 32 := 1024#32
  let v351 : BitVec 32 := Scalar.addi v350 c1024_i32_200
  let c1_i32_201 : BitVec 32 := 1#32
  let v352 : BitVec 32 := Scalar.subi v351 c1_i32_201
  let c0_i32_203 : BitVec 32 := 0#32
  let v354 : BitVec 1 := Scalar.cmpi .sgt v352 c0_i32_203
  let v355 : BitVec 32 := Scalar.extui v354
  let c0_i32_204 : BitVec 32 := 0#32
  let v356 : BitVec 1 := Scalar.cmpi .slt v352 c0_i32_204
  let v357 : BitVec 32 := Scalar.extui v356
  let v358 : BitVec 32 := Scalar.subi v355 v357
  let c1024_i32_202 : BitVec 32 := 1024#32
  let c0_i32_205 : BitVec 32 := 0#32
  let v359 : BitVec 1 := Scalar.cmpi .sgt c1024_i32_202 c0_i32_205
  let v360 : BitVec 32 := Scalar.extui v359
  let c0_i32_206 : BitVec 32 := 0#32
  let v361 : BitVec 1 := Scalar.cmpi .slt c1024_i32_202 c0_i32_206
  let v362 : BitVec 32 := Scalar.extui v361
  let v363 : BitVec 32 := Scalar.subi v360 v362
  let v364 : BitVec 1 := Scalar.cmpi .ne v358 v363
  let v365 : BitVec 32 := Scalar.remsi v352 c1024_i32_202
  let c0_i32_207 : BitVec 32 := 0#32
  let v366 : BitVec 1 := Scalar.cmpi .ne v365 c0_i32_207
  let v367 : BitVec 1 := Scalar.andi v364 v366
  let v353 : BitVec 32 := Scalar.divsi v352 c1024_i32_202
  let c1_i32_208 : BitVec 32 := 1#32
  let v368 : BitVec 32 := Scalar.subi v353 c1_i32_208
  let v369 : BitVec 32 := Scalar.select v367 v368 v353
  let v370 : BitVec 32 := Scalar.subi v369 v347
  let c1_i32_209 : BitVec 32 := 1#32
  let v372 : BitVec 32 := Scalar.divsi v370 c1_i32_209
  let v373 : BitVec 32 := Scalar.muli v372 c1_i32_209
  let v374 : BitVec 32 := Scalar.addi v347 v373
  let v371 : BitVec 32 := Scalar.addi v347 v370
  let c1_i32_211 : BitVec 32 := 1#32
  ⟨v374, v371, c1_i32_211⟩
def k0_off41 (v330 : BitVec 32) (v350 : BitVec 32) (k0_t13 : Fin (k0_t13_loop v330 v350).trips) : Fin 2 → Nat :=
  let c0_i32_192 : BitVec 32 := 0#32
  let v332 : BitVec 1 := Scalar.cmpi .sgt v330 c0_i32_192
  let v333 : BitVec 32 := Scalar.extui v332
  let c0_i32_193 : BitVec 32 := 0#32
  let v334 : BitVec 1 := Scalar.cmpi .slt v330 c0_i32_193
  let v335 : BitVec 32 := Scalar.extui v334
  let v336 : BitVec 32 := Scalar.subi v333 v335
  let c1024_i32_191 : BitVec 32 := 1024#32
  let c0_i32_194 : BitVec 32 := 0#32
  let v337 : BitVec 1 := Scalar.cmpi .sgt c1024_i32_191 c0_i32_194
  let v338 : BitVec 32 := Scalar.extui v337
  let c0_i32_195 : BitVec 32 := 0#32
  let v339 : BitVec 1 := Scalar.cmpi .slt c1024_i32_191 c0_i32_195
  let v340 : BitVec 32 := Scalar.extui v339
  let v341 : BitVec 32 := Scalar.subi v338 v340
  let v342 : BitVec 1 := Scalar.cmpi .ne v336 v341
  let v343 : BitVec 32 := Scalar.remsi v330 c1024_i32_191
  let c0_i32_196 : BitVec 32 := 0#32
  let v344 : BitVec 1 := Scalar.cmpi .ne v343 c0_i32_196
  let v345 : BitVec 1 := Scalar.andi v342 v344
  let v331 : BitVec 32 := Scalar.divsi v330 c1024_i32_191
  let c1_i32_197 : BitVec 32 := 1#32
  let v346 : BitVec 32 := Scalar.subi v331 c1_i32_197
  let v347 : BitVec 32 := Scalar.select v345 v346 v331
  let c1024_i32_200 : BitVec 32 := 1024#32
  let v351 : BitVec 32 := Scalar.addi v350 c1024_i32_200
  let c1_i32_201 : BitVec 32 := 1#32
  let v352 : BitVec 32 := Scalar.subi v351 c1_i32_201
  let c0_i32_203 : BitVec 32 := 0#32
  let v354 : BitVec 1 := Scalar.cmpi .sgt v352 c0_i32_203
  let v355 : BitVec 32 := Scalar.extui v354
  let c0_i32_204 : BitVec 32 := 0#32
  let v356 : BitVec 1 := Scalar.cmpi .slt v352 c0_i32_204
  let v357 : BitVec 32 := Scalar.extui v356
  let v358 : BitVec 32 := Scalar.subi v355 v357
  let c1024_i32_202 : BitVec 32 := 1024#32
  let c0_i32_205 : BitVec 32 := 0#32
  let v359 : BitVec 1 := Scalar.cmpi .sgt c1024_i32_202 c0_i32_205
  let v360 : BitVec 32 := Scalar.extui v359
  let c0_i32_206 : BitVec 32 := 0#32
  let v361 : BitVec 1 := Scalar.cmpi .slt c1024_i32_202 c0_i32_206
  let v362 : BitVec 32 := Scalar.extui v361
  let v363 : BitVec 32 := Scalar.subi v360 v362
  let v364 : BitVec 1 := Scalar.cmpi .ne v358 v363
  let v365 : BitVec 32 := Scalar.remsi v352 c1024_i32_202
  let c0_i32_207 : BitVec 32 := 0#32
  let v366 : BitVec 1 := Scalar.cmpi .ne v365 c0_i32_207
  let v367 : BitVec 1 := Scalar.andi v364 v366
  let v353 : BitVec 32 := Scalar.divsi v352 c1024_i32_202
  let c1_i32_208 : BitVec 32 := 1#32
  let v368 : BitVec 32 := Scalar.subi v353 c1_i32_208
  let v369 : BitVec 32 := Scalar.select v367 v368 v353
  let v370 : BitVec 32 := Scalar.subi v369 v347
  let c1_i32_209 : BitVec 32 := 1#32
  let v372 : BitVec 32 := Scalar.divsi v370 c1_i32_209
  let v373 : BitVec 32 := Scalar.muli v372 c1_i32_209
  let v374 : BitVec 32 := Scalar.addi v347 v373
  let c1_i32_211 : BitVec 32 := 1#32
  let arg17 : BitVec 32 := Scf.iv v374 c1_i32_211 k0_t13
  let c1024_i32_377 : BitVec 32 := 1024#32
  let v699 : BitVec 32 := Scalar.muli arg17 c1024_i32_377
  let v700 : Index := Scalar.indexCast v699
  let c0_378 : Index := 0#32
  ![v700.toNat, 0]
def k0_off42 (v330 : BitVec 32) (v350 : BitVec 32) (k0_t13 : Fin (k0_t13_loop v330 v350).trips) : Fin 2 → Nat :=
  let c0_i32_192 : BitVec 32 := 0#32
  let v332 : BitVec 1 := Scalar.cmpi .sgt v330 c0_i32_192
  let v333 : BitVec 32 := Scalar.extui v332
  let c0_i32_193 : BitVec 32 := 0#32
  let v334 : BitVec 1 := Scalar.cmpi .slt v330 c0_i32_193
  let v335 : BitVec 32 := Scalar.extui v334
  let v336 : BitVec 32 := Scalar.subi v333 v335
  let c1024_i32_191 : BitVec 32 := 1024#32
  let c0_i32_194 : BitVec 32 := 0#32
  let v337 : BitVec 1 := Scalar.cmpi .sgt c1024_i32_191 c0_i32_194
  let v338 : BitVec 32 := Scalar.extui v337
  let c0_i32_195 : BitVec 32 := 0#32
  let v339 : BitVec 1 := Scalar.cmpi .slt c1024_i32_191 c0_i32_195
  let v340 : BitVec 32 := Scalar.extui v339
  let v341 : BitVec 32 := Scalar.subi v338 v340
  let v342 : BitVec 1 := Scalar.cmpi .ne v336 v341
  let v343 : BitVec 32 := Scalar.remsi v330 c1024_i32_191
  let c0_i32_196 : BitVec 32 := 0#32
  let v344 : BitVec 1 := Scalar.cmpi .ne v343 c0_i32_196
  let v345 : BitVec 1 := Scalar.andi v342 v344
  let v331 : BitVec 32 := Scalar.divsi v330 c1024_i32_191
  let c1_i32_197 : BitVec 32 := 1#32
  let v346 : BitVec 32 := Scalar.subi v331 c1_i32_197
  let v347 : BitVec 32 := Scalar.select v345 v346 v331
  let c1024_i32_200 : BitVec 32 := 1024#32
  let v351 : BitVec 32 := Scalar.addi v350 c1024_i32_200
  let c1_i32_201 : BitVec 32 := 1#32
  let v352 : BitVec 32 := Scalar.subi v351 c1_i32_201
  let c0_i32_203 : BitVec 32 := 0#32
  let v354 : BitVec 1 := Scalar.cmpi .sgt v352 c0_i32_203
  let v355 : BitVec 32 := Scalar.extui v354
  let c0_i32_204 : BitVec 32 := 0#32
  let v356 : BitVec 1 := Scalar.cmpi .slt v352 c0_i32_204
  let v357 : BitVec 32 := Scalar.extui v356
  let v358 : BitVec 32 := Scalar.subi v355 v357
  let c1024_i32_202 : BitVec 32 := 1024#32
  let c0_i32_205 : BitVec 32 := 0#32
  let v359 : BitVec 1 := Scalar.cmpi .sgt c1024_i32_202 c0_i32_205
  let v360 : BitVec 32 := Scalar.extui v359
  let c0_i32_206 : BitVec 32 := 0#32
  let v361 : BitVec 1 := Scalar.cmpi .slt c1024_i32_202 c0_i32_206
  let v362 : BitVec 32 := Scalar.extui v361
  let v363 : BitVec 32 := Scalar.subi v360 v362
  let v364 : BitVec 1 := Scalar.cmpi .ne v358 v363
  let v365 : BitVec 32 := Scalar.remsi v352 c1024_i32_202
  let c0_i32_207 : BitVec 32 := 0#32
  let v366 : BitVec 1 := Scalar.cmpi .ne v365 c0_i32_207
  let v367 : BitVec 1 := Scalar.andi v364 v366
  let v353 : BitVec 32 := Scalar.divsi v352 c1024_i32_202
  let c1_i32_208 : BitVec 32 := 1#32
  let v368 : BitVec 32 := Scalar.subi v353 c1_i32_208
  let v369 : BitVec 32 := Scalar.select v367 v368 v353
  let v370 : BitVec 32 := Scalar.subi v369 v347
  let c1_i32_209 : BitVec 32 := 1#32
  let v372 : BitVec 32 := Scalar.divsi v370 c1_i32_209
  let v373 : BitVec 32 := Scalar.muli v372 c1_i32_209
  let v374 : BitVec 32 := Scalar.addi v347 v373
  let c1_i32_211 : BitVec 32 := 1#32
  let arg17 : BitVec 32 := Scf.iv v374 c1_i32_211 k0_t13
  let c1024_i32_377 : BitVec 32 := 1024#32
  let v699 : BitVec 32 := Scalar.muli arg17 c1024_i32_377
  let v702 : Index := Scalar.indexCast v699
  let c0_379 : Index := 0#32
  ![v702.toNat, 0]
def k0_off43 (v330 : BitVec 32) (v350 : BitVec 32) (k0_t13 : Fin (k0_t13_loop v330 v350).trips) : Fin 2 → Nat :=
  let c0_381 : Index := 0#32
  let c0_i32_192 : BitVec 32 := 0#32
  let v332 : BitVec 1 := Scalar.cmpi .sgt v330 c0_i32_192
  let v333 : BitVec 32 := Scalar.extui v332
  let c0_i32_193 : BitVec 32 := 0#32
  let v334 : BitVec 1 := Scalar.cmpi .slt v330 c0_i32_193
  let v335 : BitVec 32 := Scalar.extui v334
  let v336 : BitVec 32 := Scalar.subi v333 v335
  let c1024_i32_191 : BitVec 32 := 1024#32
  let c0_i32_194 : BitVec 32 := 0#32
  let v337 : BitVec 1 := Scalar.cmpi .sgt c1024_i32_191 c0_i32_194
  let v338 : BitVec 32 := Scalar.extui v337
  let c0_i32_195 : BitVec 32 := 0#32
  let v339 : BitVec 1 := Scalar.cmpi .slt c1024_i32_191 c0_i32_195
  let v340 : BitVec 32 := Scalar.extui v339
  let v341 : BitVec 32 := Scalar.subi v338 v340
  let v342 : BitVec 1 := Scalar.cmpi .ne v336 v341
  let v343 : BitVec 32 := Scalar.remsi v330 c1024_i32_191
  let c0_i32_196 : BitVec 32 := 0#32
  let v344 : BitVec 1 := Scalar.cmpi .ne v343 c0_i32_196
  let v345 : BitVec 1 := Scalar.andi v342 v344
  let v331 : BitVec 32 := Scalar.divsi v330 c1024_i32_191
  let c1_i32_197 : BitVec 32 := 1#32
  let v346 : BitVec 32 := Scalar.subi v331 c1_i32_197
  let v347 : BitVec 32 := Scalar.select v345 v346 v331
  let c1024_i32_200 : BitVec 32 := 1024#32
  let v351 : BitVec 32 := Scalar.addi v350 c1024_i32_200
  let c1_i32_201 : BitVec 32 := 1#32
  let v352 : BitVec 32 := Scalar.subi v351 c1_i32_201
  let c0_i32_203 : BitVec 32 := 0#32
  let v354 : BitVec 1 := Scalar.cmpi .sgt v352 c0_i32_203
  let v355 : BitVec 32 := Scalar.extui v354
  let c0_i32_204 : BitVec 32 := 0#32
  let v356 : BitVec 1 := Scalar.cmpi .slt v352 c0_i32_204
  let v357 : BitVec 32 := Scalar.extui v356
  let v358 : BitVec 32 := Scalar.subi v355 v357
  let c1024_i32_202 : BitVec 32 := 1024#32
  let c0_i32_205 : BitVec 32 := 0#32
  let v359 : BitVec 1 := Scalar.cmpi .sgt c1024_i32_202 c0_i32_205
  let v360 : BitVec 32 := Scalar.extui v359
  let c0_i32_206 : BitVec 32 := 0#32
  let v361 : BitVec 1 := Scalar.cmpi .slt c1024_i32_202 c0_i32_206
  let v362 : BitVec 32 := Scalar.extui v361
  let v363 : BitVec 32 := Scalar.subi v360 v362
  let v364 : BitVec 1 := Scalar.cmpi .ne v358 v363
  let v365 : BitVec 32 := Scalar.remsi v352 c1024_i32_202
  let c0_i32_207 : BitVec 32 := 0#32
  let v366 : BitVec 1 := Scalar.cmpi .ne v365 c0_i32_207
  let v367 : BitVec 1 := Scalar.andi v364 v366
  let v353 : BitVec 32 := Scalar.divsi v352 c1024_i32_202
  let c1_i32_208 : BitVec 32 := 1#32
  let v368 : BitVec 32 := Scalar.subi v353 c1_i32_208
  let v369 : BitVec 32 := Scalar.select v367 v368 v353
  let v370 : BitVec 32 := Scalar.subi v369 v347
  let c1_i32_209 : BitVec 32 := 1#32
  let v372 : BitVec 32 := Scalar.divsi v370 c1_i32_209
  let v373 : BitVec 32 := Scalar.muli v372 c1_i32_209
  let v374 : BitVec 32 := Scalar.addi v347 v373
  let c1_i32_211 : BitVec 32 := 1#32
  let arg17 : BitVec 32 := Scf.iv v374 c1_i32_211 k0_t13
  let c1024_i32_377 : BitVec 32 := 1024#32
  let v699 : BitVec 32 := Scalar.muli arg17 c1024_i32_377
  let v705 : Index := Scalar.indexCast v699
  ![0, v705.toNat]

def k0_chk18 (v330 : BitVec 32) (v350 : BitVec 32) : Prop :=
  ((k0_t12_loop v330 v350).OK) ∧
  (∀ k0_t12 : Fin (k0_t12_loop v330 v350).trips, ∀ a, (k0_off38 v330 v350 k0_t12) a + S1024x32.size a ≤ S4096x32.size a) ∧
  (∀ k0_t12 : Fin (k0_t12_loop v330 v350).trips, ∀ a, (k0_off39 v330 v350 k0_t12) a + S1024x33.size a ≤ S4096x33.size a) ∧
  (∀ k0_t12 : Fin (k0_t12_loop v330 v350).trips, ∀ a, (k0_off40 v330 v350 k0_t12) a + S1x1024.size a ≤ S1x4096.size a) ∧
  ((k0_t13_loop v330 v350).OK) ∧
  (∀ k0_t13 : Fin (k0_t13_loop v330 v350).trips, ∀ a, (k0_off41 v330 v350 k0_t13) a + S1024x32.size a ≤ S4096x32.size a) ∧
  (∀ k0_t13 : Fin (k0_t13_loop v330 v350).trips, ∀ a, (k0_off42 v330 v350 k0_t13) a + S1024x33.size a ≤ S4096x33.size a) ∧
  (∀ k0_t13 : Fin (k0_t13_loop v330 v350).trips, ∀ a, (k0_off43 v330 v350 k0_t13) a + S1x1024.size a ≤ S1x4096.size a)
theorem k0_t12_ok : ∀ (v330 : BitVec 32) (v350 : BitVec 32) (k0_hw18 : k0_chk18 v330 v350), (k0_t12_loop v330 v350).OK := fun v330 v350 k0_hw18 => k0_hw18.1
theorem k0_off38_inb : ∀ (v330 : BitVec 32) (v350 : BitVec 32) (k0_hw18 : k0_chk18 v330 v350) (k0_t12 : Fin (k0_t12_loop v330 v350).trips), ∀ a, (k0_off38 v330 v350 k0_t12) a + S1024x32.size a ≤ S4096x32.size a := fun v330 v350 k0_hw18 k0_t12 => k0_hw18.2.1 k0_t12
theorem k0_off39_inb : ∀ (v330 : BitVec 32) (v350 : BitVec 32) (k0_hw18 : k0_chk18 v330 v350) (k0_t12 : Fin (k0_t12_loop v330 v350).trips), ∀ a, (k0_off39 v330 v350 k0_t12) a + S1024x33.size a ≤ S4096x33.size a := fun v330 v350 k0_hw18 k0_t12 => k0_hw18.2.2.1 k0_t12
theorem k0_off40_inb : ∀ (v330 : BitVec 32) (v350 : BitVec 32) (k0_hw18 : k0_chk18 v330 v350) (k0_t12 : Fin (k0_t12_loop v330 v350).trips), ∀ a, (k0_off40 v330 v350 k0_t12) a + S1x1024.size a ≤ S1x4096.size a := fun v330 v350 k0_hw18 k0_t12 => k0_hw18.2.2.2.1 k0_t12
theorem k0_t13_ok : ∀ (v330 : BitVec 32) (v350 : BitVec 32) (k0_hw18 : k0_chk18 v330 v350), (k0_t13_loop v330 v350).OK := fun v330 v350 k0_hw18 => k0_hw18.2.2.2.2.1
theorem k0_off41_inb : ∀ (v330 : BitVec 32) (v350 : BitVec 32) (k0_hw18 : k0_chk18 v330 v350) (k0_t13 : Fin (k0_t13_loop v330 v350).trips), ∀ a, (k0_off41 v330 v350 k0_t13) a + S1024x32.size a ≤ S4096x32.size a := fun v330 v350 k0_hw18 k0_t13 => k0_hw18.2.2.2.2.2.1 k0_t13
theorem k0_off42_inb : ∀ (v330 : BitVec 32) (v350 : BitVec 32) (k0_hw18 : k0_chk18 v330 v350) (k0_t13 : Fin (k0_t13_loop v330 v350).trips), ∀ a, (k0_off42 v330 v350 k0_t13) a + S1024x33.size a ≤ S4096x33.size a := fun v330 v350 k0_hw18 k0_t13 => k0_hw18.2.2.2.2.2.2.1 k0_t13
theorem k0_off43_inb : ∀ (v330 : BitVec 32) (v350 : BitVec 32) (k0_hw18 : k0_chk18 v330 v350) (k0_t13 : Fin (k0_t13_loop v330 v350).trips), ∀ a, (k0_off43 v330 v350 k0_t13) a + S1x1024.size a ≤ S1x4096.size a := fun v330 v350 k0_hw18 k0_t13 => k0_hw18.2.2.2.2.2.2.2 k0_t13

def k0_off44 (v398 : BitVec 32) : Fin 2 → Nat :=
  let c0_225 : Index := 0#32
  let v400 : Index := Scalar.indexCast v398
  ![0, v400.toNat]

def k0_chk19 (v398 : BitVec 32) : Prop :=
  (∀ a, (k0_off44 v398) a + S1x1.size a ≤ S1x5.size a)
theorem k0_off44_inb : ∀ (v398 : BitVec 32) (k0_hw19 : k0_chk19 v398), ∀ a, (k0_off44 v398) a + S1x1.size a ≤ S1x5.size a := fun v398 k0_hw19 => k0_hw19

def k0_off45 (v399 : BitVec 32) : Fin 2 → Nat :=
  let c0_234 : Index := 0#32
  let c1_i32_233 : BitVec 32 := 1#32
  let v419 : BitVec 32 := Scalar.addi v399 c1_i32_233
  let v420 : Index := Scalar.indexCast v419
  ![0, v420.toNat]

def k0_chk20 (v399 : BitVec 32) : Prop :=
  (∀ a, (k0_off45 v399) a + S1x1.size a ≤ S1x5.size a)
theorem k0_off45_inb : ∀ (v399 : BitVec 32) (k0_hw20 : k0_chk20 v399), ∀ a, (k0_off45 v399) a + S1x1.size a ≤ S1x5.size a := fun v399 k0_hw20 => k0_hw20

@[reducible] def k0_t14_loop (v401 : BitVec 32) (v421 : BitVec 32) : Scf.Loop 32 :=
  let c0_i32_227 : BitVec 32 := 0#32
  let v403 : BitVec 1 := Scalar.cmpi .sgt v401 c0_i32_227
  let v404 : BitVec 32 := Scalar.extui v403
  let c0_i32_228 : BitVec 32 := 0#32
  let v405 : BitVec 1 := Scalar.cmpi .slt v401 c0_i32_228
  let v406 : BitVec 32 := Scalar.extui v405
  let v407 : BitVec 32 := Scalar.subi v404 v406
  let c1024_i32_226 : BitVec 32 := 1024#32
  let c0_i32_229 : BitVec 32 := 0#32
  let v408 : BitVec 1 := Scalar.cmpi .sgt c1024_i32_226 c0_i32_229
  let v409 : BitVec 32 := Scalar.extui v408
  let c0_i32_230 : BitVec 32 := 0#32
  let v410 : BitVec 1 := Scalar.cmpi .slt c1024_i32_226 c0_i32_230
  let v411 : BitVec 32 := Scalar.extui v410
  let v412 : BitVec 32 := Scalar.subi v409 v411
  let v413 : BitVec 1 := Scalar.cmpi .ne v407 v412
  let v414 : BitVec 32 := Scalar.remsi v401 c1024_i32_226
  let c0_i32_231 : BitVec 32 := 0#32
  let v415 : BitVec 1 := Scalar.cmpi .ne v414 c0_i32_231
  let v416 : BitVec 1 := Scalar.andi v413 v415
  let v402 : BitVec 32 := Scalar.divsi v401 c1024_i32_226
  let c1_i32_232 : BitVec 32 := 1#32
  let v417 : BitVec 32 := Scalar.subi v402 c1_i32_232
  let v418 : BitVec 32 := Scalar.select v416 v417 v402
  let c1024_i32_235 : BitVec 32 := 1024#32
  let v422 : BitVec 32 := Scalar.addi v421 c1024_i32_235
  let c1_i32_236 : BitVec 32 := 1#32
  let v423 : BitVec 32 := Scalar.subi v422 c1_i32_236
  let c0_i32_238 : BitVec 32 := 0#32
  let v425 : BitVec 1 := Scalar.cmpi .sgt v423 c0_i32_238
  let v426 : BitVec 32 := Scalar.extui v425
  let c0_i32_239 : BitVec 32 := 0#32
  let v427 : BitVec 1 := Scalar.cmpi .slt v423 c0_i32_239
  let v428 : BitVec 32 := Scalar.extui v427
  let v429 : BitVec 32 := Scalar.subi v426 v428
  let c1024_i32_237 : BitVec 32 := 1024#32
  let c0_i32_240 : BitVec 32 := 0#32
  let v430 : BitVec 1 := Scalar.cmpi .sgt c1024_i32_237 c0_i32_240
  let v431 : BitVec 32 := Scalar.extui v430
  let c0_i32_241 : BitVec 32 := 0#32
  let v432 : BitVec 1 := Scalar.cmpi .slt c1024_i32_237 c0_i32_241
  let v433 : BitVec 32 := Scalar.extui v432
  let v434 : BitVec 32 := Scalar.subi v431 v433
  let v435 : BitVec 1 := Scalar.cmpi .ne v429 v434
  let v436 : BitVec 32 := Scalar.remsi v423 c1024_i32_237
  let c0_i32_242 : BitVec 32 := 0#32
  let v437 : BitVec 1 := Scalar.cmpi .ne v436 c0_i32_242
  let v438 : BitVec 1 := Scalar.andi v435 v437
  let v424 : BitVec 32 := Scalar.divsi v423 c1024_i32_237
  let c1_i32_243 : BitVec 32 := 1#32
  let v439 : BitVec 32 := Scalar.subi v424 c1_i32_243
  let v440 : BitVec 32 := Scalar.select v438 v439 v424
  let v441 : BitVec 32 := Scalar.subi v440 v418
  let c1_i32_244 : BitVec 32 := 1#32
  let v443 : BitVec 32 := Scalar.divsi v441 c1_i32_244
  let v444 : BitVec 32 := Scalar.muli v443 c1_i32_244
  let v445 : BitVec 32 := Scalar.addi v418 v444
  let c1_i32_245 : BitVec 32 := 1#32
  ⟨v418, v445, c1_i32_245⟩

def k0_off46 (v401 : BitVec 32) (v421 : BitVec 32) (k0_t14 : Fin (k0_t14_loop v401 v421).trips) : Fin 2 → Nat :=
  let c0_i32_227 : BitVec 32 := 0#32
  let v403 : BitVec 1 := Scalar.cmpi .sgt v401 c0_i32_227
  let v404 : BitVec 32 := Scalar.extui v403
  let c0_i32_228 : BitVec 32 := 0#32
  let v405 : BitVec 1 := Scalar.cmpi .slt v401 c0_i32_228
  let v406 : BitVec 32 := Scalar.extui v405
  let v407 : BitVec 32 := Scalar.subi v404 v406
  let c1024_i32_226 : BitVec 32 := 1024#32
  let c0_i32_229 : BitVec 32 := 0#32
  let v408 : BitVec 1 := Scalar.cmpi .sgt c1024_i32_226 c0_i32_229
  let v409 : BitVec 32 := Scalar.extui v408
  let c0_i32_230 : BitVec 32 := 0#32
  let v410 : BitVec 1 := Scalar.cmpi .slt c1024_i32_226 c0_i32_230
  let v411 : BitVec 32 := Scalar.extui v410
  let v412 : BitVec 32 := Scalar.subi v409 v411
  let v413 : BitVec 1 := Scalar.cmpi .ne v407 v412
  let v414 : BitVec 32 := Scalar.remsi v401 c1024_i32_226
  let c0_i32_231 : BitVec 32 := 0#32
  let v415 : BitVec 1 := Scalar.cmpi .ne v414 c0_i32_231
  let v416 : BitVec 1 := Scalar.andi v413 v415
  let v402 : BitVec 32 := Scalar.divsi v401 c1024_i32_226
  let c1_i32_232 : BitVec 32 := 1#32
  let v417 : BitVec 32 := Scalar.subi v402 c1_i32_232
  let v418 : BitVec 32 := Scalar.select v416 v417 v402
  let c1_i32_245 : BitVec 32 := 1#32
  let arg17 : BitVec 32 := Scf.iv v418 c1_i32_245 k0_t14
  let c1024_i32_377 : BitVec 32 := 1024#32
  let v699 : BitVec 32 := Scalar.muli arg17 c1024_i32_377
  let v700 : Index := Scalar.indexCast v699
  let c0_378 : Index := 0#32
  ![v700.toNat, 0]
def k0_off47 (v401 : BitVec 32) (v421 : BitVec 32) (k0_t14 : Fin (k0_t14_loop v401 v421).trips) : Fin 2 → Nat :=
  let c0_i32_227 : BitVec 32 := 0#32
  let v403 : BitVec 1 := Scalar.cmpi .sgt v401 c0_i32_227
  let v404 : BitVec 32 := Scalar.extui v403
  let c0_i32_228 : BitVec 32 := 0#32
  let v405 : BitVec 1 := Scalar.cmpi .slt v401 c0_i32_228
  let v406 : BitVec 32 := Scalar.extui v405
  let v407 : BitVec 32 := Scalar.subi v404 v406
  let c1024_i32_226 : BitVec 32 := 1024#32
  let c0_i32_229 : BitVec 32 := 0#32
  let v408 : BitVec 1 := Scalar.cmpi .sgt c1024_i32_226 c0_i32_229
  let v409 : BitVec 32 := Scalar.extui v408
  let c0_i32_230 : BitVec 32 := 0#32
  let v410 : BitVec 1 := Scalar.cmpi .slt c1024_i32_226 c0_i32_230
  let v411 : BitVec 32 := Scalar.extui v410
  let v412 : BitVec 32 := Scalar.subi v409 v411
  let v413 : BitVec 1 := Scalar.cmpi .ne v407 v412
  let v414 : BitVec 32 := Scalar.remsi v401 c1024_i32_226
  let c0_i32_231 : BitVec 32 := 0#32
  let v415 : BitVec 1 := Scalar.cmpi .ne v414 c0_i32_231
  let v416 : BitVec 1 := Scalar.andi v413 v415
  let v402 : BitVec 32 := Scalar.divsi v401 c1024_i32_226
  let c1_i32_232 : BitVec 32 := 1#32
  let v417 : BitVec 32 := Scalar.subi v402 c1_i32_232
  let v418 : BitVec 32 := Scalar.select v416 v417 v402
  let c1_i32_245 : BitVec 32 := 1#32
  let arg17 : BitVec 32 := Scf.iv v418 c1_i32_245 k0_t14
  let c1024_i32_377 : BitVec 32 := 1024#32
  let v699 : BitVec 32 := Scalar.muli arg17 c1024_i32_377
  let v702 : Index := Scalar.indexCast v699
  let c0_379 : Index := 0#32
  ![v702.toNat, 0]
def k0_off48 (v401 : BitVec 32) (v421 : BitVec 32) (k0_t14 : Fin (k0_t14_loop v401 v421).trips) : Fin 2 → Nat :=
  let c0_381 : Index := 0#32
  let c0_i32_227 : BitVec 32 := 0#32
  let v403 : BitVec 1 := Scalar.cmpi .sgt v401 c0_i32_227
  let v404 : BitVec 32 := Scalar.extui v403
  let c0_i32_228 : BitVec 32 := 0#32
  let v405 : BitVec 1 := Scalar.cmpi .slt v401 c0_i32_228
  let v406 : BitVec 32 := Scalar.extui v405
  let v407 : BitVec 32 := Scalar.subi v404 v406
  let c1024_i32_226 : BitVec 32 := 1024#32
  let c0_i32_229 : BitVec 32 := 0#32
  let v408 : BitVec 1 := Scalar.cmpi .sgt c1024_i32_226 c0_i32_229
  let v409 : BitVec 32 := Scalar.extui v408
  let c0_i32_230 : BitVec 32 := 0#32
  let v410 : BitVec 1 := Scalar.cmpi .slt c1024_i32_226 c0_i32_230
  let v411 : BitVec 32 := Scalar.extui v410
  let v412 : BitVec 32 := Scalar.subi v409 v411
  let v413 : BitVec 1 := Scalar.cmpi .ne v407 v412
  let v414 : BitVec 32 := Scalar.remsi v401 c1024_i32_226
  let c0_i32_231 : BitVec 32 := 0#32
  let v415 : BitVec 1 := Scalar.cmpi .ne v414 c0_i32_231
  let v416 : BitVec 1 := Scalar.andi v413 v415
  let v402 : BitVec 32 := Scalar.divsi v401 c1024_i32_226
  let c1_i32_232 : BitVec 32 := 1#32
  let v417 : BitVec 32 := Scalar.subi v402 c1_i32_232
  let v418 : BitVec 32 := Scalar.select v416 v417 v402
  let c1_i32_245 : BitVec 32 := 1#32
  let arg17 : BitVec 32 := Scf.iv v418 c1_i32_245 k0_t14
  let c1024_i32_377 : BitVec 32 := 1024#32
  let v699 : BitVec 32 := Scalar.muli arg17 c1024_i32_377
  let v705 : Index := Scalar.indexCast v699
  ![0, v705.toNat]
@[reducible] def k0_t15_loop (v401 : BitVec 32) (v421 : BitVec 32) : Scf.Loop 32 :=
  let c0_i32_227 : BitVec 32 := 0#32
  let v403 : BitVec 1 := Scalar.cmpi .sgt v401 c0_i32_227
  let v404 : BitVec 32 := Scalar.extui v403
  let c0_i32_228 : BitVec 32 := 0#32
  let v405 : BitVec 1 := Scalar.cmpi .slt v401 c0_i32_228
  let v406 : BitVec 32 := Scalar.extui v405
  let v407 : BitVec 32 := Scalar.subi v404 v406
  let c1024_i32_226 : BitVec 32 := 1024#32
  let c0_i32_229 : BitVec 32 := 0#32
  let v408 : BitVec 1 := Scalar.cmpi .sgt c1024_i32_226 c0_i32_229
  let v409 : BitVec 32 := Scalar.extui v408
  let c0_i32_230 : BitVec 32 := 0#32
  let v410 : BitVec 1 := Scalar.cmpi .slt c1024_i32_226 c0_i32_230
  let v411 : BitVec 32 := Scalar.extui v410
  let v412 : BitVec 32 := Scalar.subi v409 v411
  let v413 : BitVec 1 := Scalar.cmpi .ne v407 v412
  let v414 : BitVec 32 := Scalar.remsi v401 c1024_i32_226
  let c0_i32_231 : BitVec 32 := 0#32
  let v415 : BitVec 1 := Scalar.cmpi .ne v414 c0_i32_231
  let v416 : BitVec 1 := Scalar.andi v413 v415
  let v402 : BitVec 32 := Scalar.divsi v401 c1024_i32_226
  let c1_i32_232 : BitVec 32 := 1#32
  let v417 : BitVec 32 := Scalar.subi v402 c1_i32_232
  let v418 : BitVec 32 := Scalar.select v416 v417 v402
  let c1024_i32_235 : BitVec 32 := 1024#32
  let v422 : BitVec 32 := Scalar.addi v421 c1024_i32_235
  let c1_i32_236 : BitVec 32 := 1#32
  let v423 : BitVec 32 := Scalar.subi v422 c1_i32_236
  let c0_i32_238 : BitVec 32 := 0#32
  let v425 : BitVec 1 := Scalar.cmpi .sgt v423 c0_i32_238
  let v426 : BitVec 32 := Scalar.extui v425
  let c0_i32_239 : BitVec 32 := 0#32
  let v427 : BitVec 1 := Scalar.cmpi .slt v423 c0_i32_239
  let v428 : BitVec 32 := Scalar.extui v427
  let v429 : BitVec 32 := Scalar.subi v426 v428
  let c1024_i32_237 : BitVec 32 := 1024#32
  let c0_i32_240 : BitVec 32 := 0#32
  let v430 : BitVec 1 := Scalar.cmpi .sgt c1024_i32_237 c0_i32_240
  let v431 : BitVec 32 := Scalar.extui v430
  let c0_i32_241 : BitVec 32 := 0#32
  let v432 : BitVec 1 := Scalar.cmpi .slt c1024_i32_237 c0_i32_241
  let v433 : BitVec 32 := Scalar.extui v432
  let v434 : BitVec 32 := Scalar.subi v431 v433
  let v435 : BitVec 1 := Scalar.cmpi .ne v429 v434
  let v436 : BitVec 32 := Scalar.remsi v423 c1024_i32_237
  let c0_i32_242 : BitVec 32 := 0#32
  let v437 : BitVec 1 := Scalar.cmpi .ne v436 c0_i32_242
  let v438 : BitVec 1 := Scalar.andi v435 v437
  let v424 : BitVec 32 := Scalar.divsi v423 c1024_i32_237
  let c1_i32_243 : BitVec 32 := 1#32
  let v439 : BitVec 32 := Scalar.subi v424 c1_i32_243
  let v440 : BitVec 32 := Scalar.select v438 v439 v424
  let v441 : BitVec 32 := Scalar.subi v440 v418
  let c1_i32_244 : BitVec 32 := 1#32
  let v443 : BitVec 32 := Scalar.divsi v441 c1_i32_244
  let v444 : BitVec 32 := Scalar.muli v443 c1_i32_244
  let v445 : BitVec 32 := Scalar.addi v418 v444
  let v442 : BitVec 32 := Scalar.addi v418 v441
  let c1_i32_246 : BitVec 32 := 1#32
  ⟨v445, v442, c1_i32_246⟩
def k0_off49 (v401 : BitVec 32) (v421 : BitVec 32) (k0_t15 : Fin (k0_t15_loop v401 v421).trips) : Fin 2 → Nat :=
  let c0_i32_227 : BitVec 32 := 0#32
  let v403 : BitVec 1 := Scalar.cmpi .sgt v401 c0_i32_227
  let v404 : BitVec 32 := Scalar.extui v403
  let c0_i32_228 : BitVec 32 := 0#32
  let v405 : BitVec 1 := Scalar.cmpi .slt v401 c0_i32_228
  let v406 : BitVec 32 := Scalar.extui v405
  let v407 : BitVec 32 := Scalar.subi v404 v406
  let c1024_i32_226 : BitVec 32 := 1024#32
  let c0_i32_229 : BitVec 32 := 0#32
  let v408 : BitVec 1 := Scalar.cmpi .sgt c1024_i32_226 c0_i32_229
  let v409 : BitVec 32 := Scalar.extui v408
  let c0_i32_230 : BitVec 32 := 0#32
  let v410 : BitVec 1 := Scalar.cmpi .slt c1024_i32_226 c0_i32_230
  let v411 : BitVec 32 := Scalar.extui v410
  let v412 : BitVec 32 := Scalar.subi v409 v411
  let v413 : BitVec 1 := Scalar.cmpi .ne v407 v412
  let v414 : BitVec 32 := Scalar.remsi v401 c1024_i32_226
  let c0_i32_231 : BitVec 32 := 0#32
  let v415 : BitVec 1 := Scalar.cmpi .ne v414 c0_i32_231
  let v416 : BitVec 1 := Scalar.andi v413 v415
  let v402 : BitVec 32 := Scalar.divsi v401 c1024_i32_226
  let c1_i32_232 : BitVec 32 := 1#32
  let v417 : BitVec 32 := Scalar.subi v402 c1_i32_232
  let v418 : BitVec 32 := Scalar.select v416 v417 v402
  let c1024_i32_235 : BitVec 32 := 1024#32
  let v422 : BitVec 32 := Scalar.addi v421 c1024_i32_235
  let c1_i32_236 : BitVec 32 := 1#32
  let v423 : BitVec 32 := Scalar.subi v422 c1_i32_236
  let c0_i32_238 : BitVec 32 := 0#32
  let v425 : BitVec 1 := Scalar.cmpi .sgt v423 c0_i32_238
  let v426 : BitVec 32 := Scalar.extui v425
  let c0_i32_239 : BitVec 32 := 0#32
  let v427 : BitVec 1 := Scalar.cmpi .slt v423 c0_i32_239
  let v428 : BitVec 32 := Scalar.extui v427
  let v429 : BitVec 32 := Scalar.subi v426 v428
  let c1024_i32_237 : BitVec 32 := 1024#32
  let c0_i32_240 : BitVec 32 := 0#32
  let v430 : BitVec 1 := Scalar.cmpi .sgt c1024_i32_237 c0_i32_240
  let v431 : BitVec 32 := Scalar.extui v430
  let c0_i32_241 : BitVec 32 := 0#32
  let v432 : BitVec 1 := Scalar.cmpi .slt c1024_i32_237 c0_i32_241
  let v433 : BitVec 32 := Scalar.extui v432
  let v434 : BitVec 32 := Scalar.subi v431 v433
  let v435 : BitVec 1 := Scalar.cmpi .ne v429 v434
  let v436 : BitVec 32 := Scalar.remsi v423 c1024_i32_237
  let c0_i32_242 : BitVec 32 := 0#32
  let v437 : BitVec 1 := Scalar.cmpi .ne v436 c0_i32_242
  let v438 : BitVec 1 := Scalar.andi v435 v437
  let v424 : BitVec 32 := Scalar.divsi v423 c1024_i32_237
  let c1_i32_243 : BitVec 32 := 1#32
  let v439 : BitVec 32 := Scalar.subi v424 c1_i32_243
  let v440 : BitVec 32 := Scalar.select v438 v439 v424
  let v441 : BitVec 32 := Scalar.subi v440 v418
  let c1_i32_244 : BitVec 32 := 1#32
  let v443 : BitVec 32 := Scalar.divsi v441 c1_i32_244
  let v444 : BitVec 32 := Scalar.muli v443 c1_i32_244
  let v445 : BitVec 32 := Scalar.addi v418 v444
  let c1_i32_246 : BitVec 32 := 1#32
  let arg17 : BitVec 32 := Scf.iv v445 c1_i32_246 k0_t15
  let c1024_i32_377 : BitVec 32 := 1024#32
  let v699 : BitVec 32 := Scalar.muli arg17 c1024_i32_377
  let v700 : Index := Scalar.indexCast v699
  let c0_378 : Index := 0#32
  ![v700.toNat, 0]
def k0_off50 (v401 : BitVec 32) (v421 : BitVec 32) (k0_t15 : Fin (k0_t15_loop v401 v421).trips) : Fin 2 → Nat :=
  let c0_i32_227 : BitVec 32 := 0#32
  let v403 : BitVec 1 := Scalar.cmpi .sgt v401 c0_i32_227
  let v404 : BitVec 32 := Scalar.extui v403
  let c0_i32_228 : BitVec 32 := 0#32
  let v405 : BitVec 1 := Scalar.cmpi .slt v401 c0_i32_228
  let v406 : BitVec 32 := Scalar.extui v405
  let v407 : BitVec 32 := Scalar.subi v404 v406
  let c1024_i32_226 : BitVec 32 := 1024#32
  let c0_i32_229 : BitVec 32 := 0#32
  let v408 : BitVec 1 := Scalar.cmpi .sgt c1024_i32_226 c0_i32_229
  let v409 : BitVec 32 := Scalar.extui v408
  let c0_i32_230 : BitVec 32 := 0#32
  let v410 : BitVec 1 := Scalar.cmpi .slt c1024_i32_226 c0_i32_230
  let v411 : BitVec 32 := Scalar.extui v410
  let v412 : BitVec 32 := Scalar.subi v409 v411
  let v413 : BitVec 1 := Scalar.cmpi .ne v407 v412
  let v414 : BitVec 32 := Scalar.remsi v401 c1024_i32_226
  let c0_i32_231 : BitVec 32 := 0#32
  let v415 : BitVec 1 := Scalar.cmpi .ne v414 c0_i32_231
  let v416 : BitVec 1 := Scalar.andi v413 v415
  let v402 : BitVec 32 := Scalar.divsi v401 c1024_i32_226
  let c1_i32_232 : BitVec 32 := 1#32
  let v417 : BitVec 32 := Scalar.subi v402 c1_i32_232
  let v418 : BitVec 32 := Scalar.select v416 v417 v402
  let c1024_i32_235 : BitVec 32 := 1024#32
  let v422 : BitVec 32 := Scalar.addi v421 c1024_i32_235
  let c1_i32_236 : BitVec 32 := 1#32
  let v423 : BitVec 32 := Scalar.subi v422 c1_i32_236
  let c0_i32_238 : BitVec 32 := 0#32
  let v425 : BitVec 1 := Scalar.cmpi .sgt v423 c0_i32_238
  let v426 : BitVec 32 := Scalar.extui v425
  let c0_i32_239 : BitVec 32 := 0#32
  let v427 : BitVec 1 := Scalar.cmpi .slt v423 c0_i32_239
  let v428 : BitVec 32 := Scalar.extui v427
  let v429 : BitVec 32 := Scalar.subi v426 v428
  let c1024_i32_237 : BitVec 32 := 1024#32
  let c0_i32_240 : BitVec 32 := 0#32
  let v430 : BitVec 1 := Scalar.cmpi .sgt c1024_i32_237 c0_i32_240
  let v431 : BitVec 32 := Scalar.extui v430
  let c0_i32_241 : BitVec 32 := 0#32
  let v432 : BitVec 1 := Scalar.cmpi .slt c1024_i32_237 c0_i32_241
  let v433 : BitVec 32 := Scalar.extui v432
  let v434 : BitVec 32 := Scalar.subi v431 v433
  let v435 : BitVec 1 := Scalar.cmpi .ne v429 v434
  let v436 : BitVec 32 := Scalar.remsi v423 c1024_i32_237
  let c0_i32_242 : BitVec 32 := 0#32
  let v437 : BitVec 1 := Scalar.cmpi .ne v436 c0_i32_242
  let v438 : BitVec 1 := Scalar.andi v435 v437
  let v424 : BitVec 32 := Scalar.divsi v423 c1024_i32_237
  let c1_i32_243 : BitVec 32 := 1#32
  let v439 : BitVec 32 := Scalar.subi v424 c1_i32_243
  let v440 : BitVec 32 := Scalar.select v438 v439 v424
  let v441 : BitVec 32 := Scalar.subi v440 v418
  let c1_i32_244 : BitVec 32 := 1#32
  let v443 : BitVec 32 := Scalar.divsi v441 c1_i32_244
  let v444 : BitVec 32 := Scalar.muli v443 c1_i32_244
  let v445 : BitVec 32 := Scalar.addi v418 v444
  let c1_i32_246 : BitVec 32 := 1#32
  let arg17 : BitVec 32 := Scf.iv v445 c1_i32_246 k0_t15
  let c1024_i32_377 : BitVec 32 := 1024#32
  let v699 : BitVec 32 := Scalar.muli arg17 c1024_i32_377
  let v702 : Index := Scalar.indexCast v699
  let c0_379 : Index := 0#32
  ![v702.toNat, 0]
def k0_off51 (v401 : BitVec 32) (v421 : BitVec 32) (k0_t15 : Fin (k0_t15_loop v401 v421).trips) : Fin 2 → Nat :=
  let c0_381 : Index := 0#32
  let c0_i32_227 : BitVec 32 := 0#32
  let v403 : BitVec 1 := Scalar.cmpi .sgt v401 c0_i32_227
  let v404 : BitVec 32 := Scalar.extui v403
  let c0_i32_228 : BitVec 32 := 0#32
  let v405 : BitVec 1 := Scalar.cmpi .slt v401 c0_i32_228
  let v406 : BitVec 32 := Scalar.extui v405
  let v407 : BitVec 32 := Scalar.subi v404 v406
  let c1024_i32_226 : BitVec 32 := 1024#32
  let c0_i32_229 : BitVec 32 := 0#32
  let v408 : BitVec 1 := Scalar.cmpi .sgt c1024_i32_226 c0_i32_229
  let v409 : BitVec 32 := Scalar.extui v408
  let c0_i32_230 : BitVec 32 := 0#32
  let v410 : BitVec 1 := Scalar.cmpi .slt c1024_i32_226 c0_i32_230
  let v411 : BitVec 32 := Scalar.extui v410
  let v412 : BitVec 32 := Scalar.subi v409 v411
  let v413 : BitVec 1 := Scalar.cmpi .ne v407 v412
  let v414 : BitVec 32 := Scalar.remsi v401 c1024_i32_226
  let c0_i32_231 : BitVec 32 := 0#32
  let v415 : BitVec 1 := Scalar.cmpi .ne v414 c0_i32_231
  let v416 : BitVec 1 := Scalar.andi v413 v415
  let v402 : BitVec 32 := Scalar.divsi v401 c1024_i32_226
  let c1_i32_232 : BitVec 32 := 1#32
  let v417 : BitVec 32 := Scalar.subi v402 c1_i32_232
  let v418 : BitVec 32 := Scalar.select v416 v417 v402
  let c1024_i32_235 : BitVec 32 := 1024#32
  let v422 : BitVec 32 := Scalar.addi v421 c1024_i32_235
  let c1_i32_236 : BitVec 32 := 1#32
  let v423 : BitVec 32 := Scalar.subi v422 c1_i32_236
  let c0_i32_238 : BitVec 32 := 0#32
  let v425 : BitVec 1 := Scalar.cmpi .sgt v423 c0_i32_238
  let v426 : BitVec 32 := Scalar.extui v425
  let c0_i32_239 : BitVec 32 := 0#32
  let v427 : BitVec 1 := Scalar.cmpi .slt v423 c0_i32_239
  let v428 : BitVec 32 := Scalar.extui v427
  let v429 : BitVec 32 := Scalar.subi v426 v428
  let c1024_i32_237 : BitVec 32 := 1024#32
  let c0_i32_240 : BitVec 32 := 0#32
  let v430 : BitVec 1 := Scalar.cmpi .sgt c1024_i32_237 c0_i32_240
  let v431 : BitVec 32 := Scalar.extui v430
  let c0_i32_241 : BitVec 32 := 0#32
  let v432 : BitVec 1 := Scalar.cmpi .slt c1024_i32_237 c0_i32_241
  let v433 : BitVec 32 := Scalar.extui v432
  let v434 : BitVec 32 := Scalar.subi v431 v433
  let v435 : BitVec 1 := Scalar.cmpi .ne v429 v434
  let v436 : BitVec 32 := Scalar.remsi v423 c1024_i32_237
  let c0_i32_242 : BitVec 32 := 0#32
  let v437 : BitVec 1 := Scalar.cmpi .ne v436 c0_i32_242
  let v438 : BitVec 1 := Scalar.andi v435 v437
  let v424 : BitVec 32 := Scalar.divsi v423 c1024_i32_237
  let c1_i32_243 : BitVec 32 := 1#32
  let v439 : BitVec 32 := Scalar.subi v424 c1_i32_243
  let v440 : BitVec 32 := Scalar.select v438 v439 v424
  let v441 : BitVec 32 := Scalar.subi v440 v418
  let c1_i32_244 : BitVec 32 := 1#32
  let v443 : BitVec 32 := Scalar.divsi v441 c1_i32_244
  let v444 : BitVec 32 := Scalar.muli v443 c1_i32_244
  let v445 : BitVec 32 := Scalar.addi v418 v444
  let c1_i32_246 : BitVec 32 := 1#32
  let arg17 : BitVec 32 := Scf.iv v445 c1_i32_246 k0_t15
  let c1024_i32_377 : BitVec 32 := 1024#32
  let v699 : BitVec 32 := Scalar.muli arg17 c1024_i32_377
  let v705 : Index := Scalar.indexCast v699
  ![0, v705.toNat]

def k0_chk21 (v401 : BitVec 32) (v421 : BitVec 32) : Prop :=
  ((k0_t14_loop v401 v421).OK) ∧
  (∀ k0_t14 : Fin (k0_t14_loop v401 v421).trips, ∀ a, (k0_off46 v401 v421 k0_t14) a + S1024x32.size a ≤ S4096x32.size a) ∧
  (∀ k0_t14 : Fin (k0_t14_loop v401 v421).trips, ∀ a, (k0_off47 v401 v421 k0_t14) a + S1024x33.size a ≤ S4096x33.size a) ∧
  (∀ k0_t14 : Fin (k0_t14_loop v401 v421).trips, ∀ a, (k0_off48 v401 v421 k0_t14) a + S1x1024.size a ≤ S1x4096.size a) ∧
  ((k0_t15_loop v401 v421).OK) ∧
  (∀ k0_t15 : Fin (k0_t15_loop v401 v421).trips, ∀ a, (k0_off49 v401 v421 k0_t15) a + S1024x32.size a ≤ S4096x32.size a) ∧
  (∀ k0_t15 : Fin (k0_t15_loop v401 v421).trips, ∀ a, (k0_off50 v401 v421 k0_t15) a + S1024x33.size a ≤ S4096x33.size a) ∧
  (∀ k0_t15 : Fin (k0_t15_loop v401 v421).trips, ∀ a, (k0_off51 v401 v421 k0_t15) a + S1x1024.size a ≤ S1x4096.size a)
theorem k0_t14_ok : ∀ (v401 : BitVec 32) (v421 : BitVec 32) (k0_hw21 : k0_chk21 v401 v421), (k0_t14_loop v401 v421).OK := fun v401 v421 k0_hw21 => k0_hw21.1
theorem k0_off46_inb : ∀ (v401 : BitVec 32) (v421 : BitVec 32) (k0_hw21 : k0_chk21 v401 v421) (k0_t14 : Fin (k0_t14_loop v401 v421).trips), ∀ a, (k0_off46 v401 v421 k0_t14) a + S1024x32.size a ≤ S4096x32.size a := fun v401 v421 k0_hw21 k0_t14 => k0_hw21.2.1 k0_t14
theorem k0_off47_inb : ∀ (v401 : BitVec 32) (v421 : BitVec 32) (k0_hw21 : k0_chk21 v401 v421) (k0_t14 : Fin (k0_t14_loop v401 v421).trips), ∀ a, (k0_off47 v401 v421 k0_t14) a + S1024x33.size a ≤ S4096x33.size a := fun v401 v421 k0_hw21 k0_t14 => k0_hw21.2.2.1 k0_t14
theorem k0_off48_inb : ∀ (v401 : BitVec 32) (v421 : BitVec 32) (k0_hw21 : k0_chk21 v401 v421) (k0_t14 : Fin (k0_t14_loop v401 v421).trips), ∀ a, (k0_off48 v401 v421 k0_t14) a + S1x1024.size a ≤ S1x4096.size a := fun v401 v421 k0_hw21 k0_t14 => k0_hw21.2.2.2.1 k0_t14
theorem k0_t15_ok : ∀ (v401 : BitVec 32) (v421 : BitVec 32) (k0_hw21 : k0_chk21 v401 v421), (k0_t15_loop v401 v421).OK := fun v401 v421 k0_hw21 => k0_hw21.2.2.2.2.1
theorem k0_off49_inb : ∀ (v401 : BitVec 32) (v421 : BitVec 32) (k0_hw21 : k0_chk21 v401 v421) (k0_t15 : Fin (k0_t15_loop v401 v421).trips), ∀ a, (k0_off49 v401 v421 k0_t15) a + S1024x32.size a ≤ S4096x32.size a := fun v401 v421 k0_hw21 k0_t15 => k0_hw21.2.2.2.2.2.1 k0_t15
theorem k0_off50_inb : ∀ (v401 : BitVec 32) (v421 : BitVec 32) (k0_hw21 : k0_chk21 v401 v421) (k0_t15 : Fin (k0_t15_loop v401 v421).trips), ∀ a, (k0_off50 v401 v421 k0_t15) a + S1024x33.size a ≤ S4096x33.size a := fun v401 v421 k0_hw21 k0_t15 => k0_hw21.2.2.2.2.2.2.1 k0_t15
theorem k0_off51_inb : ∀ (v401 : BitVec 32) (v421 : BitVec 32) (k0_hw21 : k0_chk21 v401 v421) (k0_t15 : Fin (k0_t15_loop v401 v421).trips), ∀ a, (k0_off51 v401 v421 k0_t15) a + S1x1024.size a ≤ S1x4096.size a := fun v401 v421 k0_hw21 k0_t15 => k0_hw21.2.2.2.2.2.2.2 k0_t15

def k0_off52 (v469 : BitVec 32) : Fin 2 → Nat :=
  let c0_260 : Index := 0#32
  let v471 : Index := Scalar.indexCast v469
  ![0, v471.toNat]

def k0_chk22 (v469 : BitVec 32) : Prop :=
  (∀ a, (k0_off52 v469) a + S1x1.size a ≤ S1x5.size a)
theorem k0_off52_inb : ∀ (v469 : BitVec 32) (k0_hw22 : k0_chk22 v469), ∀ a, (k0_off52 v469) a + S1x1.size a ≤ S1x5.size a := fun v469 k0_hw22 => k0_hw22

def k0_off53 (v470 : BitVec 32) : Fin 2 → Nat :=
  let c0_269 : Index := 0#32
  let c1_i32_268 : BitVec 32 := 1#32
  let v490 : BitVec 32 := Scalar.addi v470 c1_i32_268
  let v491 : Index := Scalar.indexCast v490
  ![0, v491.toNat]

def k0_chk23 (v470 : BitVec 32) : Prop :=
  (∀ a, (k0_off53 v470) a + S1x1.size a ≤ S1x5.size a)
theorem k0_off53_inb : ∀ (v470 : BitVec 32) (k0_hw23 : k0_chk23 v470), ∀ a, (k0_off53 v470) a + S1x1.size a ≤ S1x5.size a := fun v470 k0_hw23 => k0_hw23

@[reducible] def k0_t16_loop (v472 : BitVec 32) (v492 : BitVec 32) : Scf.Loop 32 :=
  let c0_i32_262 : BitVec 32 := 0#32
  let v474 : BitVec 1 := Scalar.cmpi .sgt v472 c0_i32_262
  let v475 : BitVec 32 := Scalar.extui v474
  let c0_i32_263 : BitVec 32 := 0#32
  let v476 : BitVec 1 := Scalar.cmpi .slt v472 c0_i32_263
  let v477 : BitVec 32 := Scalar.extui v476
  let v478 : BitVec 32 := Scalar.subi v475 v477
  let c1024_i32_261 : BitVec 32 := 1024#32
  let c0_i32_264 : BitVec 32 := 0#32
  let v479 : BitVec 1 := Scalar.cmpi .sgt c1024_i32_261 c0_i32_264
  let v480 : BitVec 32 := Scalar.extui v479
  let c0_i32_265 : BitVec 32 := 0#32
  let v481 : BitVec 1 := Scalar.cmpi .slt c1024_i32_261 c0_i32_265
  let v482 : BitVec 32 := Scalar.extui v481
  let v483 : BitVec 32 := Scalar.subi v480 v482
  let v484 : BitVec 1 := Scalar.cmpi .ne v478 v483
  let v485 : BitVec 32 := Scalar.remsi v472 c1024_i32_261
  let c0_i32_266 : BitVec 32 := 0#32
  let v486 : BitVec 1 := Scalar.cmpi .ne v485 c0_i32_266
  let v487 : BitVec 1 := Scalar.andi v484 v486
  let v473 : BitVec 32 := Scalar.divsi v472 c1024_i32_261
  let c1_i32_267 : BitVec 32 := 1#32
  let v488 : BitVec 32 := Scalar.subi v473 c1_i32_267
  let v489 : BitVec 32 := Scalar.select v487 v488 v473
  let c1024_i32_270 : BitVec 32 := 1024#32
  let v493 : BitVec 32 := Scalar.addi v492 c1024_i32_270
  let c1_i32_271 : BitVec 32 := 1#32
  let v494 : BitVec 32 := Scalar.subi v493 c1_i32_271
  let c0_i32_273 : BitVec 32 := 0#32
  let v496 : BitVec 1 := Scalar.cmpi .sgt v494 c0_i32_273
  let v497 : BitVec 32 := Scalar.extui v496
  let c0_i32_274 : BitVec 32 := 0#32
  let v498 : BitVec 1 := Scalar.cmpi .slt v494 c0_i32_274
  let v499 : BitVec 32 := Scalar.extui v498
  let v500 : BitVec 32 := Scalar.subi v497 v499
  let c1024_i32_272 : BitVec 32 := 1024#32
  let c0_i32_275 : BitVec 32 := 0#32
  let v501 : BitVec 1 := Scalar.cmpi .sgt c1024_i32_272 c0_i32_275
  let v502 : BitVec 32 := Scalar.extui v501
  let c0_i32_276 : BitVec 32 := 0#32
  let v503 : BitVec 1 := Scalar.cmpi .slt c1024_i32_272 c0_i32_276
  let v504 : BitVec 32 := Scalar.extui v503
  let v505 : BitVec 32 := Scalar.subi v502 v504
  let v506 : BitVec 1 := Scalar.cmpi .ne v500 v505
  let v507 : BitVec 32 := Scalar.remsi v494 c1024_i32_272
  let c0_i32_277 : BitVec 32 := 0#32
  let v508 : BitVec 1 := Scalar.cmpi .ne v507 c0_i32_277
  let v509 : BitVec 1 := Scalar.andi v506 v508
  let v495 : BitVec 32 := Scalar.divsi v494 c1024_i32_272
  let c1_i32_278 : BitVec 32 := 1#32
  let v510 : BitVec 32 := Scalar.subi v495 c1_i32_278
  let v511 : BitVec 32 := Scalar.select v509 v510 v495
  let v512 : BitVec 32 := Scalar.subi v511 v489
  let c1_i32_279 : BitVec 32 := 1#32
  let v514 : BitVec 32 := Scalar.divsi v512 c1_i32_279
  let v515 : BitVec 32 := Scalar.muli v514 c1_i32_279
  let v516 : BitVec 32 := Scalar.addi v489 v515
  let c1_i32_280 : BitVec 32 := 1#32
  ⟨v489, v516, c1_i32_280⟩

def k0_off54 (v472 : BitVec 32) (v492 : BitVec 32) (k0_t16 : Fin (k0_t16_loop v472 v492).trips) : Fin 2 → Nat :=
  let c0_i32_262 : BitVec 32 := 0#32
  let v474 : BitVec 1 := Scalar.cmpi .sgt v472 c0_i32_262
  let v475 : BitVec 32 := Scalar.extui v474
  let c0_i32_263 : BitVec 32 := 0#32
  let v476 : BitVec 1 := Scalar.cmpi .slt v472 c0_i32_263
  let v477 : BitVec 32 := Scalar.extui v476
  let v478 : BitVec 32 := Scalar.subi v475 v477
  let c1024_i32_261 : BitVec 32 := 1024#32
  let c0_i32_264 : BitVec 32 := 0#32
  let v479 : BitVec 1 := Scalar.cmpi .sgt c1024_i32_261 c0_i32_264
  let v480 : BitVec 32 := Scalar.extui v479
  let c0_i32_265 : BitVec 32 := 0#32
  let v481 : BitVec 1 := Scalar.cmpi .slt c1024_i32_261 c0_i32_265
  let v482 : BitVec 32 := Scalar.extui v481
  let v483 : BitVec 32 := Scalar.subi v480 v482
  let v484 : BitVec 1 := Scalar.cmpi .ne v478 v483
  let v485 : BitVec 32 := Scalar.remsi v472 c1024_i32_261
  let c0_i32_266 : BitVec 32 := 0#32
  let v486 : BitVec 1 := Scalar.cmpi .ne v485 c0_i32_266
  let v487 : BitVec 1 := Scalar.andi v484 v486
  let v473 : BitVec 32 := Scalar.divsi v472 c1024_i32_261
  let c1_i32_267 : BitVec 32 := 1#32
  let v488 : BitVec 32 := Scalar.subi v473 c1_i32_267
  let v489 : BitVec 32 := Scalar.select v487 v488 v473
  let c1_i32_280 : BitVec 32 := 1#32
  let arg17 : BitVec 32 := Scf.iv v489 c1_i32_280 k0_t16
  let c1024_i32_377 : BitVec 32 := 1024#32
  let v699 : BitVec 32 := Scalar.muli arg17 c1024_i32_377
  let v700 : Index := Scalar.indexCast v699
  let c0_378 : Index := 0#32
  ![v700.toNat, 0]
def k0_off55 (v472 : BitVec 32) (v492 : BitVec 32) (k0_t16 : Fin (k0_t16_loop v472 v492).trips) : Fin 2 → Nat :=
  let c0_i32_262 : BitVec 32 := 0#32
  let v474 : BitVec 1 := Scalar.cmpi .sgt v472 c0_i32_262
  let v475 : BitVec 32 := Scalar.extui v474
  let c0_i32_263 : BitVec 32 := 0#32
  let v476 : BitVec 1 := Scalar.cmpi .slt v472 c0_i32_263
  let v477 : BitVec 32 := Scalar.extui v476
  let v478 : BitVec 32 := Scalar.subi v475 v477
  let c1024_i32_261 : BitVec 32 := 1024#32
  let c0_i32_264 : BitVec 32 := 0#32
  let v479 : BitVec 1 := Scalar.cmpi .sgt c1024_i32_261 c0_i32_264
  let v480 : BitVec 32 := Scalar.extui v479
  let c0_i32_265 : BitVec 32 := 0#32
  let v481 : BitVec 1 := Scalar.cmpi .slt c1024_i32_261 c0_i32_265
  let v482 : BitVec 32 := Scalar.extui v481
  let v483 : BitVec 32 := Scalar.subi v480 v482
  let v484 : BitVec 1 := Scalar.cmpi .ne v478 v483
  let v485 : BitVec 32 := Scalar.remsi v472 c1024_i32_261
  let c0_i32_266 : BitVec 32 := 0#32
  let v486 : BitVec 1 := Scalar.cmpi .ne v485 c0_i32_266
  let v487 : BitVec 1 := Scalar.andi v484 v486
  let v473 : BitVec 32 := Scalar.divsi v472 c1024_i32_261
  let c1_i32_267 : BitVec 32 := 1#32
  let v488 : BitVec 32 := Scalar.subi v473 c1_i32_267
  let v489 : BitVec 32 := Scalar.select v487 v488 v473
  let c1_i32_280 : BitVec 32 := 1#32
  let arg17 : BitVec 32 := Scf.iv v489 c1_i32_280 k0_t16
  let c1024_i32_377 : BitVec 32 := 1024#32
  let v699 : BitVec 32 := Scalar.muli arg17 c1024_i32_377
  let v702 : Index := Scalar.indexCast v699
  let c0_379 : Index := 0#32
  ![v702.toNat, 0]
def k0_off56 (v472 : BitVec 32) (v492 : BitVec 32) (k0_t16 : Fin (k0_t16_loop v472 v492).trips) : Fin 2 → Nat :=
  let c0_381 : Index := 0#32
  let c0_i32_262 : BitVec 32 := 0#32
  let v474 : BitVec 1 := Scalar.cmpi .sgt v472 c0_i32_262
  let v475 : BitVec 32 := Scalar.extui v474
  let c0_i32_263 : BitVec 32 := 0#32
  let v476 : BitVec 1 := Scalar.cmpi .slt v472 c0_i32_263
  let v477 : BitVec 32 := Scalar.extui v476
  let v478 : BitVec 32 := Scalar.subi v475 v477
  let c1024_i32_261 : BitVec 32 := 1024#32
  let c0_i32_264 : BitVec 32 := 0#32
  let v479 : BitVec 1 := Scalar.cmpi .sgt c1024_i32_261 c0_i32_264
  let v480 : BitVec 32 := Scalar.extui v479
  let c0_i32_265 : BitVec 32 := 0#32
  let v481 : BitVec 1 := Scalar.cmpi .slt c1024_i32_261 c0_i32_265
  let v482 : BitVec 32 := Scalar.extui v481
  let v483 : BitVec 32 := Scalar.subi v480 v482
  let v484 : BitVec 1 := Scalar.cmpi .ne v478 v483
  let v485 : BitVec 32 := Scalar.remsi v472 c1024_i32_261
  let c0_i32_266 : BitVec 32 := 0#32
  let v486 : BitVec 1 := Scalar.cmpi .ne v485 c0_i32_266
  let v487 : BitVec 1 := Scalar.andi v484 v486
  let v473 : BitVec 32 := Scalar.divsi v472 c1024_i32_261
  let c1_i32_267 : BitVec 32 := 1#32
  let v488 : BitVec 32 := Scalar.subi v473 c1_i32_267
  let v489 : BitVec 32 := Scalar.select v487 v488 v473
  let c1_i32_280 : BitVec 32 := 1#32
  let arg17 : BitVec 32 := Scf.iv v489 c1_i32_280 k0_t16
  let c1024_i32_377 : BitVec 32 := 1024#32
  let v699 : BitVec 32 := Scalar.muli arg17 c1024_i32_377
  let v705 : Index := Scalar.indexCast v699
  ![0, v705.toNat]
@[reducible] def k0_t17_loop (v472 : BitVec 32) (v492 : BitVec 32) : Scf.Loop 32 :=
  let c0_i32_262 : BitVec 32 := 0#32
  let v474 : BitVec 1 := Scalar.cmpi .sgt v472 c0_i32_262
  let v475 : BitVec 32 := Scalar.extui v474
  let c0_i32_263 : BitVec 32 := 0#32
  let v476 : BitVec 1 := Scalar.cmpi .slt v472 c0_i32_263
  let v477 : BitVec 32 := Scalar.extui v476
  let v478 : BitVec 32 := Scalar.subi v475 v477
  let c1024_i32_261 : BitVec 32 := 1024#32
  let c0_i32_264 : BitVec 32 := 0#32
  let v479 : BitVec 1 := Scalar.cmpi .sgt c1024_i32_261 c0_i32_264
  let v480 : BitVec 32 := Scalar.extui v479
  let c0_i32_265 : BitVec 32 := 0#32
  let v481 : BitVec 1 := Scalar.cmpi .slt c1024_i32_261 c0_i32_265
  let v482 : BitVec 32 := Scalar.extui v481
  let v483 : BitVec 32 := Scalar.subi v480 v482
  let v484 : BitVec 1 := Scalar.cmpi .ne v478 v483
  let v485 : BitVec 32 := Scalar.remsi v472 c1024_i32_261
  let c0_i32_266 : BitVec 32 := 0#32
  let v486 : BitVec 1 := Scalar.cmpi .ne v485 c0_i32_266
  let v487 : BitVec 1 := Scalar.andi v484 v486
  let v473 : BitVec 32 := Scalar.divsi v472 c1024_i32_261
  let c1_i32_267 : BitVec 32 := 1#32
  let v488 : BitVec 32 := Scalar.subi v473 c1_i32_267
  let v489 : BitVec 32 := Scalar.select v487 v488 v473
  let c1024_i32_270 : BitVec 32 := 1024#32
  let v493 : BitVec 32 := Scalar.addi v492 c1024_i32_270
  let c1_i32_271 : BitVec 32 := 1#32
  let v494 : BitVec 32 := Scalar.subi v493 c1_i32_271
  let c0_i32_273 : BitVec 32 := 0#32
  let v496 : BitVec 1 := Scalar.cmpi .sgt v494 c0_i32_273
  let v497 : BitVec 32 := Scalar.extui v496
  let c0_i32_274 : BitVec 32 := 0#32
  let v498 : BitVec 1 := Scalar.cmpi .slt v494 c0_i32_274
  let v499 : BitVec 32 := Scalar.extui v498
  let v500 : BitVec 32 := Scalar.subi v497 v499
  let c1024_i32_272 : BitVec 32 := 1024#32
  let c0_i32_275 : BitVec 32 := 0#32
  let v501 : BitVec 1 := Scalar.cmpi .sgt c1024_i32_272 c0_i32_275
  let v502 : BitVec 32 := Scalar.extui v501
  let c0_i32_276 : BitVec 32 := 0#32
  let v503 : BitVec 1 := Scalar.cmpi .slt c1024_i32_272 c0_i32_276
  let v504 : BitVec 32 := Scalar.extui v503
  let v505 : BitVec 32 := Scalar.subi v502 v504
  let v506 : BitVec 1 := Scalar.cmpi .ne v500 v505
  let v507 : BitVec 32 := Scalar.remsi v494 c1024_i32_272
  let c0_i32_277 : BitVec 32 := 0#32
  let v508 : BitVec 1 := Scalar.cmpi .ne v507 c0_i32_277
  let v509 : BitVec 1 := Scalar.andi v506 v508
  let v495 : BitVec 32 := Scalar.divsi v494 c1024_i32_272
  let c1_i32_278 : BitVec 32 := 1#32
  let v510 : BitVec 32 := Scalar.subi v495 c1_i32_278
  let v511 : BitVec 32 := Scalar.select v509 v510 v495
  let v512 : BitVec 32 := Scalar.subi v511 v489
  let c1_i32_279 : BitVec 32 := 1#32
  let v514 : BitVec 32 := Scalar.divsi v512 c1_i32_279
  let v515 : BitVec 32 := Scalar.muli v514 c1_i32_279
  let v516 : BitVec 32 := Scalar.addi v489 v515
  let v513 : BitVec 32 := Scalar.addi v489 v512
  let c1_i32_281 : BitVec 32 := 1#32
  ⟨v516, v513, c1_i32_281⟩
def k0_off57 (v472 : BitVec 32) (v492 : BitVec 32) (k0_t17 : Fin (k0_t17_loop v472 v492).trips) : Fin 2 → Nat :=
  let c0_i32_262 : BitVec 32 := 0#32
  let v474 : BitVec 1 := Scalar.cmpi .sgt v472 c0_i32_262
  let v475 : BitVec 32 := Scalar.extui v474
  let c0_i32_263 : BitVec 32 := 0#32
  let v476 : BitVec 1 := Scalar.cmpi .slt v472 c0_i32_263
  let v477 : BitVec 32 := Scalar.extui v476
  let v478 : BitVec 32 := Scalar.subi v475 v477
  let c1024_i32_261 : BitVec 32 := 1024#32
  let c0_i32_264 : BitVec 32 := 0#32
  let v479 : BitVec 1 := Scalar.cmpi .sgt c1024_i32_261 c0_i32_264
  let v480 : BitVec 32 := Scalar.extui v479
  let c0_i32_265 : BitVec 32 := 0#32
  let v481 : BitVec 1 := Scalar.cmpi .slt c1024_i32_261 c0_i32_265
  let v482 : BitVec 32 := Scalar.extui v481
  let v483 : BitVec 32 := Scalar.subi v480 v482
  let v484 : BitVec 1 := Scalar.cmpi .ne v478 v483
  let v485 : BitVec 32 := Scalar.remsi v472 c1024_i32_261
  let c0_i32_266 : BitVec 32 := 0#32
  let v486 : BitVec 1 := Scalar.cmpi .ne v485 c0_i32_266
  let v487 : BitVec 1 := Scalar.andi v484 v486
  let v473 : BitVec 32 := Scalar.divsi v472 c1024_i32_261
  let c1_i32_267 : BitVec 32 := 1#32
  let v488 : BitVec 32 := Scalar.subi v473 c1_i32_267
  let v489 : BitVec 32 := Scalar.select v487 v488 v473
  let c1024_i32_270 : BitVec 32 := 1024#32
  let v493 : BitVec 32 := Scalar.addi v492 c1024_i32_270
  let c1_i32_271 : BitVec 32 := 1#32
  let v494 : BitVec 32 := Scalar.subi v493 c1_i32_271
  let c0_i32_273 : BitVec 32 := 0#32
  let v496 : BitVec 1 := Scalar.cmpi .sgt v494 c0_i32_273
  let v497 : BitVec 32 := Scalar.extui v496
  let c0_i32_274 : BitVec 32 := 0#32
  let v498 : BitVec 1 := Scalar.cmpi .slt v494 c0_i32_274
  let v499 : BitVec 32 := Scalar.extui v498
  let v500 : BitVec 32 := Scalar.subi v497 v499
  let c1024_i32_272 : BitVec 32 := 1024#32
  let c0_i32_275 : BitVec 32 := 0#32
  let v501 : BitVec 1 := Scalar.cmpi .sgt c1024_i32_272 c0_i32_275
  let v502 : BitVec 32 := Scalar.extui v501
  let c0_i32_276 : BitVec 32 := 0#32
  let v503 : BitVec 1 := Scalar.cmpi .slt c1024_i32_272 c0_i32_276
  let v504 : BitVec 32 := Scalar.extui v503
  let v505 : BitVec 32 := Scalar.subi v502 v504
  let v506 : BitVec 1 := Scalar.cmpi .ne v500 v505
  let v507 : BitVec 32 := Scalar.remsi v494 c1024_i32_272
  let c0_i32_277 : BitVec 32 := 0#32
  let v508 : BitVec 1 := Scalar.cmpi .ne v507 c0_i32_277
  let v509 : BitVec 1 := Scalar.andi v506 v508
  let v495 : BitVec 32 := Scalar.divsi v494 c1024_i32_272
  let c1_i32_278 : BitVec 32 := 1#32
  let v510 : BitVec 32 := Scalar.subi v495 c1_i32_278
  let v511 : BitVec 32 := Scalar.select v509 v510 v495
  let v512 : BitVec 32 := Scalar.subi v511 v489
  let c1_i32_279 : BitVec 32 := 1#32
  let v514 : BitVec 32 := Scalar.divsi v512 c1_i32_279
  let v515 : BitVec 32 := Scalar.muli v514 c1_i32_279
  let v516 : BitVec 32 := Scalar.addi v489 v515
  let c1_i32_281 : BitVec 32 := 1#32
  let arg17 : BitVec 32 := Scf.iv v516 c1_i32_281 k0_t17
  let c1024_i32_377 : BitVec 32 := 1024#32
  let v699 : BitVec 32 := Scalar.muli arg17 c1024_i32_377
  let v700 : Index := Scalar.indexCast v699
  let c0_378 : Index := 0#32
  ![v700.toNat, 0]
def k0_off58 (v472 : BitVec 32) (v492 : BitVec 32) (k0_t17 : Fin (k0_t17_loop v472 v492).trips) : Fin 2 → Nat :=
  let c0_i32_262 : BitVec 32 := 0#32
  let v474 : BitVec 1 := Scalar.cmpi .sgt v472 c0_i32_262
  let v475 : BitVec 32 := Scalar.extui v474
  let c0_i32_263 : BitVec 32 := 0#32
  let v476 : BitVec 1 := Scalar.cmpi .slt v472 c0_i32_263
  let v477 : BitVec 32 := Scalar.extui v476
  let v478 : BitVec 32 := Scalar.subi v475 v477
  let c1024_i32_261 : BitVec 32 := 1024#32
  let c0_i32_264 : BitVec 32 := 0#32
  let v479 : BitVec 1 := Scalar.cmpi .sgt c1024_i32_261 c0_i32_264
  let v480 : BitVec 32 := Scalar.extui v479
  let c0_i32_265 : BitVec 32 := 0#32
  let v481 : BitVec 1 := Scalar.cmpi .slt c1024_i32_261 c0_i32_265
  let v482 : BitVec 32 := Scalar.extui v481
  let v483 : BitVec 32 := Scalar.subi v480 v482
  let v484 : BitVec 1 := Scalar.cmpi .ne v478 v483
  let v485 : BitVec 32 := Scalar.remsi v472 c1024_i32_261
  let c0_i32_266 : BitVec 32 := 0#32
  let v486 : BitVec 1 := Scalar.cmpi .ne v485 c0_i32_266
  let v487 : BitVec 1 := Scalar.andi v484 v486
  let v473 : BitVec 32 := Scalar.divsi v472 c1024_i32_261
  let c1_i32_267 : BitVec 32 := 1#32
  let v488 : BitVec 32 := Scalar.subi v473 c1_i32_267
  let v489 : BitVec 32 := Scalar.select v487 v488 v473
  let c1024_i32_270 : BitVec 32 := 1024#32
  let v493 : BitVec 32 := Scalar.addi v492 c1024_i32_270
  let c1_i32_271 : BitVec 32 := 1#32
  let v494 : BitVec 32 := Scalar.subi v493 c1_i32_271
  let c0_i32_273 : BitVec 32 := 0#32
  let v496 : BitVec 1 := Scalar.cmpi .sgt v494 c0_i32_273
  let v497 : BitVec 32 := Scalar.extui v496
  let c0_i32_274 : BitVec 32 := 0#32
  let v498 : BitVec 1 := Scalar.cmpi .slt v494 c0_i32_274
  let v499 : BitVec 32 := Scalar.extui v498
  let v500 : BitVec 32 := Scalar.subi v497 v499
  let c1024_i32_272 : BitVec 32 := 1024#32
  let c0_i32_275 : BitVec 32 := 0#32
  let v501 : BitVec 1 := Scalar.cmpi .sgt c1024_i32_272 c0_i32_275
  let v502 : BitVec 32 := Scalar.extui v501
  let c0_i32_276 : BitVec 32 := 0#32
  let v503 : BitVec 1 := Scalar.cmpi .slt c1024_i32_272 c0_i32_276
  let v504 : BitVec 32 := Scalar.extui v503
  let v505 : BitVec 32 := Scalar.subi v502 v504
  let v506 : BitVec 1 := Scalar.cmpi .ne v500 v505
  let v507 : BitVec 32 := Scalar.remsi v494 c1024_i32_272
  let c0_i32_277 : BitVec 32 := 0#32
  let v508 : BitVec 1 := Scalar.cmpi .ne v507 c0_i32_277
  let v509 : BitVec 1 := Scalar.andi v506 v508
  let v495 : BitVec 32 := Scalar.divsi v494 c1024_i32_272
  let c1_i32_278 : BitVec 32 := 1#32
  let v510 : BitVec 32 := Scalar.subi v495 c1_i32_278
  let v511 : BitVec 32 := Scalar.select v509 v510 v495
  let v512 : BitVec 32 := Scalar.subi v511 v489
  let c1_i32_279 : BitVec 32 := 1#32
  let v514 : BitVec 32 := Scalar.divsi v512 c1_i32_279
  let v515 : BitVec 32 := Scalar.muli v514 c1_i32_279
  let v516 : BitVec 32 := Scalar.addi v489 v515
  let c1_i32_281 : BitVec 32 := 1#32
  let arg17 : BitVec 32 := Scf.iv v516 c1_i32_281 k0_t17
  let c1024_i32_377 : BitVec 32 := 1024#32
  let v699 : BitVec 32 := Scalar.muli arg17 c1024_i32_377
  let v702 : Index := Scalar.indexCast v699
  let c0_379 : Index := 0#32
  ![v702.toNat, 0]
def k0_off59 (v472 : BitVec 32) (v492 : BitVec 32) (k0_t17 : Fin (k0_t17_loop v472 v492).trips) : Fin 2 → Nat :=
  let c0_381 : Index := 0#32
  let c0_i32_262 : BitVec 32 := 0#32
  let v474 : BitVec 1 := Scalar.cmpi .sgt v472 c0_i32_262
  let v475 : BitVec 32 := Scalar.extui v474
  let c0_i32_263 : BitVec 32 := 0#32
  let v476 : BitVec 1 := Scalar.cmpi .slt v472 c0_i32_263
  let v477 : BitVec 32 := Scalar.extui v476
  let v478 : BitVec 32 := Scalar.subi v475 v477
  let c1024_i32_261 : BitVec 32 := 1024#32
  let c0_i32_264 : BitVec 32 := 0#32
  let v479 : BitVec 1 := Scalar.cmpi .sgt c1024_i32_261 c0_i32_264
  let v480 : BitVec 32 := Scalar.extui v479
  let c0_i32_265 : BitVec 32 := 0#32
  let v481 : BitVec 1 := Scalar.cmpi .slt c1024_i32_261 c0_i32_265
  let v482 : BitVec 32 := Scalar.extui v481
  let v483 : BitVec 32 := Scalar.subi v480 v482
  let v484 : BitVec 1 := Scalar.cmpi .ne v478 v483
  let v485 : BitVec 32 := Scalar.remsi v472 c1024_i32_261
  let c0_i32_266 : BitVec 32 := 0#32
  let v486 : BitVec 1 := Scalar.cmpi .ne v485 c0_i32_266
  let v487 : BitVec 1 := Scalar.andi v484 v486
  let v473 : BitVec 32 := Scalar.divsi v472 c1024_i32_261
  let c1_i32_267 : BitVec 32 := 1#32
  let v488 : BitVec 32 := Scalar.subi v473 c1_i32_267
  let v489 : BitVec 32 := Scalar.select v487 v488 v473
  let c1024_i32_270 : BitVec 32 := 1024#32
  let v493 : BitVec 32 := Scalar.addi v492 c1024_i32_270
  let c1_i32_271 : BitVec 32 := 1#32
  let v494 : BitVec 32 := Scalar.subi v493 c1_i32_271
  let c0_i32_273 : BitVec 32 := 0#32
  let v496 : BitVec 1 := Scalar.cmpi .sgt v494 c0_i32_273
  let v497 : BitVec 32 := Scalar.extui v496
  let c0_i32_274 : BitVec 32 := 0#32
  let v498 : BitVec 1 := Scalar.cmpi .slt v494 c0_i32_274
  let v499 : BitVec 32 := Scalar.extui v498
  let v500 : BitVec 32 := Scalar.subi v497 v499
  let c1024_i32_272 : BitVec 32 := 1024#32
  let c0_i32_275 : BitVec 32 := 0#32
  let v501 : BitVec 1 := Scalar.cmpi .sgt c1024_i32_272 c0_i32_275
  let v502 : BitVec 32 := Scalar.extui v501
  let c0_i32_276 : BitVec 32 := 0#32
  let v503 : BitVec 1 := Scalar.cmpi .slt c1024_i32_272 c0_i32_276
  let v504 : BitVec 32 := Scalar.extui v503
  let v505 : BitVec 32 := Scalar.subi v502 v504
  let v506 : BitVec 1 := Scalar.cmpi .ne v500 v505
  let v507 : BitVec 32 := Scalar.remsi v494 c1024_i32_272
  let c0_i32_277 : BitVec 32 := 0#32
  let v508 : BitVec 1 := Scalar.cmpi .ne v507 c0_i32_277
  let v509 : BitVec 1 := Scalar.andi v506 v508
  let v495 : BitVec 32 := Scalar.divsi v494 c1024_i32_272
  let c1_i32_278 : BitVec 32 := 1#32
  let v510 : BitVec 32 := Scalar.subi v495 c1_i32_278
  let v511 : BitVec 32 := Scalar.select v509 v510 v495
  let v512 : BitVec 32 := Scalar.subi v511 v489
  let c1_i32_279 : BitVec 32 := 1#32
  let v514 : BitVec 32 := Scalar.divsi v512 c1_i32_279
  let v515 : BitVec 32 := Scalar.muli v514 c1_i32_279
  let v516 : BitVec 32 := Scalar.addi v489 v515
  let c1_i32_281 : BitVec 32 := 1#32
  let arg17 : BitVec 32 := Scf.iv v516 c1_i32_281 k0_t17
  let c1024_i32_377 : BitVec 32 := 1024#32
  let v699 : BitVec 32 := Scalar.muli arg17 c1024_i32_377
  let v705 : Index := Scalar.indexCast v699
  ![0, v705.toNat]

def k0_chk24 (v472 : BitVec 32) (v492 : BitVec 32) : Prop :=
  ((k0_t16_loop v472 v492).OK) ∧
  (∀ k0_t16 : Fin (k0_t16_loop v472 v492).trips, ∀ a, (k0_off54 v472 v492 k0_t16) a + S1024x32.size a ≤ S4096x32.size a) ∧
  (∀ k0_t16 : Fin (k0_t16_loop v472 v492).trips, ∀ a, (k0_off55 v472 v492 k0_t16) a + S1024x33.size a ≤ S4096x33.size a) ∧
  (∀ k0_t16 : Fin (k0_t16_loop v472 v492).trips, ∀ a, (k0_off56 v472 v492 k0_t16) a + S1x1024.size a ≤ S1x4096.size a) ∧
  ((k0_t17_loop v472 v492).OK) ∧
  (∀ k0_t17 : Fin (k0_t17_loop v472 v492).trips, ∀ a, (k0_off57 v472 v492 k0_t17) a + S1024x32.size a ≤ S4096x32.size a) ∧
  (∀ k0_t17 : Fin (k0_t17_loop v472 v492).trips, ∀ a, (k0_off58 v472 v492 k0_t17) a + S1024x33.size a ≤ S4096x33.size a) ∧
  (∀ k0_t17 : Fin (k0_t17_loop v472 v492).trips, ∀ a, (k0_off59 v472 v492 k0_t17) a + S1x1024.size a ≤ S1x4096.size a)
theorem k0_t16_ok : ∀ (v472 : BitVec 32) (v492 : BitVec 32) (k0_hw24 : k0_chk24 v472 v492), (k0_t16_loop v472 v492).OK := fun v472 v492 k0_hw24 => k0_hw24.1
theorem k0_off54_inb : ∀ (v472 : BitVec 32) (v492 : BitVec 32) (k0_hw24 : k0_chk24 v472 v492) (k0_t16 : Fin (k0_t16_loop v472 v492).trips), ∀ a, (k0_off54 v472 v492 k0_t16) a + S1024x32.size a ≤ S4096x32.size a := fun v472 v492 k0_hw24 k0_t16 => k0_hw24.2.1 k0_t16
theorem k0_off55_inb : ∀ (v472 : BitVec 32) (v492 : BitVec 32) (k0_hw24 : k0_chk24 v472 v492) (k0_t16 : Fin (k0_t16_loop v472 v492).trips), ∀ a, (k0_off55 v472 v492 k0_t16) a + S1024x33.size a ≤ S4096x33.size a := fun v472 v492 k0_hw24 k0_t16 => k0_hw24.2.2.1 k0_t16
theorem k0_off56_inb : ∀ (v472 : BitVec 32) (v492 : BitVec 32) (k0_hw24 : k0_chk24 v472 v492) (k0_t16 : Fin (k0_t16_loop v472 v492).trips), ∀ a, (k0_off56 v472 v492 k0_t16) a + S1x1024.size a ≤ S1x4096.size a := fun v472 v492 k0_hw24 k0_t16 => k0_hw24.2.2.2.1 k0_t16
theorem k0_t17_ok : ∀ (v472 : BitVec 32) (v492 : BitVec 32) (k0_hw24 : k0_chk24 v472 v492), (k0_t17_loop v472 v492).OK := fun v472 v492 k0_hw24 => k0_hw24.2.2.2.2.1
theorem k0_off57_inb : ∀ (v472 : BitVec 32) (v492 : BitVec 32) (k0_hw24 : k0_chk24 v472 v492) (k0_t17 : Fin (k0_t17_loop v472 v492).trips), ∀ a, (k0_off57 v472 v492 k0_t17) a + S1024x32.size a ≤ S4096x32.size a := fun v472 v492 k0_hw24 k0_t17 => k0_hw24.2.2.2.2.2.1 k0_t17
theorem k0_off58_inb : ∀ (v472 : BitVec 32) (v492 : BitVec 32) (k0_hw24 : k0_chk24 v472 v492) (k0_t17 : Fin (k0_t17_loop v472 v492).trips), ∀ a, (k0_off58 v472 v492 k0_t17) a + S1024x33.size a ≤ S4096x33.size a := fun v472 v492 k0_hw24 k0_t17 => k0_hw24.2.2.2.2.2.2.1 k0_t17
theorem k0_off59_inb : ∀ (v472 : BitVec 32) (v492 : BitVec 32) (k0_hw24 : k0_chk24 v472 v492) (k0_t17 : Fin (k0_t17_loop v472 v492).trips), ∀ a, (k0_off59 v472 v492 k0_t17) a + S1x1024.size a ≤ S1x4096.size a := fun v472 v492 k0_hw24 k0_t17 => k0_hw24.2.2.2.2.2.2.2 k0_t17

def k0_off60 (v540 : BitVec 32) : Fin 2 → Nat :=
  let c0_295 : Index := 0#32
  let v542 : Index := Scalar.indexCast v540
  ![0, v542.toNat]

def k0_chk25 (v540 : BitVec 32) : Prop :=
  (∀ a, (k0_off60 v540) a + S1x1.size a ≤ S1x5.size a)
theorem k0_off60_inb : ∀ (v540 : BitVec 32) (k0_hw25 : k0_chk25 v540), ∀ a, (k0_off60 v540) a + S1x1.size a ≤ S1x5.size a := fun v540 k0_hw25 => k0_hw25

def k0_off61 (v541 : BitVec 32) : Fin 2 → Nat :=
  let c0_304 : Index := 0#32
  let c1_i32_303 : BitVec 32 := 1#32
  let v561 : BitVec 32 := Scalar.addi v541 c1_i32_303
  let v562 : Index := Scalar.indexCast v561
  ![0, v562.toNat]

def k0_chk26 (v541 : BitVec 32) : Prop :=
  (∀ a, (k0_off61 v541) a + S1x1.size a ≤ S1x5.size a)
theorem k0_off61_inb : ∀ (v541 : BitVec 32) (k0_hw26 : k0_chk26 v541), ∀ a, (k0_off61 v541) a + S1x1.size a ≤ S1x5.size a := fun v541 k0_hw26 => k0_hw26

@[reducible] def k0_t18_loop (v543 : BitVec 32) (v563 : BitVec 32) : Scf.Loop 32 :=
  let c0_i32_297 : BitVec 32 := 0#32
  let v545 : BitVec 1 := Scalar.cmpi .sgt v543 c0_i32_297
  let v546 : BitVec 32 := Scalar.extui v545
  let c0_i32_298 : BitVec 32 := 0#32
  let v547 : BitVec 1 := Scalar.cmpi .slt v543 c0_i32_298
  let v548 : BitVec 32 := Scalar.extui v547
  let v549 : BitVec 32 := Scalar.subi v546 v548
  let c1024_i32_296 : BitVec 32 := 1024#32
  let c0_i32_299 : BitVec 32 := 0#32
  let v550 : BitVec 1 := Scalar.cmpi .sgt c1024_i32_296 c0_i32_299
  let v551 : BitVec 32 := Scalar.extui v550
  let c0_i32_300 : BitVec 32 := 0#32
  let v552 : BitVec 1 := Scalar.cmpi .slt c1024_i32_296 c0_i32_300
  let v553 : BitVec 32 := Scalar.extui v552
  let v554 : BitVec 32 := Scalar.subi v551 v553
  let v555 : BitVec 1 := Scalar.cmpi .ne v549 v554
  let v556 : BitVec 32 := Scalar.remsi v543 c1024_i32_296
  let c0_i32_301 : BitVec 32 := 0#32
  let v557 : BitVec 1 := Scalar.cmpi .ne v556 c0_i32_301
  let v558 : BitVec 1 := Scalar.andi v555 v557
  let v544 : BitVec 32 := Scalar.divsi v543 c1024_i32_296
  let c1_i32_302 : BitVec 32 := 1#32
  let v559 : BitVec 32 := Scalar.subi v544 c1_i32_302
  let v560 : BitVec 32 := Scalar.select v558 v559 v544
  let c1024_i32_305 : BitVec 32 := 1024#32
  let v564 : BitVec 32 := Scalar.addi v563 c1024_i32_305
  let c1_i32_306 : BitVec 32 := 1#32
  let v565 : BitVec 32 := Scalar.subi v564 c1_i32_306
  let c0_i32_308 : BitVec 32 := 0#32
  let v567 : BitVec 1 := Scalar.cmpi .sgt v565 c0_i32_308
  let v568 : BitVec 32 := Scalar.extui v567
  let c0_i32_309 : BitVec 32 := 0#32
  let v569 : BitVec 1 := Scalar.cmpi .slt v565 c0_i32_309
  let v570 : BitVec 32 := Scalar.extui v569
  let v571 : BitVec 32 := Scalar.subi v568 v570
  let c1024_i32_307 : BitVec 32 := 1024#32
  let c0_i32_310 : BitVec 32 := 0#32
  let v572 : BitVec 1 := Scalar.cmpi .sgt c1024_i32_307 c0_i32_310
  let v573 : BitVec 32 := Scalar.extui v572
  let c0_i32_311 : BitVec 32 := 0#32
  let v574 : BitVec 1 := Scalar.cmpi .slt c1024_i32_307 c0_i32_311
  let v575 : BitVec 32 := Scalar.extui v574
  let v576 : BitVec 32 := Scalar.subi v573 v575
  let v577 : BitVec 1 := Scalar.cmpi .ne v571 v576
  let v578 : BitVec 32 := Scalar.remsi v565 c1024_i32_307
  let c0_i32_312 : BitVec 32 := 0#32
  let v579 : BitVec 1 := Scalar.cmpi .ne v578 c0_i32_312
  let v580 : BitVec 1 := Scalar.andi v577 v579
  let v566 : BitVec 32 := Scalar.divsi v565 c1024_i32_307
  let c1_i32_313 : BitVec 32 := 1#32
  let v581 : BitVec 32 := Scalar.subi v566 c1_i32_313
  let v582 : BitVec 32 := Scalar.select v580 v581 v566
  let v583 : BitVec 32 := Scalar.subi v582 v560
  let c1_i32_314 : BitVec 32 := 1#32
  let v585 : BitVec 32 := Scalar.divsi v583 c1_i32_314
  let v586 : BitVec 32 := Scalar.muli v585 c1_i32_314
  let v587 : BitVec 32 := Scalar.addi v560 v586
  let c1_i32_315 : BitVec 32 := 1#32
  ⟨v560, v587, c1_i32_315⟩

def k0_off62 (v543 : BitVec 32) (v563 : BitVec 32) (k0_t18 : Fin (k0_t18_loop v543 v563).trips) : Fin 2 → Nat :=
  let c0_i32_297 : BitVec 32 := 0#32
  let v545 : BitVec 1 := Scalar.cmpi .sgt v543 c0_i32_297
  let v546 : BitVec 32 := Scalar.extui v545
  let c0_i32_298 : BitVec 32 := 0#32
  let v547 : BitVec 1 := Scalar.cmpi .slt v543 c0_i32_298
  let v548 : BitVec 32 := Scalar.extui v547
  let v549 : BitVec 32 := Scalar.subi v546 v548
  let c1024_i32_296 : BitVec 32 := 1024#32
  let c0_i32_299 : BitVec 32 := 0#32
  let v550 : BitVec 1 := Scalar.cmpi .sgt c1024_i32_296 c0_i32_299
  let v551 : BitVec 32 := Scalar.extui v550
  let c0_i32_300 : BitVec 32 := 0#32
  let v552 : BitVec 1 := Scalar.cmpi .slt c1024_i32_296 c0_i32_300
  let v553 : BitVec 32 := Scalar.extui v552
  let v554 : BitVec 32 := Scalar.subi v551 v553
  let v555 : BitVec 1 := Scalar.cmpi .ne v549 v554
  let v556 : BitVec 32 := Scalar.remsi v543 c1024_i32_296
  let c0_i32_301 : BitVec 32 := 0#32
  let v557 : BitVec 1 := Scalar.cmpi .ne v556 c0_i32_301
  let v558 : BitVec 1 := Scalar.andi v555 v557
  let v544 : BitVec 32 := Scalar.divsi v543 c1024_i32_296
  let c1_i32_302 : BitVec 32 := 1#32
  let v559 : BitVec 32 := Scalar.subi v544 c1_i32_302
  let v560 : BitVec 32 := Scalar.select v558 v559 v544
  let c1_i32_315 : BitVec 32 := 1#32
  let arg17 : BitVec 32 := Scf.iv v560 c1_i32_315 k0_t18
  let c1024_i32_377 : BitVec 32 := 1024#32
  let v699 : BitVec 32 := Scalar.muli arg17 c1024_i32_377
  let v700 : Index := Scalar.indexCast v699
  let c0_378 : Index := 0#32
  ![v700.toNat, 0]
def k0_off63 (v543 : BitVec 32) (v563 : BitVec 32) (k0_t18 : Fin (k0_t18_loop v543 v563).trips) : Fin 2 → Nat :=
  let c0_i32_297 : BitVec 32 := 0#32
  let v545 : BitVec 1 := Scalar.cmpi .sgt v543 c0_i32_297
  let v546 : BitVec 32 := Scalar.extui v545
  let c0_i32_298 : BitVec 32 := 0#32
  let v547 : BitVec 1 := Scalar.cmpi .slt v543 c0_i32_298
  let v548 : BitVec 32 := Scalar.extui v547
  let v549 : BitVec 32 := Scalar.subi v546 v548
  let c1024_i32_296 : BitVec 32 := 1024#32
  let c0_i32_299 : BitVec 32 := 0#32
  let v550 : BitVec 1 := Scalar.cmpi .sgt c1024_i32_296 c0_i32_299
  let v551 : BitVec 32 := Scalar.extui v550
  let c0_i32_300 : BitVec 32 := 0#32
  let v552 : BitVec 1 := Scalar.cmpi .slt c1024_i32_296 c0_i32_300
  let v553 : BitVec 32 := Scalar.extui v552
  let v554 : BitVec 32 := Scalar.subi v551 v553
  let v555 : BitVec 1 := Scalar.cmpi .ne v549 v554
  let v556 : BitVec 32 := Scalar.remsi v543 c1024_i32_296
  let c0_i32_301 : BitVec 32 := 0#32
  let v557 : BitVec 1 := Scalar.cmpi .ne v556 c0_i32_301
  let v558 : BitVec 1 := Scalar.andi v555 v557
  let v544 : BitVec 32 := Scalar.divsi v543 c1024_i32_296
  let c1_i32_302 : BitVec 32 := 1#32
  let v559 : BitVec 32 := Scalar.subi v544 c1_i32_302
  let v560 : BitVec 32 := Scalar.select v558 v559 v544
  let c1_i32_315 : BitVec 32 := 1#32
  let arg17 : BitVec 32 := Scf.iv v560 c1_i32_315 k0_t18
  let c1024_i32_377 : BitVec 32 := 1024#32
  let v699 : BitVec 32 := Scalar.muli arg17 c1024_i32_377
  let v702 : Index := Scalar.indexCast v699
  let c0_379 : Index := 0#32
  ![v702.toNat, 0]
def k0_off64 (v543 : BitVec 32) (v563 : BitVec 32) (k0_t18 : Fin (k0_t18_loop v543 v563).trips) : Fin 2 → Nat :=
  let c0_381 : Index := 0#32
  let c0_i32_297 : BitVec 32 := 0#32
  let v545 : BitVec 1 := Scalar.cmpi .sgt v543 c0_i32_297
  let v546 : BitVec 32 := Scalar.extui v545
  let c0_i32_298 : BitVec 32 := 0#32
  let v547 : BitVec 1 := Scalar.cmpi .slt v543 c0_i32_298
  let v548 : BitVec 32 := Scalar.extui v547
  let v549 : BitVec 32 := Scalar.subi v546 v548
  let c1024_i32_296 : BitVec 32 := 1024#32
  let c0_i32_299 : BitVec 32 := 0#32
  let v550 : BitVec 1 := Scalar.cmpi .sgt c1024_i32_296 c0_i32_299
  let v551 : BitVec 32 := Scalar.extui v550
  let c0_i32_300 : BitVec 32 := 0#32
  let v552 : BitVec 1 := Scalar.cmpi .slt c1024_i32_296 c0_i32_300
  let v553 : BitVec 32 := Scalar.extui v552
  let v554 : BitVec 32 := Scalar.subi v551 v553
  let v555 : BitVec 1 := Scalar.cmpi .ne v549 v554
  let v556 : BitVec 32 := Scalar.remsi v543 c1024_i32_296
  let c0_i32_301 : BitVec 32 := 0#32
  let v557 : BitVec 1 := Scalar.cmpi .ne v556 c0_i32_301
  let v558 : BitVec 1 := Scalar.andi v555 v557
  let v544 : BitVec 32 := Scalar.divsi v543 c1024_i32_296
  let c1_i32_302 : BitVec 32 := 1#32
  let v559 : BitVec 32 := Scalar.subi v544 c1_i32_302
  let v560 : BitVec 32 := Scalar.select v558 v559 v544
  let c1_i32_315 : BitVec 32 := 1#32
  let arg17 : BitVec 32 := Scf.iv v560 c1_i32_315 k0_t18
  let c1024_i32_377 : BitVec 32 := 1024#32
  let v699 : BitVec 32 := Scalar.muli arg17 c1024_i32_377
  let v705 : Index := Scalar.indexCast v699
  ![0, v705.toNat]
@[reducible] def k0_t19_loop (v543 : BitVec 32) (v563 : BitVec 32) : Scf.Loop 32 :=
  let c0_i32_297 : BitVec 32 := 0#32
  let v545 : BitVec 1 := Scalar.cmpi .sgt v543 c0_i32_297
  let v546 : BitVec 32 := Scalar.extui v545
  let c0_i32_298 : BitVec 32 := 0#32
  let v547 : BitVec 1 := Scalar.cmpi .slt v543 c0_i32_298
  let v548 : BitVec 32 := Scalar.extui v547
  let v549 : BitVec 32 := Scalar.subi v546 v548
  let c1024_i32_296 : BitVec 32 := 1024#32
  let c0_i32_299 : BitVec 32 := 0#32
  let v550 : BitVec 1 := Scalar.cmpi .sgt c1024_i32_296 c0_i32_299
  let v551 : BitVec 32 := Scalar.extui v550
  let c0_i32_300 : BitVec 32 := 0#32
  let v552 : BitVec 1 := Scalar.cmpi .slt c1024_i32_296 c0_i32_300
  let v553 : BitVec 32 := Scalar.extui v552
  let v554 : BitVec 32 := Scalar.subi v551 v553
  let v555 : BitVec 1 := Scalar.cmpi .ne v549 v554
  let v556 : BitVec 32 := Scalar.remsi v543 c1024_i32_296
  let c0_i32_301 : BitVec 32 := 0#32
  let v557 : BitVec 1 := Scalar.cmpi .ne v556 c0_i32_301
  let v558 : BitVec 1 := Scalar.andi v555 v557
  let v544 : BitVec 32 := Scalar.divsi v543 c1024_i32_296
  let c1_i32_302 : BitVec 32 := 1#32
  let v559 : BitVec 32 := Scalar.subi v544 c1_i32_302
  let v560 : BitVec 32 := Scalar.select v558 v559 v544
  let c1024_i32_305 : BitVec 32 := 1024#32
  let v564 : BitVec 32 := Scalar.addi v563 c1024_i32_305
  let c1_i32_306 : BitVec 32 := 1#32
  let v565 : BitVec 32 := Scalar.subi v564 c1_i32_306
  let c0_i32_308 : BitVec 32 := 0#32
  let v567 : BitVec 1 := Scalar.cmpi .sgt v565 c0_i32_308
  let v568 : BitVec 32 := Scalar.extui v567
  let c0_i32_309 : BitVec 32 := 0#32
  let v569 : BitVec 1 := Scalar.cmpi .slt v565 c0_i32_309
  let v570 : BitVec 32 := Scalar.extui v569
  let v571 : BitVec 32 := Scalar.subi v568 v570
  let c1024_i32_307 : BitVec 32 := 1024#32
  let c0_i32_310 : BitVec 32 := 0#32
  let v572 : BitVec 1 := Scalar.cmpi .sgt c1024_i32_307 c0_i32_310
  let v573 : BitVec 32 := Scalar.extui v572
  let c0_i32_311 : BitVec 32 := 0#32
  let v574 : BitVec 1 := Scalar.cmpi .slt c1024_i32_307 c0_i32_311
  let v575 : BitVec 32 := Scalar.extui v574
  let v576 : BitVec 32 := Scalar.subi v573 v575
  let v577 : BitVec 1 := Scalar.cmpi .ne v571 v576
  let v578 : BitVec 32 := Scalar.remsi v565 c1024_i32_307
  let c0_i32_312 : BitVec 32 := 0#32
  let v579 : BitVec 1 := Scalar.cmpi .ne v578 c0_i32_312
  let v580 : BitVec 1 := Scalar.andi v577 v579
  let v566 : BitVec 32 := Scalar.divsi v565 c1024_i32_307
  let c1_i32_313 : BitVec 32 := 1#32
  let v581 : BitVec 32 := Scalar.subi v566 c1_i32_313
  let v582 : BitVec 32 := Scalar.select v580 v581 v566
  let v583 : BitVec 32 := Scalar.subi v582 v560
  let c1_i32_314 : BitVec 32 := 1#32
  let v585 : BitVec 32 := Scalar.divsi v583 c1_i32_314
  let v586 : BitVec 32 := Scalar.muli v585 c1_i32_314
  let v587 : BitVec 32 := Scalar.addi v560 v586
  let v584 : BitVec 32 := Scalar.addi v560 v583
  let c1_i32_316 : BitVec 32 := 1#32
  ⟨v587, v584, c1_i32_316⟩
def k0_off65 (v543 : BitVec 32) (v563 : BitVec 32) (k0_t19 : Fin (k0_t19_loop v543 v563).trips) : Fin 2 → Nat :=
  let c0_i32_297 : BitVec 32 := 0#32
  let v545 : BitVec 1 := Scalar.cmpi .sgt v543 c0_i32_297
  let v546 : BitVec 32 := Scalar.extui v545
  let c0_i32_298 : BitVec 32 := 0#32
  let v547 : BitVec 1 := Scalar.cmpi .slt v543 c0_i32_298
  let v548 : BitVec 32 := Scalar.extui v547
  let v549 : BitVec 32 := Scalar.subi v546 v548
  let c1024_i32_296 : BitVec 32 := 1024#32
  let c0_i32_299 : BitVec 32 := 0#32
  let v550 : BitVec 1 := Scalar.cmpi .sgt c1024_i32_296 c0_i32_299
  let v551 : BitVec 32 := Scalar.extui v550
  let c0_i32_300 : BitVec 32 := 0#32
  let v552 : BitVec 1 := Scalar.cmpi .slt c1024_i32_296 c0_i32_300
  let v553 : BitVec 32 := Scalar.extui v552
  let v554 : BitVec 32 := Scalar.subi v551 v553
  let v555 : BitVec 1 := Scalar.cmpi .ne v549 v554
  let v556 : BitVec 32 := Scalar.remsi v543 c1024_i32_296
  let c0_i32_301 : BitVec 32 := 0#32
  let v557 : BitVec 1 := Scalar.cmpi .ne v556 c0_i32_301
  let v558 : BitVec 1 := Scalar.andi v555 v557
  let v544 : BitVec 32 := Scalar.divsi v543 c1024_i32_296
  let c1_i32_302 : BitVec 32 := 1#32
  let v559 : BitVec 32 := Scalar.subi v544 c1_i32_302
  let v560 : BitVec 32 := Scalar.select v558 v559 v544
  let c1024_i32_305 : BitVec 32 := 1024#32
  let v564 : BitVec 32 := Scalar.addi v563 c1024_i32_305
  let c1_i32_306 : BitVec 32 := 1#32
  let v565 : BitVec 32 := Scalar.subi v564 c1_i32_306
  let c0_i32_308 : BitVec 32 := 0#32
  let v567 : BitVec 1 := Scalar.cmpi .sgt v565 c0_i32_308
  let v568 : BitVec 32 := Scalar.extui v567
  let c0_i32_309 : BitVec 32 := 0#32
  let v569 : BitVec 1 := Scalar.cmpi .slt v565 c0_i32_309
  let v570 : BitVec 32 := Scalar.extui v569
  let v571 : BitVec 32 := Scalar.subi v568 v570
  let c1024_i32_307 : BitVec 32 := 1024#32
  let c0_i32_310 : BitVec 32 := 0#32
  let v572 : BitVec 1 := Scalar.cmpi .sgt c1024_i32_307 c0_i32_310
  let v573 : BitVec 32 := Scalar.extui v572
  let c0_i32_311 : BitVec 32 := 0#32
  let v574 : BitVec 1 := Scalar.cmpi .slt c1024_i32_307 c0_i32_311
  let v575 : BitVec 32 := Scalar.extui v574
  let v576 : BitVec 32 := Scalar.subi v573 v575
  let v577 : BitVec 1 := Scalar.cmpi .ne v571 v576
  let v578 : BitVec 32 := Scalar.remsi v565 c1024_i32_307
  let c0_i32_312 : BitVec 32 := 0#32
  let v579 : BitVec 1 := Scalar.cmpi .ne v578 c0_i32_312
  let v580 : BitVec 1 := Scalar.andi v577 v579
  let v566 : BitVec 32 := Scalar.divsi v565 c1024_i32_307
  let c1_i32_313 : BitVec 32 := 1#32
  let v581 : BitVec 32 := Scalar.subi v566 c1_i32_313
  let v582 : BitVec 32 := Scalar.select v580 v581 v566
  let v583 : BitVec 32 := Scalar.subi v582 v560
  let c1_i32_314 : BitVec 32 := 1#32
  let v585 : BitVec 32 := Scalar.divsi v583 c1_i32_314
  let v586 : BitVec 32 := Scalar.muli v585 c1_i32_314
  let v587 : BitVec 32 := Scalar.addi v560 v586
  let c1_i32_316 : BitVec 32 := 1#32
  let arg17 : BitVec 32 := Scf.iv v587 c1_i32_316 k0_t19
  let c1024_i32_377 : BitVec 32 := 1024#32
  let v699 : BitVec 32 := Scalar.muli arg17 c1024_i32_377
  let v700 : Index := Scalar.indexCast v699
  let c0_378 : Index := 0#32
  ![v700.toNat, 0]
def k0_off66 (v543 : BitVec 32) (v563 : BitVec 32) (k0_t19 : Fin (k0_t19_loop v543 v563).trips) : Fin 2 → Nat :=
  let c0_i32_297 : BitVec 32 := 0#32
  let v545 : BitVec 1 := Scalar.cmpi .sgt v543 c0_i32_297
  let v546 : BitVec 32 := Scalar.extui v545
  let c0_i32_298 : BitVec 32 := 0#32
  let v547 : BitVec 1 := Scalar.cmpi .slt v543 c0_i32_298
  let v548 : BitVec 32 := Scalar.extui v547
  let v549 : BitVec 32 := Scalar.subi v546 v548
  let c1024_i32_296 : BitVec 32 := 1024#32
  let c0_i32_299 : BitVec 32 := 0#32
  let v550 : BitVec 1 := Scalar.cmpi .sgt c1024_i32_296 c0_i32_299
  let v551 : BitVec 32 := Scalar.extui v550
  let c0_i32_300 : BitVec 32 := 0#32
  let v552 : BitVec 1 := Scalar.cmpi .slt c1024_i32_296 c0_i32_300
  let v553 : BitVec 32 := Scalar.extui v552
  let v554 : BitVec 32 := Scalar.subi v551 v553
  let v555 : BitVec 1 := Scalar.cmpi .ne v549 v554
  let v556 : BitVec 32 := Scalar.remsi v543 c1024_i32_296
  let c0_i32_301 : BitVec 32 := 0#32
  let v557 : BitVec 1 := Scalar.cmpi .ne v556 c0_i32_301
  let v558 : BitVec 1 := Scalar.andi v555 v557
  let v544 : BitVec 32 := Scalar.divsi v543 c1024_i32_296
  let c1_i32_302 : BitVec 32 := 1#32
  let v559 : BitVec 32 := Scalar.subi v544 c1_i32_302
  let v560 : BitVec 32 := Scalar.select v558 v559 v544
  let c1024_i32_305 : BitVec 32 := 1024#32
  let v564 : BitVec 32 := Scalar.addi v563 c1024_i32_305
  let c1_i32_306 : BitVec 32 := 1#32
  let v565 : BitVec 32 := Scalar.subi v564 c1_i32_306
  let c0_i32_308 : BitVec 32 := 0#32
  let v567 : BitVec 1 := Scalar.cmpi .sgt v565 c0_i32_308
  let v568 : BitVec 32 := Scalar.extui v567
  let c0_i32_309 : BitVec 32 := 0#32
  let v569 : BitVec 1 := Scalar.cmpi .slt v565 c0_i32_309
  let v570 : BitVec 32 := Scalar.extui v569
  let v571 : BitVec 32 := Scalar.subi v568 v570
  let c1024_i32_307 : BitVec 32 := 1024#32
  let c0_i32_310 : BitVec 32 := 0#32
  let v572 : BitVec 1 := Scalar.cmpi .sgt c1024_i32_307 c0_i32_310
  let v573 : BitVec 32 := Scalar.extui v572
  let c0_i32_311 : BitVec 32 := 0#32
  let v574 : BitVec 1 := Scalar.cmpi .slt c1024_i32_307 c0_i32_311
  let v575 : BitVec 32 := Scalar.extui v574
  let v576 : BitVec 32 := Scalar.subi v573 v575
  let v577 : BitVec 1 := Scalar.cmpi .ne v571 v576
  let v578 : BitVec 32 := Scalar.remsi v565 c1024_i32_307
  let c0_i32_312 : BitVec 32 := 0#32
  let v579 : BitVec 1 := Scalar.cmpi .ne v578 c0_i32_312
  let v580 : BitVec 1 := Scalar.andi v577 v579
  let v566 : BitVec 32 := Scalar.divsi v565 c1024_i32_307
  let c1_i32_313 : BitVec 32 := 1#32
  let v581 : BitVec 32 := Scalar.subi v566 c1_i32_313
  let v582 : BitVec 32 := Scalar.select v580 v581 v566
  let v583 : BitVec 32 := Scalar.subi v582 v560
  let c1_i32_314 : BitVec 32 := 1#32
  let v585 : BitVec 32 := Scalar.divsi v583 c1_i32_314
  let v586 : BitVec 32 := Scalar.muli v585 c1_i32_314
  let v587 : BitVec 32 := Scalar.addi v560 v586
  let c1_i32_316 : BitVec 32 := 1#32
  let arg17 : BitVec 32 := Scf.iv v587 c1_i32_316 k0_t19
  let c1024_i32_377 : BitVec 32 := 1024#32
  let v699 : BitVec 32 := Scalar.muli arg17 c1024_i32_377
  let v702 : Index := Scalar.indexCast v699
  let c0_379 : Index := 0#32
  ![v702.toNat, 0]
def k0_off67 (v543 : BitVec 32) (v563 : BitVec 32) (k0_t19 : Fin (k0_t19_loop v543 v563).trips) : Fin 2 → Nat :=
  let c0_381 : Index := 0#32
  let c0_i32_297 : BitVec 32 := 0#32
  let v545 : BitVec 1 := Scalar.cmpi .sgt v543 c0_i32_297
  let v546 : BitVec 32 := Scalar.extui v545
  let c0_i32_298 : BitVec 32 := 0#32
  let v547 : BitVec 1 := Scalar.cmpi .slt v543 c0_i32_298
  let v548 : BitVec 32 := Scalar.extui v547
  let v549 : BitVec 32 := Scalar.subi v546 v548
  let c1024_i32_296 : BitVec 32 := 1024#32
  let c0_i32_299 : BitVec 32 := 0#32
  let v550 : BitVec 1 := Scalar.cmpi .sgt c1024_i32_296 c0_i32_299
  let v551 : BitVec 32 := Scalar.extui v550
  let c0_i32_300 : BitVec 32 := 0#32
  let v552 : BitVec 1 := Scalar.cmpi .slt c1024_i32_296 c0_i32_300
  let v553 : BitVec 32 := Scalar.extui v552
  let v554 : BitVec 32 := Scalar.subi v551 v553
  let v555 : BitVec 1 := Scalar.cmpi .ne v549 v554
  let v556 : BitVec 32 := Scalar.remsi v543 c1024_i32_296
  let c0_i32_301 : BitVec 32 := 0#32
  let v557 : BitVec 1 := Scalar.cmpi .ne v556 c0_i32_301
  let v558 : BitVec 1 := Scalar.andi v555 v557
  let v544 : BitVec 32 := Scalar.divsi v543 c1024_i32_296
  let c1_i32_302 : BitVec 32 := 1#32
  let v559 : BitVec 32 := Scalar.subi v544 c1_i32_302
  let v560 : BitVec 32 := Scalar.select v558 v559 v544
  let c1024_i32_305 : BitVec 32 := 1024#32
  let v564 : BitVec 32 := Scalar.addi v563 c1024_i32_305
  let c1_i32_306 : BitVec 32 := 1#32
  let v565 : BitVec 32 := Scalar.subi v564 c1_i32_306
  let c0_i32_308 : BitVec 32 := 0#32
  let v567 : BitVec 1 := Scalar.cmpi .sgt v565 c0_i32_308
  let v568 : BitVec 32 := Scalar.extui v567
  let c0_i32_309 : BitVec 32 := 0#32
  let v569 : BitVec 1 := Scalar.cmpi .slt v565 c0_i32_309
  let v570 : BitVec 32 := Scalar.extui v569
  let v571 : BitVec 32 := Scalar.subi v568 v570
  let c1024_i32_307 : BitVec 32 := 1024#32
  let c0_i32_310 : BitVec 32 := 0#32
  let v572 : BitVec 1 := Scalar.cmpi .sgt c1024_i32_307 c0_i32_310
  let v573 : BitVec 32 := Scalar.extui v572
  let c0_i32_311 : BitVec 32 := 0#32
  let v574 : BitVec 1 := Scalar.cmpi .slt c1024_i32_307 c0_i32_311
  let v575 : BitVec 32 := Scalar.extui v574
  let v576 : BitVec 32 := Scalar.subi v573 v575
  let v577 : BitVec 1 := Scalar.cmpi .ne v571 v576
  let v578 : BitVec 32 := Scalar.remsi v565 c1024_i32_307
  let c0_i32_312 : BitVec 32 := 0#32
  let v579 : BitVec 1 := Scalar.cmpi .ne v578 c0_i32_312
  let v580 : BitVec 1 := Scalar.andi v577 v579
  let v566 : BitVec 32 := Scalar.divsi v565 c1024_i32_307
  let c1_i32_313 : BitVec 32 := 1#32
  let v581 : BitVec 32 := Scalar.subi v566 c1_i32_313
  let v582 : BitVec 32 := Scalar.select v580 v581 v566
  let v583 : BitVec 32 := Scalar.subi v582 v560
  let c1_i32_314 : BitVec 32 := 1#32
  let v585 : BitVec 32 := Scalar.divsi v583 c1_i32_314
  let v586 : BitVec 32 := Scalar.muli v585 c1_i32_314
  let v587 : BitVec 32 := Scalar.addi v560 v586
  let c1_i32_316 : BitVec 32 := 1#32
  let arg17 : BitVec 32 := Scf.iv v587 c1_i32_316 k0_t19
  let c1024_i32_377 : BitVec 32 := 1024#32
  let v699 : BitVec 32 := Scalar.muli arg17 c1024_i32_377
  let v705 : Index := Scalar.indexCast v699
  ![0, v705.toNat]

def k0_chk27 (v543 : BitVec 32) (v563 : BitVec 32) : Prop :=
  ((k0_t18_loop v543 v563).OK) ∧
  (∀ k0_t18 : Fin (k0_t18_loop v543 v563).trips, ∀ a, (k0_off62 v543 v563 k0_t18) a + S1024x32.size a ≤ S4096x32.size a) ∧
  (∀ k0_t18 : Fin (k0_t18_loop v543 v563).trips, ∀ a, (k0_off63 v543 v563 k0_t18) a + S1024x33.size a ≤ S4096x33.size a) ∧
  (∀ k0_t18 : Fin (k0_t18_loop v543 v563).trips, ∀ a, (k0_off64 v543 v563 k0_t18) a + S1x1024.size a ≤ S1x4096.size a) ∧
  ((k0_t19_loop v543 v563).OK) ∧
  (∀ k0_t19 : Fin (k0_t19_loop v543 v563).trips, ∀ a, (k0_off65 v543 v563 k0_t19) a + S1024x32.size a ≤ S4096x32.size a) ∧
  (∀ k0_t19 : Fin (k0_t19_loop v543 v563).trips, ∀ a, (k0_off66 v543 v563 k0_t19) a + S1024x33.size a ≤ S4096x33.size a) ∧
  (∀ k0_t19 : Fin (k0_t19_loop v543 v563).trips, ∀ a, (k0_off67 v543 v563 k0_t19) a + S1x1024.size a ≤ S1x4096.size a)
theorem k0_t18_ok : ∀ (v543 : BitVec 32) (v563 : BitVec 32) (k0_hw27 : k0_chk27 v543 v563), (k0_t18_loop v543 v563).OK := fun v543 v563 k0_hw27 => k0_hw27.1
theorem k0_off62_inb : ∀ (v543 : BitVec 32) (v563 : BitVec 32) (k0_hw27 : k0_chk27 v543 v563) (k0_t18 : Fin (k0_t18_loop v543 v563).trips), ∀ a, (k0_off62 v543 v563 k0_t18) a + S1024x32.size a ≤ S4096x32.size a := fun v543 v563 k0_hw27 k0_t18 => k0_hw27.2.1 k0_t18
theorem k0_off63_inb : ∀ (v543 : BitVec 32) (v563 : BitVec 32) (k0_hw27 : k0_chk27 v543 v563) (k0_t18 : Fin (k0_t18_loop v543 v563).trips), ∀ a, (k0_off63 v543 v563 k0_t18) a + S1024x33.size a ≤ S4096x33.size a := fun v543 v563 k0_hw27 k0_t18 => k0_hw27.2.2.1 k0_t18
theorem k0_off64_inb : ∀ (v543 : BitVec 32) (v563 : BitVec 32) (k0_hw27 : k0_chk27 v543 v563) (k0_t18 : Fin (k0_t18_loop v543 v563).trips), ∀ a, (k0_off64 v543 v563 k0_t18) a + S1x1024.size a ≤ S1x4096.size a := fun v543 v563 k0_hw27 k0_t18 => k0_hw27.2.2.2.1 k0_t18
theorem k0_t19_ok : ∀ (v543 : BitVec 32) (v563 : BitVec 32) (k0_hw27 : k0_chk27 v543 v563), (k0_t19_loop v543 v563).OK := fun v543 v563 k0_hw27 => k0_hw27.2.2.2.2.1
theorem k0_off65_inb : ∀ (v543 : BitVec 32) (v563 : BitVec 32) (k0_hw27 : k0_chk27 v543 v563) (k0_t19 : Fin (k0_t19_loop v543 v563).trips), ∀ a, (k0_off65 v543 v563 k0_t19) a + S1024x32.size a ≤ S4096x32.size a := fun v543 v563 k0_hw27 k0_t19 => k0_hw27.2.2.2.2.2.1 k0_t19
theorem k0_off66_inb : ∀ (v543 : BitVec 32) (v563 : BitVec 32) (k0_hw27 : k0_chk27 v543 v563) (k0_t19 : Fin (k0_t19_loop v543 v563).trips), ∀ a, (k0_off66 v543 v563 k0_t19) a + S1024x33.size a ≤ S4096x33.size a := fun v543 v563 k0_hw27 k0_t19 => k0_hw27.2.2.2.2.2.2.1 k0_t19
theorem k0_off67_inb : ∀ (v543 : BitVec 32) (v563 : BitVec 32) (k0_hw27 : k0_chk27 v543 v563) (k0_t19 : Fin (k0_t19_loop v543 v563).trips), ∀ a, (k0_off67 v543 v563 k0_t19) a + S1x1024.size a ≤ S1x4096.size a := fun v543 v563 k0_hw27 k0_t19 => k0_hw27.2.2.2.2.2.2.2 k0_t19

abbrev stage0_0 : Fin 1 → Memref sig .tc .smem S1x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4096x16 : Shape := ⟨2, ![4096, 16]⟩
abbrev S4096 : Shape := ⟨1, ![4096]⟩
abbrev S16x32 : Shape := ⟨2, ![16, 32]⟩
abbrev S32x32 : Shape := ⟨2, ![32, 32]⟩
abbrev S32 : Shape := ⟨1, ![32]⟩
abbrev S4096x32 : Shape := ⟨2, ![4096, 32]⟩
abbrev S32x4096 : Shape := ⟨2, ![32, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩
abbrev S1x32 : Shape := ⟨2, ![1, 32]⟩

abbrev nBuf : Space → Nat
  | .hbm => 85
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096, .i32⟩
  | .hbm, ⟨2, _⟩ => ⟨S16x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S32x4096, .f32⟩
  | .hbm, ⟨14, _⟩ => ⟨S4096x4096, .f32⟩
  | .hbm, ⟨15, _⟩ => ⟨S4096x1, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x32, .f32⟩
  | .hbm, ⟨39, _⟩ => ⟨S4096x32, .f32⟩
  | .hbm, ⟨40, _⟩ => ⟨S_, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .i32⟩
  | .hbm, ⟨46, _⟩ => ⟨S_, .f32⟩
  | .hbm, ⟨47, _⟩ => ⟨S32, .f32⟩
  | .hbm, ⟨48, _⟩ => ⟨S1x32, .f32⟩
  | .hbm, ⟨49, _⟩ => ⟨S_, .f32⟩
  | .hbm, ⟨50, _⟩ => ⟨S1x32, .f32⟩
  | .hbm, ⟨51, _⟩ => ⟨S1x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S1x32, .f32⟩
  | .hbm, ⟨69, _⟩ => ⟨S4096x32, .f32⟩
  | .hbm, ⟨70, _⟩ => ⟨S4096x32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S32, .f32⟩
  | .hbm, ⟨75, _⟩ => ⟨S1x32, .f32⟩
  | .hbm, ⟨76, _⟩ => ⟨S4096x32, .f32⟩
  | .hbm, ⟨77, _⟩ => ⟨S4096x32, .f32⟩
  | .hbm, ⟨78, _⟩ => ⟨S1x32, .f32⟩
  | .hbm, ⟨79, _⟩ => ⟨S4096x32, .f32⟩
  | .hbm, ⟨80, _⟩ => ⟨S4096x32, .f32⟩
  | .hbm, ⟨81, _⟩ => ⟨S1x32, .f32⟩
  | .hbm, ⟨82, _⟩ => ⟨S4096x32, .f32⟩
  | .hbm, ⟨83, _⟩ => ⟨S4096x32, .f32⟩
  | .hbm, ⟨84, _⟩ => ⟨S4096x32, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_c : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_cst_3 : Ref sig .tc := ⟨.hbm, 62, rfl⟩
abbrev main_call1_v12 : Ref sig .tc := ⟨.hbm, 63, rfl⟩
abbrev main_call1_cst_4 : Ref sig .tc := ⟨.hbm, 64, rfl⟩
abbrev main_call1_call0_v0 : Ref sig .tc := ⟨.hbm, 65, rfl⟩
abbrev main_call1_call0_v1 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_5 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]
-- ==== Proof.Pre.lean ====
/-
  What the two preconditions say of the arrays, read off their printed text.
-/
module

public import proofs.«01_k».proof.Defs
public import Idealize.ShloMosaic.Lib.StableHlo.Predicate

@[expose] public section

noncomputable section

namespace Cert.Proof.Pre

open Idealize.ShloMosaic

/-- A signed word from 0 up to and not including 4 is a natural number below 4. -/
theorem nat_of_range (w : BitVec 32) (h0 : (0#32).sle w = true) (h4 : w.slt 4#32 = true) : w.toNat < 4 := by
  simp only [BitVec.sle, BitVec.slt, decide_eq_true_eq] at h0 h4
  have e0 : (0#32 : BitVec 32).toInt = 0 := rfl
  have e4 : (4#32 : BitVec 32).toInt = 4 := rfl
  rw [e0] at h0; rw [e4] at h4
  rw [BitVec.toInt_eq_toNat_cond] at h0 h4
  split at h0 <;> omega

variable {F : FTy → Type} [FloatOps F]

section
open Cert.Pre_segments_in_range

theorem and_bits {a b : BitVec 1} (h : a &&& b = 1#1) : a = 1#1 ∧ b = 1#1 := by revert a b; decide

theorem range_of_pre [Facts] {a0 : FVec F S4096x16 .f32} {a1 : IVec S4096 32} {a2 : FVec F S16x32 .f32} {a3 a4 a5 a6 : FVec F S32x32 .f32}
    {a7 a8 : FVec F S32 .f32} (h : fn (F := F) a0 a1 a2 a3 a4 a5 a6 a7 a8 = fun _ => 1#1) (i : S4096.Idx) : (a1 i).toNat < 4 := by
  have hi : (BitVec.ofBool ((0#32).sle (a1 i)) &&& BitVec.ofBool ((a1 i).slt 4#32) : BitVec 1) = 1#1 := congrFun h i
  obtain ⟨h0, h4⟩ := and_bits hi
  exact nat_of_range _ ((StableHlo.Predicate.ofBool_eq_one_iff _).1 h0) ((StableHlo.Predicate.ofBool_eq_one_iff _).1 h4)

end

end Cert.Proof.Pre

end
-- ==== Proof.Words.lean ====
/-
  Facts about the 32-bit words the kernel computes its addresses and trip counts from: the floor division the kernel
  spells as a quotient corrected by the operands' signs, and the halving step of the binary search.
-/
module

public import Idealize.ShloMosaic.Lib.Tactic
public import Idealize.ShloMosaic.Lib.Affine
public import Mathlib.Tactic.Positivity
public import Mathlib.Tactic.Ring

@[expose] public section

noncomputable section

namespace Cert.Proof.Words

open Idealize.ShloMosaic Idealize.ShloMosaic.Affine

theorem toInt_of {x : BitVec 32} {e : Int} (h : IsInt x e) : x.toInt = e := by unfold IsInt at h; exact h

/-- The floor quotient as the kernel computes it: the truncated quotient, less one when the signs differ and the
    remainder is not zero. -/
def fdiv (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- On a nonnegative dividend and a positive divisor it is the quotient. -/
theorem fdiv_int {x d : BitVec 32} {a b : Int} (hx : IsInt x a) (hd : IsInt d b) (ha : 0 ≤ a) (hb : 0 < b) :
    IsInt (fdiv x d) (a / b) := by
  have h0 : IsInt (0#32 : BitVec 32) 0 := ofNat 0 ⟨rfl, by decide⟩
  have hra := toInt_of hx ▸ word_range x
  have h1 : IsInt (1#32 : BitVec 32) 1 := ofNat 1 ⟨rfl, by decide⟩
  have hq : IsInt (Scalar.divsi x d) (a / b) := divsi hx hd ⟨rfl, ha, hb⟩
  have hr : IsInt (Scalar.remsi x d) (a % b) := remsi hx hd ⟨rfl, ha, hb⟩
  have hqle : a / b ≤ a := Int.ediv_le_self _ ha
  have hq0 : 0 ≤ a / b := Int.ediv_nonneg ha (Int.le_of_lt hb)
  have hs : IsInt (Scalar.subi (Scalar.divsi x d) 1#32) (a / b - 1) := subi hq h1 ⟨rfl, by omega, by omega⟩
  have hd1 : IsInt (Scalar.subi (Scalar.extui (Scalar.cmpi .sgt d 0#32)) (Scalar.extui (Scalar.cmpi .slt d 0#32))) 1 :=
    subi (extui_holds (sgt_holds hd h0 hb) rfl) (extui_fails (slt_fails hd h0 (by omega)) rfl) ⟨by decide, by decide, by decide⟩
  unfold fdiv
  rcases eq_or_lt_of_le ha with h | h
  · have hf : Fails (Scalar.cmpi .ne (Scalar.remsi x d) 0#32) := ne_fails hr h0 (by subst h; simp)
    exact select_fails (andi_fails_right trivial hf) hs hq rfl
  · have hx1 : IsInt (Scalar.subi (Scalar.extui (Scalar.cmpi .sgt x 0#32)) (Scalar.extui (Scalar.cmpi .slt x 0#32))) 1 :=
      subi (extui_holds (sgt_holds hx h0 h) rfl) (extui_fails (slt_fails hx h0 (by omega)) rfl) ⟨by decide, by decide, by decide⟩
    exact select_fails (andi_fails_left (ne_fails hx1 hd1 rfl) trivial) hs hq rfl

/-- A word known by its value as a natural number below 2³¹. -/
abbrev IsNat (x : BitVec 32) (n : Nat) : Prop := IsInt x (n : Int)

theorem isNat_of {x : BitVec 32} {n : Nat} (h : x.toNat = n) (hn : n < 2 ^ 31) : IsNat x n := by
  have : x = BitVec.ofNat 32 n := by rw [← h]; simp
  rw [this]; exact ofNat n ⟨rfl, hn⟩

theorem isNat_toNat {x : BitVec 32} {n : Nat} (h : IsNat x n) : x.toNat = n := by
  have := toNat_of h (by omega); omega

theorem isNat_lt {x : BitVec 32} {n : Nat} (h : IsNat x n) : n < 2 ^ 31 := by
  have := toInt_of h ▸ word_range x; omega

theorem fdiv_nat {x d : BitVec 32} {a b : Nat} (hx : IsNat x a) (hd : IsNat d b) (hb : 0 < b) : IsNat (fdiv x d) (a / b) := by
  have := fdiv_int hx hd (by omega) (by omega)
  rwa [← Int.natCast_ediv] at this

/-- One step of the search for the first row of segment `b`, over the row's segment read by `seg`: the middle of the
    interval, and the half kept. -/
def mid (lo hi : BitVec 32) : BitVec 32 := fdiv (Scalar.addi lo hi) 2#32

def bstep (lo hi w b : BitVec 32) : BitVec 32 × BitVec 32 :=
  (Scalar.select (Scalar.cmpi .slt w b) (Scalar.addi (mid lo hi) 1#32) lo,
   Scalar.select (Scalar.cmpi .slt w b) hi (mid lo hi))

theorem mid_nat {lo hi : BitVec 32} {l h : Nat} (hl : IsNat lo l) (hh : IsNat hi h) (hb : l + h < 2 ^ 31) :
    IsNat (mid lo hi) ((l + h) / 2) :=
  fdiv_nat (addi hl hh ⟨by push_cast; rfl, by omega, by omega⟩) (ofNat 2 ⟨rfl, by decide⟩) (by decide)

/-- What is known of the interval before trip `k`: its ends, in order and at most 4096, and its length — a power of two
    less one, or a power of two when it still starts at zero. -/
structure Span (k : Nat) (lo hi : BitVec 32) : Prop where
  le : lo.toNat ≤ hi.toNat
  top : hi.toNat ≤ 4096
  len : (lo.toNat = 0 ∧ hi.toNat = 2 ^ (12 - k)) ∨ hi.toNat - lo.toNat + 1 = 2 ^ (12 - k)

theorem Span.start : Span 0 0#32 4096#32 := ⟨by decide, by decide, .inl ⟨by decide, by decide⟩⟩

section
variable {k : Nat} {lo hi : BitVec 32}

theorem Span.lo_nat (s : Span k lo hi) : IsNat lo lo.toNat := isNat_of rfl (by have := s.le; have := s.top; omega)
theorem Span.hi_nat (s : Span k lo hi) : IsNat hi hi.toNat := isNat_of rfl (by have := s.top; omega)
theorem Span.mid_nat (s : Span k lo hi) : IsNat (mid lo hi) ((lo.toNat + hi.toNat) / 2) :=
  Words.mid_nat s.lo_nat s.hi_nat (by have := s.le; have := s.top; omega)

/-- Before each of the twelve trips the interval is not empty, -/
theorem Span.lt (s : Span k lo hi) (hk : k < 12) : lo.toNat < hi.toNat := by
  have h2 : 2 ≤ 2 ^ (12 - k) := by
    calc 2 = 2 ^ 1 := rfl
      _ ≤ 2 ^ (12 - k) := Nat.pow_le_pow_right (by decide) (by omega)
  have := s.le
  rcases s.len with ⟨h, h'⟩ | h <;> omega

/-- so the middle is a row. -/
theorem Span.mid_lt (s : Span k lo hi) (hk : k < 12) : (mid lo hi).toNat < 4096 := by
  rw [isNat_toNat s.mid_nat]; have := s.lt hk; have := s.top; omega

/-- The step's halves: up, when the middle row's segment is below `b`; else down. -/
theorem bstep_up {w b : BitVec 32} (h : w.toInt < b.toInt) : bstep lo hi w b = (Scalar.addi (mid lo hi) 1#32, hi) := by
  have hc : Holds (Scalar.cmpi .slt w b) := slt_holds (word w) (word b) h
  have hc' : Scalar.cmpi .slt w b = 1 := hc
  unfold bstep Scalar.select; rw [if_pos hc', if_pos hc']

theorem bstep_down {w b : BitVec 32} (h : ¬w.toInt < b.toInt) : bstep lo hi w b = (lo, mid lo hi) := by
  have hc : ¬Scalar.cmpi .slt w b = 1 := slt_fails (word w) (word b) h
  unfold bstep Scalar.select; rw [if_neg hc, if_neg hc]

theorem Span.up_nat (s : Span k lo hi) : (Scalar.addi (mid lo hi) 1#32).toNat = (lo.toNat + hi.toNat) / 2 + 1 := by
  refine isNat_toNat (addi s.mid_nat (ofNat 1 ⟨rfl, by decide⟩) ⟨by push_cast; rfl, ?_, ?_⟩) <;>
    (have := s.le; have := s.top; push_cast; omega)

theorem Span.step (s : Span k lo hi) (hk : k < 12) (w b : BitVec 32) :
    Span (k + 1) (bstep lo hi w b).1 (bstep lo hi w b).2 := by
  have hp : 2 ^ (12 - k) = 2 * 2 ^ (12 - (k + 1)) := by
    rw [show 12 - k = (12 - (k + 1)) + 1 by omega, pow_succ]; omega
  have hpos : 0 < 2 ^ (12 - (k + 1)) := by positivity
  have hlt := s.lt hk
  have hm := isNat_toNat s.mid_nat
  by_cases h : w.toInt < b.toInt
  · rw [bstep_up h]
    refine ⟨?_, s.top, ?_⟩ <;> (dsimp only; rw [s.up_nat]; rcases s.len with ⟨h1, h2⟩ | h1 <;> omega)
  · rw [bstep_down h]
    refine ⟨?_, ?_, ?_⟩ <;> (dsimp only; rw [hm]; have := s.top; rcases s.len with ⟨h1, h2⟩ | h1 <;> omega)
end

/-- The whole search: `k` trips from the interval of all rows, over a column of segments. -/
def bsearch (seg : Nat → BitVec 32) (b : BitVec 32) : Nat → BitVec 32 × BitVec 32
  | 0 => (0#32, 4096#32)
  | k + 1 => bstep (bsearch seg b k).1 (bsearch seg b k).2 (seg (mid (bsearch seg b k).1 (bsearch seg b k).2).toNat) b

theorem bsearch_span (seg : Nat → BitVec 32) (b : BitVec 32) : ∀ k, k ≤ 12 → Span k (bsearch seg b k).1 (bsearch seg b k).2
  | 0, _ => Span.start
  | k + 1, h => (bsearch_span seg b k (by omega)).step (by omega) _ _

/-- Where the rows of segment `b` start, as the search finds it. -/
def start (seg : Nat → BitVec 32) (b : BitVec 32) : BitVec 32 := (bsearch seg b 12).1

theorem start_le (seg : Nat → BitVec 32) (b : BitVec 32) : (start seg b).toNat ≤ 4096 :=
  ((bsearch_span seg b 12 le_rfl).le).trans (bsearch_span seg b 12 le_rfl).top

/-! ## The blocks a tile visits -/

/-- The first block of 1024 rows to visit, from where the first segment starts, and the block after the last, from where
    the segment after the last starts. -/
def cLo (v : BitVec 32) : BitVec 32 := fdiv v 1024#32
def cHi (w : BitVec 32) : BitVec 32 := fdiv (Scalar.subi (Scalar.addi w 1024#32) 1#32) 1024#32

theorem n1024 : IsNat 1024#32 1024 := ofNat 1024 ⟨rfl, by decide⟩
theorem n1 : IsNat 1#32 1 := ofNat 1 ⟨rfl, by decide⟩

theorem cLo_nat {v : BitVec 32} (h : v.toNat ≤ 4096) : IsNat (cLo v) (v.toNat / 1024) :=
  fdiv_nat (isNat_of rfl (by omega)) n1024 (by decide)

theorem cHi_nat {w : BitVec 32} (h : w.toNat ≤ 4096) : IsNat (cHi w) ((w.toNat + 1023) / 1024) := by
  refine fdiv_nat (subi (addi (isNat_of rfl (by omega)) n1024 ⟨rfl, by omega, by omega⟩) n1 ⟨?_, ?_, ?_⟩) n1024 (by decide) <;>
    (push_cast; omega)

/-- The loop over a tile's blocks, as the kernel writes its bounds. -/
def blocks (v w : BitVec 32) : Scf.Loop 32 :=
  ⟨cLo v, Scalar.addi (cLo v) (Scalar.muli (Scalar.divsi (Scalar.subi (cHi w) (cLo v)) 1#32) 1#32), 1#32⟩

section
variable {v w : BitVec 32} (hv : v.toNat ≤ 4096) (hw : w.toNat ≤ 4096)
include hv hw

theorem blocks_ub : IsNat (blocks v w).ub ((w.toNat + 1023) / 1024) := by
  have hs : IsInt (Scalar.subi (cHi w) (cLo v)) (((w.toNat + 1023) / 1024 : Nat) - (v.toNat / 1024 : Nat) : Int) :=
    subi (cHi_nat hw) (cLo_nat hv) ⟨rfl, by push_cast; omega, by push_cast; omega⟩
  exact addi (cLo_nat hv) (muli (divsi_one hs n1 ⟨rfl, rfl⟩) n1 ⟨rfl, by push_cast; omega, by push_cast; omega⟩)
    ⟨by push_cast; omega, by push_cast; omega, by push_cast; omega⟩

theorem blocks_trips : (blocks v w).trips = (w.toNat + 1023) / 1024 - v.toNat / 1024 := by
  show Scf.trips (cLo v) (blocks v w).ub 1#32 = _
  rw [Scf.trips, toInt_of (cLo_nat hv), toInt_of (blocks_ub hv hw), toInt_of n1]
  omega

theorem blocks_ok : (blocks v w).OK := ok (cLo_nat hv) (blocks_ub hv hw) n1 ⟨by decide, by push_cast; omega⟩

/-- The first row of the block visited at trip `k`. -/
theorem blocks_row (k : Fin (blocks v w).trips) :
    (Scalar.muli (Scf.iv (cLo v) 1#32 k) 1024#32).toNat = 1024 * (v.toNat / 1024 + k.val) := by
  have hk := k.isLt.trans_eq (blocks_trips hv hw)
  exact isNat_toNat (muli (iv (cLo_nat hv) n1 k.val ⟨rfl, by push_cast; omega, by push_cast; omega⟩) n1024
    ⟨by push_cast; ring, by push_cast; omega, by push_cast; omega⟩)

theorem blocks_row_le (k : Fin (blocks v w).trips) : 1024 * (v.toNat / 1024 + k.val) + 1024 ≤ 4096 := by
  have hk := k.isLt.trans_eq (blocks_trips hv hw)
  omega
end

end Cert.Proof.Words

end
-- ==== Proof.KI.Chk.lean ====
/-
  The side conditions the kernel assumes of the words it reads: an interval's middle is a row, a row's segment and the
  one after it index the table of starts, and the blocks between two starts lie inside the 4096 rows.
-/
module

public import proofs.«01_k».proof.Proof.Gen.KernelIdeal
public import proofs.«01_k».proof.Proof.Words
public import Idealize.ShloMosaic.Lib.LoopRemainder

@[expose] public section

set_option maxRecDepth 16384

noncomputable section

namespace Cert.KernelIdeal.Run

open Idealize.ShloMosaic Cert.Proof.Words

/-- A halving reads the middle row. -/
theorem off1_eq (lo hi : BitVec 32) : k0_off1 lo hi = ![0, (mid lo hi).toNat] := rfl
theorem chk1 {lo hi : BitVec 32} (h : (mid lo hi).toNat < 4096) : k0_chk1 lo hi := by
  unfold k0_chk1; rw [off1_eq]
  intro a; fin_cases a
  · show 0 + 1 ≤ 1; decide
  · show (mid lo hi).toNat + 1 ≤ 4096; omega
theorem chk4 {v : BitVec 32} (h : v.toNat < 5) : k0_chk4 v := by
  intro a; fin_cases a
  · show 0 + 1 ≤ 1; decide
  · show v.toNat + 1 ≤ 5; omega
theorem chk5 {v : BitVec 32} (h : v.toNat < 4) : k0_chk5 v := by
  intro a; fin_cases a
  · show 0 + 1 ≤ 1; decide
  · show (v + 1#32).toNat + 1 ≤ 5
    rw [BitVec.toNat_add]; show (v.toNat + 1) % 2^32 + 1 ≤ 5; omega
/-- Trip `k` of a tile's loop reads its block from the row the blocks' word names. -/
theorem off6_eq (v w : BitVec 32) (k : Fin (k0_t4_loop v w).trips) :
  k0_off6 v w k = ![(Scalar.muli (Scf.iv (cLo v) 1#32 k) 1024#32).toNat, 0] := rfl
theorem chk6 {v w : BitVec 32} (hv : v.toNat ≤ 4096) (hw : w.toNat ≤ 4096) : k0_chk6 v w := by
  have hno : ∀ k : Fin (k0_t5_loop v w).trips, False := fun k => Scf.rem_no_trip _ _ k
  have hr : ∀ k : Fin (k0_t4_loop v w).trips, (Scalar.muli (Scf.iv (cLo v) 1#32 k) 1024#32).toNat + 1024 ≤ 4096 := fun k => by
    rw [blocks_row hv hw k]; exact blocks_row_le hv hw k
  refine ⟨blocks_ok hv hw, fun k a => ?_, fun k a => ?_, fun k a => ?_, Scf.rem_ok _ _, fun k => (hno k).elim, fun k => (hno k).elim, fun k => (hno k).elim⟩ <;>
    (have := hr k; fin_cases a)
  · exact this
  · show 0 + 32 ≤ 32; decide
  · exact this
  · show 0 + 33 ≤ 33; decide
  · show 0 + 1 ≤ 1; decide
  · exact this
/-! The other tiles assume the same of their words. -/

theorem chk7 {v : BitVec 32} (h : v.toNat < 5) : k0_chk7 v := chk4 h
theorem chk8 {v : BitVec 32} (h : v.toNat < 4) : k0_chk8 v := chk5 h
theorem chk9 {v w : BitVec 32} (hv : v.toNat ≤ 4096) (hw : w.toNat ≤ 4096) : k0_chk9 v w := chk6 hv hw
theorem chk10 {v : BitVec 32} (h : v.toNat < 5) : k0_chk10 v := chk4 h
theorem chk11 {v : BitVec 32} (h : v.toNat < 4) : k0_chk11 v := chk5 h
theorem chk12 {v w : BitVec 32} (hv : v.toNat ≤ 4096) (hw : w.toNat ≤ 4096) : k0_chk12 v w := chk6 hv hw
theorem chk13 {v : BitVec 32} (h : v.toNat < 5) : k0_chk13 v := chk4 h
theorem chk14 {v : BitVec 32} (h : v.toNat < 4) : k0_chk14 v := chk5 h
theorem chk15 {v w : BitVec 32} (hv : v.toNat ≤ 4096) (hw : w.toNat ≤ 4096) : k0_chk15 v w := chk6 hv hw
theorem chk16 {v : BitVec 32} (h : v.toNat < 5) : k0_chk16 v := chk4 h
theorem chk17 {v : BitVec 32} (h : v.toNat < 4) : k0_chk17 v := chk5 h
theorem chk18 {v w : BitVec 32} (hv : v.toNat ≤ 4096) (hw : w.toNat ≤ 4096) : k0_chk18 v w := chk6 hv hw
theorem chk19 {v : BitVec 32} (h : v.toNat < 5) : k0_chk19 v := chk4 h
theorem chk20 {v : BitVec 32} (h : v.toNat < 4) : k0_chk20 v := chk5 h
theorem chk21 {v w : BitVec 32} (hv : v.toNat ≤ 4096) (hw : w.toNat ≤ 4096) : k0_chk21 v w := chk6 hv hw
theorem chk22 {v : BitVec 32} (h : v.toNat < 5) : k0_chk22 v := chk4 h
theorem chk23 {v : BitVec 32} (h : v.toNat < 4) : k0_chk23 v := chk5 h
theorem chk24 {v w : BitVec 32} (hv : v.toNat ≤ 4096) (hw : w.toNat ≤ 4096) : k0_chk24 v w := chk6 hv hw
theorem chk25 {v : BitVec 32} (h : v.toNat < 5) : k0_chk25 v := chk4 h
theorem chk26 {v : BitVec 32} (h : v.toNat < 4) : k0_chk26 v := chk5 h
theorem chk27 {v w : BitVec 32} (hv : v.toNat ≤ 4096) (hw : w.toNat ≤ 4096) : k0_chk27 v w := chk6 hv hw

end Cert.KernelIdeal.Run

end
-- ==== Proof.KI.Search.lean ====
/-
  The three binary searches over the segment ids in scalar memory: each goes through its twelve halvings by the
  invariant "the carried interval is the search's after `k` trips".
-/
module

public import proofs.«01_k».proof.Proof.KI.Chk
public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic
public import Idealize.ShloMosaic.Lib.WholeRead

@[expose] public section

set_option maxRecDepth 16384
set_option warn.classDefReducibility false

noncomputable section

namespace Cert.KernelIdeal.Run

open Cert.KernelIdeal Cert.KernelIdeal.Gen Cert.Proof.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none

local notation "𝕄" => MT nD τ sig Unit (Elt F) ℕ (UU nD τ) ℕ

/-- The element of a one-row array at a column given as a number. -/
def at1 (n : Nat) : S1x4096.Idx := fun a => match a with | ⟨0, _⟩ => (⟨0, Nat.zero_lt_one⟩ : Fin 1) | ⟨1, _⟩ => (⟨n % 4096, Nat.mod_lt _ (by decide)⟩ : Fin 4096)

/-- The segment ids in scalar memory, by row. -/
def segOf (x0 : Vec F S1x4096 .i32) (n : Nat) : BitVec 32 := x0 (at1 n)

variable (arg0 : Memref sig .tc .smem S1x4096 .i32) (harg0 : arg0.IsWhole)

/-- One halving as the kernel writes it, towards the first row of segment `b`. -/
def halve (b : BitVec 32) (lo hi : BitVec 32) : Prog (TpuEff nD τ sig (Elt F) Λ₀ .tc) (BitVec 32 × BitVec 32) := do
  have hw : k0_chk1 lo hi := (← Prog.lift (TpuEff.assume (k0_chk1 lo hi) (k0_chk1.dec lo hi))).down
  let w : Elt F .i32 ← smemLoad arg0 (Rect.unit (s := S1x4096) (k0_off1 lo hi) S1x1.size (k0_off1_inb lo hi hw)) numel1_S1x1 rfl
  pure (bstep lo hi w b)

theorem halve_wp (c : Dev nD) (x0 : Vec F S1x4096 .i32) (b lo hi : BitVec 32) (h : (mid lo hi).toNat < 4096) (E : Set ℕ) :
    (arg0.view.loc (c : Thread nD τ) ↦[arg0.view.set]{fullShare} harg0.unread x0 : sProp 𝕄)
      ⊢ wp frame (wpE (defs₀ (F := F)) 𝒱₀ c none) E (halve (F := F) arg0 b lo hi)
          (fun r => iprop((arg0.view.loc (c : Thread nD τ) ↦[arg0.view.set]{fullShare} harg0.unread x0) ∗ ⌜r = bstep lo hi (segOf x0 (mid lo hi).toNat) b⌝)) := by
  iintro H0
  have hw := chk1 h
  sl_unfold [halve]
  sl_exec
  sl_step
  isplitl [H0]; · iexact H0
  ipureintro
  have e : halve_wp.sl.r arg0 harg0 x0 lo hi hw = segOf x0 (mid lo hi).toNat := by
    unfold halve_wp.sl.r
    rw [harg0.readAt_unread]
    refine congrArg x0 (funext fun a => ?_)
    fin_cases a
    · exact Fin.ext rfl
    · refine Fin.ext ?_
      show (mid lo hi).toNat + 0 = (mid lo hi).toNat % 4096
      omega
  rw [e]

variable
  (arg1 : Memref sig .tc .vmem S4096x16 .f32) (harg1 : arg1.IsWhole)
  (arg2 : Memref sig .tc .vmem S4096x1 .i32) (harg2 : arg2.IsWhole)
  (arg3 : Memref sig .tc .vmem S1x4096 .i32) (harg3 : arg3.IsWhole)
  (arg4 : Memref sig .tc .vmem S16x32 .f32) (harg4 : arg4.IsWhole)
  (arg5 : Memref sig .tc .vmem S32x32 .f32) (harg5 : arg5.IsWhole)
  (arg6 : Memref sig .tc .vmem S32x32 .f32) (harg6 : arg6.IsWhole)
  (arg7 : Memref sig .tc .vmem S32x32 .f32) (harg7 : arg7.IsWhole)
  (arg8 : Memref sig .tc .vmem S32x32 .f32) (harg8 : arg8.IsWhole)
  (arg9 : Memref sig .tc .vmem S1x32 .f32) (harg9 : arg9.IsWhole)
  (arg10 : Memref sig .tc .vmem S1x32 .f32) (harg10 : arg10.IsWhole)
  (arg11 : Memref sig .tc .vmem S4096x32 .f32) (harg11 : arg11.IsWhole)
  (arg12 : Memref sig .tc .vmem S4096x32 .f32) (harg12 : arg12.IsWhole)
  (arg13 : Memref sig .tc .vmem S4096x32 .bf16) (harg13 : arg13.IsWhole)
  (arg14 : Memref sig .tc .vmem S4096x33 .bf16) (harg14 : arg14.IsWhole)
  (arg15 : Memref sig .tc .vmem S4096x32 .f32) (harg15 : arg15.IsWhole)
  (arg16 : Memref sig .tc .smem S1x5 .i32) (harg16 : arg16.IsWhole)

/-- The search's invariant: the segment ids held, and the interval the search's after `k` trips. -/
def searchInv (c : Dev nD) (x0 : Vec F S1x4096 .i32) (b : BitVec 32) (k : ℕ) (acc : BitVec 32 × BitVec 32) : sProp 𝕄 :=
  iprop((arg0.view.loc (c : Thread nD τ) ↦[arg0.view.set]{fullShare} harg0.unread x0) ∗ ⌜acc = bsearch (segOf x0) b k⌝)

theorem search_step (c : Dev nD) (x0 : Vec F S1x4096 .i32) (b : BitVec 32) (k : ℕ) (hk : k < 12) (acc : BitVec 32 × BitVec 32) (E : Set ℕ) :
    searchInv arg0 harg0 c x0 b k acc
      ⊢ wp frame (wpE (defs₀ (F := F)) 𝒱₀ c none) E (halve (F := F) arg0 b acc.1 acc.2) (searchInv arg0 harg0 c x0 b (k + 1)) := by
  unfold searchInv
  iintro ⟨H0, %hacc⟩
  subst hacc
  iapply (halve_wp arg0 harg0 c x0 b _ _ ((bsearch_span (segOf x0) b k (by omega)).mid_lt hk) E)
  iexact H0

@[sl_loop] def loopInv_k0_t1 (c : Dev nD) (x0 : Vec F S1x4096 .i32) :
    Gen.LoopInvTy_k0_t1 (F := F) Unit ℕ (UU nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (0#32, 4096#32) where
  inv k acc := searchInv arg0 harg0 c x0 1#32 k acc
  step k acc := search_step arg0 harg0 c x0 1#32 k.val k.isLt acc Set.univ

@[sl_loop] def loopInv_k0_t2 (c : Dev nD) (x0 : Vec F S1x4096 .i32) :
    Gen.LoopInvTy_k0_t2 (F := F) Unit ℕ (UU nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (0#32, 4096#32) where
  inv k acc := searchInv arg0 harg0 c x0 2#32 k acc
  step k acc := search_step arg0 harg0 c x0 2#32 k.val k.isLt acc Set.univ

@[sl_loop] def loopInv_k0_t3 (c : Dev nD) (x0 : Vec F S1x4096 .i32) :
    Gen.LoopInvTy_k0_t3 (F := F) Unit ℕ (UU nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (0#32, 4096#32) where
  inv k acc := searchInv arg0 harg0 c x0 3#32 k acc
  step k acc := search_step arg0 harg0 c x0 3#32 k.val k.isLt acc Set.univ

end Cert.KernelIdeal.Run

end
-- ==== Proof.Mem.lean ====
/-
  Whole buffers known by what they read: a buffer whose stores are blocks of one array holds that array, and a load of
  all of it reads it.
-/
module

public import Idealize.ShloMosaic.Lib.Tactic
public import Idealize.ShloMosaic.Lib.WholeRead
public import Idealize.ShloMosaic.Lib.Pipeline.Value
public import Idealize.ShloMosaic.Lib.Pipeline.ReadBack
public import Idealize.ShloMosaic.Lib.Pipeline.TableIdle
public import Idealize.ShloMosaic.Lib.Pipeline.ValueKit.Tiles

@[expose] public section

noncomputable section

namespace Cert.Proof.Mem

open Idealize.ShloMosaic Idealize.SL.Sem

variable {sig : RefSig} {Val : EltTy → Type} {κ : Kind} {sp : Space} {s : Shape} {e : EltTy} [∀ e, Nonempty (Val e)]

/-- A whole buffer over junk whose stores are blocks of `G` and cover it holds `G`. -/
theorem writes_eq_unread {m : Memref sig κ sp s e} (h : m.IsWhole) {L : List (View.Piece Val s e)} {G : s.Idx → Val e}
    (hp : View.PiecesOf G L) (hc : ∀ y, ∃ p ∈ L, y ∈ p.1.set) : m.view.writes Val m.view.junk L = h.unread G :=
  h.eq_unread (by rw [View.read_writes_junk_eq_canon]; exact funext fun y => View.canon_apply_of_pieces G L hp.mem y (hc y))

/-- A whole buffer over junk holds what its stores leave. -/
theorem writes_canon {m : Memref sig κ sp s e} (h : m.IsWhole) (L : List (View.Piece Val s e)) :
    m.view.writes Val m.view.junk L = h.unread (View.canon L) :=
  h.eq_unread (View.read_writes_junk_eq_canon _ L)

/-- The same after one store of all of it. -/
theorem writes_box {m : Memref sig κ sp s e} (h : m.IsWhole) {off : Fin s.rank → Nat} (ho : off = fun _ => 0)
    (inb : ∀ a, off a + s.size a ≤ s.size a) (w : s.Idx → Val e) (L : List (View.Piece Val s e)) :
    m.view.writes Val m.view.junk (⟨Rect.unit off s.size inb, w⟩ :: L) = h.unread w :=
  h.eq_unread (by rw [View.read_writes_junk_eq_canon, View.canon_cons_unit_zero ho])

/-- A load of all of a whole buffer. -/
theorem readAt_box {m : Memref sig κ sp s e} (h : m.IsWhole) (X : s.Idx → Val e) {off : Fin s.rank → Nat} (ho : off = fun _ => 0)
    (inb : ∀ a, off a + s.size a ≤ s.size a) :
    m.view.readAt Val (Rect.unit off s.size inb).toLoadRect (h.unread X) = X := by
  rw [View.readAt_eq_ld, h.read_unread, View.ld_unit_zero ho]

/-- A load of a block of a whole buffer. -/
theorem readAt_block {m : Memref sig κ sp s e} (h : m.IsWhole) (X : s.Idx → Val e) (off size : Fin s.rank → Nat)
    (inb : ∀ a, off a + size a ≤ s.size a) :
    m.view.readAt Val (Rect.unit off size inb).toLoadRect (h.unread X) = View.ld X (Rect.unit off size inb) := by
  rw [View.readAt_eq_ld, h.read_unread]

/-- Owning a whole buffer at `X` is holding its elements at the contents that read `X`. -/
theorem owns_eq {nD : Nat} {τ : Topo} {Ix : Type} [DecidableEq Ix] {Name : Type} [DecidableEq Name] {U : Type} [Idealize.SL.RA.URA U] {Lvl : Type}
    (c : Thread nD τ) {m : Memref sig c.2.kind sp s e} (h : m.IsWhole) (q : Idealize.SL.RA.PosShare Idealize.SL.RA.TreeShare) (X : s.Idx → Val e) :
    (owns c m q X : Idealize.SL.BI.sProp (MT nD τ sig Ix Val Name U Lvl)) = (m.view.loc c ↦[m.view.set]{q} h.unread X) := by
  rw [owns_eq_rep, h.eq_unread (View.read_rep m.view X)]

theorem zero2 : (![0, 0] : Fin 2 → Nat) = fun _ => 0 := by funext a; fin_cases a <;> rfl

end Cert.Proof.Mem

end
-- ==== Proof.KI.Head.lean ====
/-
  The table of starts the kernel keeps in scalar memory, and what the words read from it and from the segment ids satisfy.
-/
module

public import proofs.«01_k».proof.Proof.KI.Search
public import proofs.«01_k».proof.Proof.Mem

@[expose] public section

set_option maxRecDepth 16384
set_option warn.classDefReducibility false

noncomputable section

namespace Cert.KernelIdeal.Run

open Cert.KernelIdeal Cert.KernelIdeal.Gen Cert.Proof.Words Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable
  (arg0 : Memref sig .tc .smem S1x4096 .i32) (harg0 : arg0.IsWhole)
  (arg1 : Memref sig .tc .vmem S4096x16 .f32) (harg1 : arg1.IsWhole)
  (arg2 : Memref sig .tc .vmem S4096x1 .i32) (harg2 : arg2.IsWhole)
  (arg3 : Memref sig .tc .vmem S1x4096 .i32) (harg3 : arg3.IsWhole)
  (arg4 : Memref sig .tc .vmem S16x32 .f32) (harg4 : arg4.IsWhole)
  (arg5 : Memref sig .tc .vmem S32x32 .f32) (harg5 : arg5.IsWhole)
  (arg6 : Memref sig .tc .vmem S32x32 .f32) (harg6 : arg6.IsWhole)
  (arg7 : Memref sig .tc .vmem S32x32 .f32) (harg7 : arg7.IsWhole)
  (arg8 : Memref sig .tc .vmem S32x32 .f32) (harg8 : arg8.IsWhole)
  (arg9 : Memref sig .tc .vmem S1x32 .f32) (harg9 : arg9.IsWhole)
  (arg10 : Memref sig .tc .vmem S1x32 .f32) (harg10 : arg10.IsWhole)
  (arg11 : Memref sig .tc .vmem S4096x32 .f32) (harg11 : arg11.IsWhole)
  (arg12 : Memref sig .tc .vmem S4096x32 .f32) (harg12 : arg12.IsWhole)
  (arg13 : Memref sig .tc .vmem S4096x32 .bf16) (harg13 : arg13.IsWhole)
  (arg14 : Memref sig .tc .vmem S4096x33 .bf16) (harg14 : arg14.IsWhole)
  (arg15 : Memref sig .tc .vmem S4096x32 .f32) (harg15 : arg15.IsWhole)
  (arg16 : Memref sig .tc .smem S1x5 .i32) (harg16 : arg16.IsWhole)

/-- The table of starts: 0, the three searched starts, 4096. -/
def startAt (seg : Nat → BitVec 32) : Fin 5 → BitVec 32 := ![0#32, start seg 1#32, start seg 2#32, start seg 3#32, 4096#32]

def starts (x0 : Vec F S1x4096 .i32) : Vec F S1x5 .i32 := fun i => startAt (segOf x0) (i 1)

theorem startAt_le (seg : Nat → BitVec 32) (i : Fin 5) : (startAt seg i).toNat ≤ 4096 := by
  fin_cases i
  · exact Nat.zero_le _
  · exact start_le _ _
  · exact start_le _ _
  · exact start_le _ _
  · exact le_refl 4096

/-- One word's rectangle names its column. -/
theorem word_col (k : Fin 5) (inb : ∀ a, (![0, k.val] : Fin 2 → Nat) a + S1x1.size a ≤ S1x5.size a) (x : S1x1.Idx) :
    (Rect.unit (s := S1x5) ![0, k.val] S1x1.size inb).emb x 1 = k := by
  refine Fin.ext ?_
  have hx : (x 1).val < 1 := (x 1).isLt
  show k.val + 1 * (x 1).val = k.val
  omega

theorem word_piece (seg : Nat → BitVec 32) (k : Fin 5) (inb : ∀ a, (![0, k.val] : Fin 2 → Nat) a + S1x1.size a ≤ S1x5.size a) (x : S1x1.Idx) :
    startAt seg k = startAt seg ((Rect.unit (s := S1x5) ![0, k.val] S1x1.size inb).emb x 1) := by rw [word_col]

/-- The values with a column of ones beside them, as the kernel's two stores lay them. -/
def withOnes (v : FVec F S4096x32 .bf16) : Vec F S4096x33 .bf16 := View.canon
  [⟨Rect.unit ![0, 32] S4096x1.size inb_S4096x33_S4096x1_0_32, k0_pay6 (F := F)⟩,
    ⟨Rect.unit ![0, 0] S4096x32.size inb_S4096x33_S4096x32_0_0, v⟩]

/-- A word of the segment ids in scalar memory is a segment; -/
theorem seg_read (x0 : Vec F S1x4096 .i32) (hseg : ∀ i, (x0 i).toNat < 4) (B : LoadRect S1x4096) (x : B.shape.Idx) :
    (View.readAt (Elt F) arg0.view B (harg0.unread x0) x : BitVec 32).toNat < 4 := by
  rw [harg0.readAt_unread]; exact hseg (B.idx x)

/-- a word of the table of starts is at most 4096. -/
theorem start_read (x0 : Vec F S1x4096 .i32) (B : LoadRect S1x5) (x : B.shape.Idx) :
    (View.readAt (Elt F) arg16.view B (harg16.unread (starts x0)) x : BitVec 32).toNat ≤ 4096 := by
  rw [harg16.readAt_unread]; exact startAt_le _ _

end Cert.KernelIdeal.Run

end
-- ==== Proof.KI.Body.lean ====
/-
  The kernel body run once: from the inputs' contents to the result's.
-/
module

public import proofs.«01_k».proof.Proof.KI.Head

@[expose] public section

set_option maxRecDepth 65536
set_option maxHeartbeats 0
set_option warn.classDefReducibility false

noncomputable section

namespace Cert.KernelIdeal.Run

open Cert.KernelIdeal Cert.KernelIdeal.Gen Cert.Proof.Words Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

variable
  (arg0 : Memref sig .tc .smem S1x4096 .i32) (harg0 : arg0.IsWhole)
  (arg1 : Memref sig .tc .vmem S4096x16 .f32) (harg1 : arg1.IsWhole)
  (arg2 : Memref sig .tc .vmem S4096x1 .i32) (harg2 : arg2.IsWhole)
  (arg3 : Memref sig .tc .vmem S1x4096 .i32) (harg3 : arg3.IsWhole)
  (arg4 : Memref sig .tc .vmem S16x32 .f32) (harg4 : arg4.IsWhole)
  (arg5 : Memref sig .tc .vmem S32x32 .f32) (harg5 : arg5.IsWhole)
  (arg6 : Memref sig .tc .vmem S32x32 .f32) (harg6 : arg6.IsWhole)
  (arg7 : Memref sig .tc .vmem S32x32 .f32) (harg7 : arg7.IsWhole)
  (arg8 : Memref sig .tc .vmem S32x32 .f32) (harg8 : arg8.IsWhole)
  (arg9 : Memref sig .tc .vmem S1x32 .f32) (harg9 : arg9.IsWhole)
  (arg10 : Memref sig .tc .vmem S1x32 .f32) (harg10 : arg10.IsWhole)
  (arg11 : Memref sig .tc .vmem S4096x32 .f32) (harg11 : arg11.IsWhole)
  (arg12 : Memref sig .tc .vmem S4096x32 .f32) (harg12 : arg12.IsWhole)
  (arg13 : Memref sig .tc .vmem S4096x32 .bf16) (harg13 : arg13.IsWhole)
  (arg14 : Memref sig .tc .vmem S4096x33 .bf16) (harg14 : arg14.IsWhole)
  (arg15 : Memref sig .tc .vmem S4096x32 .f32) (harg15 : arg15.IsWhole)
  (arg16 : Memref sig .tc .smem S1x5 .i32) (harg16 : arg16.IsWhole)

def kernelRun (c : Dev nD) (x0 : Vec F S1x4096 .i32) (x1 : Vec F S4096x16 .f32) (x2 : Vec F S4096x1 .i32) (x3 : Vec F S1x4096 .i32) (x4 : Vec F S16x32 .f32) (x5 : Vec F S32x32 .f32) (x6 : Vec F S32x32 .f32) (x7 : Vec F S32x32 .f32) (x8 : Vec F S32x32 .f32) (x9 : Vec F S1x32 .f32) (x10 : Vec F S1x32 .f32) (hseg : ∀ i, (x0 i).toNat < 4)  :
    { Y : Vec F S4096x32 .f32 // ∀ (d11 : BufTy.Contents (Elt F) arg11.view.ty) (d12 : BufTy.Contents (Elt F) arg12.view.ty) (d13 : BufTy.Contents (Elt F) arg13.view.ty) (d14 : BufTy.Contents (Elt F) arg14.view.ty) (d15 : BufTy.Contents (Elt F) arg15.view.ty) (d16 : BufTy.Contents (Elt F) arg16.view.ty) (K : PUnit → sProp 𝕄),
      iprop((arg0.view.loc (c : Thread nD τ) ↦[arg0.view.set]{fullShare} harg0.unread x0) ∗ (arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} d11) ∗ (arg12.view.loc (c : Thread nD τ) ↦[arg12.view.set]{fullShare} d12) ∗ (arg13.view.loc (c : Thread nD τ) ↦[arg13.view.set]{fullShare} d13) ∗ (arg14.view.loc (c : Thread nD τ) ↦[arg14.view.set]{fullShare} d14) ∗ (arg15.view.loc (c : Thread nD τ) ↦[arg15.view.set]{fullShare} d15) ∗ (arg16.view.loc (c : Thread nD τ) ↦[arg16.view.set]{fullShare} d16) ∗ (iprop((arg0.view.loc (c : Thread nD τ) ↦[arg0.view.set]{fullShare} harg0.unread x0) ∗ (arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread Y) ∗ (∃ d, (arg12.view.loc (c : Thread nD τ) ↦[arg12.view.set]{fullShare} d)) ∗ (∃ d, (arg13.view.loc (c : Thread nD τ) ↦[arg13.view.set]{fullShare} d)) ∗ (∃ d, (arg14.view.loc (c : Thread nD τ) ↦[arg14.view.set]{fullShare} d)) ∗ (∃ d, (arg15.view.loc (c : Thread nD τ) ↦[arg15.view.set]{fullShare} d)) ∗ (∃ d, (arg16.view.loc (c : Thread nD τ) ↦[arg16.view.set]{fullShare} d))) -∗ K ⟨⟩))
        ⊢ wp frame (wpE (defs₀ (F := F)) 𝒱₀ c none) Set.univ (cc0__fused arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun d11 d12 d13 d14 d15 d16 K => ?run⟩
  case run =>
    iintro ⟨H0, H1, H2, H3, H4, H5, H6, H7, H8, H9, H10, H11, H12, H13, H14, H15, H16, Hk⟩
    rw [cc0__fused_eq_skeleton]
    sl_unfold [cc0__fused_skel]
    rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    sl_exec!
    sl_unfold_words
    rw [Mem.readAt_box harg1 x1 Mem.zero2, Mem.readAt_box harg4 x4 Mem.zero2, Mem.readAt_box harg6 x6 Mem.zero2,
      Mem.readAt_box harg7 x7 Mem.zero2, Mem.readAt_box harg5 x5 Mem.zero2, Mem.readAt_box harg8 x8 Mem.zero2, Mem.writes_box harg12 Mem.zero2,
      Mem.writes_box harg13 Mem.zero2, Mem.writes_canon harg14, Mem.writes_eq_unread harg16 (G := starts x0)]
    on_goal 2 => exact ⟨word_piece _ 3 inb_S1x5_S1x1_0_3, word_piece _ 2 inb_S1x5_S1x1_0_2, word_piece _ 1 inb_S1x5_S1x1_0_1,
        word_piece _ 4 inb_S1x5_S1x1_0_4, word_piece _ 0 inb_S1x5_S1x1_0_0, trivial⟩
    on_goal 2 => exact View.cover_of_tiled _ S1x1.size rfl
    sl_exec! (disch := first
        | (with_reducible refine chk4 ?_; sl_unfold_words; exact Nat.lt_succ_of_lt (seg_read arg0 harg0 x0 hseg _ _))
        | (with_reducible refine chk5 ?_; sl_unfold_words; exact seg_read arg0 harg0 x0 hseg _ _)
        | (with_reducible refine chk6 ?_ ?_ <;> sl_unfold_words <;> exact start_read arg16 harg16 x0 _ _)
        | (with_reducible refine chk7 ?_; sl_unfold_words; exact Nat.lt_succ_of_lt (seg_read arg0 harg0 x0 hseg _ _))
        | (with_reducible refine chk8 ?_; sl_unfold_words; exact seg_read arg0 harg0 x0 hseg _ _)
        | (with_reducible refine chk9 ?_ ?_ <;> sl_unfold_words <;> exact start_read arg16 harg16 x0 _ _)
        | (with_reducible refine chk10 ?_; sl_unfold_words; exact Nat.lt_succ_of_lt (seg_read arg0 harg0 x0 hseg _ _))
        | (with_reducible refine chk11 ?_; sl_unfold_words; exact seg_read arg0 harg0 x0 hseg _ _)
        | (with_reducible refine chk12 ?_ ?_ <;> sl_unfold_words <;> exact start_read arg16 harg16 x0 _ _)
        | (with_reducible refine chk13 ?_; sl_unfold_words; exact Nat.lt_succ_of_lt (seg_read arg0 harg0 x0 hseg _ _))
        | (with_reducible refine chk14 ?_; sl_unfold_words; exact seg_read arg0 harg0 x0 hseg _ _)
        | (with_reducible refine chk15 ?_ ?_ <;> sl_unfold_words <;> exact start_read arg16 harg16 x0 _ _)
        | (with_reducible refine chk16 ?_; sl_unfold_words; exact Nat.lt_succ_of_lt (seg_read arg0 harg0 x0 hseg _ _))
        | (with_reducible refine chk17 ?_; sl_unfold_words; exact seg_read arg0 harg0 x0 hseg _ _)
        | (with_reducible refine chk18 ?_ ?_ <;> sl_unfold_words <;> exact start_read arg16 harg16 x0 _ _)
        | (with_reducible refine chk19 ?_; sl_unfold_words; exact Nat.lt_succ_of_lt (seg_read arg0 harg0 x0 hseg _ _))
        | (with_reducible refine chk20 ?_; sl_unfold_words; exact seg_read arg0 harg0 x0 hseg _ _)
        | (with_reducible refine chk21 ?_ ?_ <;> sl_unfold_words <;> exact start_read arg16 harg16 x0 _ _)
        | (with_reducible refine chk22 ?_; sl_unfold_words; exact Nat.lt_succ_of_lt (seg_read arg0 harg0 x0 hseg _ _))
        | (with_reducible refine chk23 ?_; sl_unfold_words; exact seg_read arg0 harg0 x0 hseg _ _)
        | (with_reducible refine chk24 ?_ ?_ <;> sl_unfold_words <;> exact start_read arg16 harg16 x0 _ _)
        | (with_reducible refine chk25 ?_; sl_unfold_words; exact Nat.lt_succ_of_lt (seg_read arg0 harg0 x0 hseg _ _))
        | (with_reducible refine chk26 ?_; sl_unfold_words; exact seg_read arg0 harg0 x0 hseg _ _)
        | (with_reducible refine chk27 ?_ ?_ <;> sl_unfold_words <;> exact start_read arg16 harg16 x0 _ _))
    sl_step
    iapply Hk
    rw [Mem.writes_canon harg11]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    iexists _; iexact H16

end Cert.KernelIdeal.Run

end
-- ==== Proof.KI.Run.lean ====
/-
  The kernel's pipeline: what each window holds before and after the one grid point, the body's obligation, the run of the whole program.
-/
module

public import proofs.«01_k».proof.Proof.KI.Body
public import proofs.«01_k».proof.Proof.Gen.KernelIdeal.Frame

@[expose] public section

set_option maxRecDepth 16384
set_option warn.classDefReducibility false

noncomputable section

namespace Cert.KernelIdeal.Run

open Cert.KernelIdeal Cert.KernelIdeal.Gen Cert.Proof.Words Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! The windows' staging buffers at a point. -/

abbrev ms0_0 (t : Fin cfg0.N) : Memref sig .tc .smem S1x4096 .i32 := win0_0.stage (cfg0.slots t 0)
abbrev hs0_0 (t : Fin cfg0.N) : (ms0_0 t).IsWhole := hstage0_0 0
abbrev ms0_1 (t : Fin cfg0.N) : Memref sig .tc .vmem S4096x16 .f32 := win0_1.stage (cfg0.slots t 1)
abbrev hs0_1 (t : Fin cfg0.N) : (ms0_1 t).IsWhole := hstage0_1 0
abbrev ms0_2 (t : Fin cfg0.N) : Memref sig .tc .vmem S4096x1 .i32 := win0_2.stage (cfg0.slots t 2)
abbrev hs0_2 (t : Fin cfg0.N) : (ms0_2 t).IsWhole := hstage0_2 0
abbrev ms0_3 (t : Fin cfg0.N) : Memref sig .tc .vmem S1x4096 .i32 := win0_3.stage (cfg0.slots t 3)
abbrev hs0_3 (t : Fin cfg0.N) : (ms0_3 t).IsWhole := hstage0_3 0
abbrev ms0_4 (t : Fin cfg0.N) : Memref sig .tc .vmem S16x32 .f32 := win0_4.stage (cfg0.slots t 4)
abbrev hs0_4 (t : Fin cfg0.N) : (ms0_4 t).IsWhole := hstage0_4 0
abbrev ms0_5 (t : Fin cfg0.N) : Memref sig .tc .vmem S32x32 .f32 := win0_5.stage (cfg0.slots t 5)
abbrev hs0_5 (t : Fin cfg0.N) : (ms0_5 t).IsWhole := hstage0_5 0
abbrev ms0_6 (t : Fin cfg0.N) : Memref sig .tc .vmem S32x32 .f32 := win0_6.stage (cfg0.slots t 6)
abbrev hs0_6 (t : Fin cfg0.N) : (ms0_6 t).IsWhole := hstage0_6 0
abbrev ms0_7 (t : Fin cfg0.N) : Memref sig .tc .vmem S32x32 .f32 := win0_7.stage (cfg0.slots t 7)
abbrev hs0_7 (t : Fin cfg0.N) : (ms0_7 t).IsWhole := hstage0_7 0
abbrev ms0_8 (t : Fin cfg0.N) : Memref sig .tc .vmem S32x32 .f32 := win0_8.stage (cfg0.slots t 8)
abbrev hs0_8 (t : Fin cfg0.N) : (ms0_8 t).IsWhole := hstage0_8 0
abbrev ms0_9 (t : Fin cfg0.N) : Memref sig .tc .vmem S1x32 .f32 := win0_9.stage (cfg0.slots t 9)
abbrev hs0_9 (t : Fin cfg0.N) : (ms0_9 t).IsWhole := hstage0_9 0
abbrev ms0_10 (t : Fin cfg0.N) : Memref sig .tc .vmem S1x32 .f32 := win0_10.stage (cfg0.slots t 10)
abbrev hs0_10 (t : Fin cfg0.N) : (ms0_10 t).IsWhole := hstage0_10 0
abbrev ms0_11 (t : Fin cfg0.N) : Memref sig .tc .vmem S4096x32 .f32 := win0_11.stage (cfg0.slots t 11)
abbrev hs0_11 (t : Fin cfg0.N) : (ms0_11 t).IsWhole := hstage0_11 0

/-- The segment ids that the region finds in window 0 are segments. -/
def SegRange : Prop := ∀ (c : Dev nD) (t : Fin cfg0.N) (i : S1x4096.Idx), ((show Vec F S1x4096 .i32 from iblk m c 0 t) i : BitVec 32).toNat < 4

variable {m} in
/-- The body run at the point's buffers and blocks. -/
abbrev bodyRun (hm : SegRange m) (c : Dev nD) (t : Fin cfg0.N) :=
  kernelRun (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) c (iblk m c 0 t) (iblk m c 1 t) (iblk m c 2 t) (iblk m c 3 t) (iblk m c 4 t) (iblk m c 5 t) (iblk m c 6 t) (iblk m c 7 t) (iblk m c 8 t) (iblk m c 9 t) (iblk m c 10 t) (hm c t)

variable {m} in
/-- What the body leaves in the result's buffer. -/
def outsAt (hm : SegRange m) (c : Dev nD) (t : Fin cfg0.N) : Vec F S4096x32 .f32 := (bodyRun hm c t).1

variable {m} in
/-- The pipeline's data: every input's buffer keeps its block, the result's gets `outsAt`. -/
def dats (hm : SegRange m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outsAt hm c t
  Φ _ := Pipeline.ΦA spec0 c
  q w := Pipeline.shareOf spec0 w
  owed _ := 0

variable (hm : SegRange m)

theorem A_eq (c : Dev nD) (w : Fin cfg0.W) : (dats hm 0 c).A w = V m c (Pipeline.arrRef spec0 w) := rfl
theorem after0_0 (c : Dev nD) (t : Fin cfg0.N) : (dats hm 0 c).after 0 t = iblk m c 0 t := by dsimp only [dats]
theorem after0_1 (c : Dev nD) (t : Fin cfg0.N) : (dats hm 0 c).after 1 t = iblk m c 1 t := by dsimp only [dats]
theorem after0_2 (c : Dev nD) (t : Fin cfg0.N) : (dats hm 0 c).after 2 t = iblk m c 2 t := by dsimp only [dats]
theorem after0_3 (c : Dev nD) (t : Fin cfg0.N) : (dats hm 0 c).after 3 t = iblk m c 3 t := by dsimp only [dats]
theorem after0_4 (c : Dev nD) (t : Fin cfg0.N) : (dats hm 0 c).after 4 t = iblk m c 4 t := by dsimp only [dats]
theorem after0_5 (c : Dev nD) (t : Fin cfg0.N) : (dats hm 0 c).after 5 t = iblk m c 5 t := by dsimp only [dats]
theorem after0_6 (c : Dev nD) (t : Fin cfg0.N) : (dats hm 0 c).after 6 t = iblk m c 6 t := by dsimp only [dats]
theorem after0_7 (c : Dev nD) (t : Fin cfg0.N) : (dats hm 0 c).after 7 t = iblk m c 7 t := by dsimp only [dats]
theorem after0_8 (c : Dev nD) (t : Fin cfg0.N) : (dats hm 0 c).after 8 t = iblk m c 8 t := by dsimp only [dats]
theorem after0_9 (c : Dev nD) (t : Fin cfg0.N) : (dats hm 0 c).after 9 t = iblk m c 9 t := by dsimp only [dats]
theorem after0_10 (c : Dev nD) (t : Fin cfg0.N) : (dats hm 0 c).after 10 t = iblk m c 10 t := by dsimp only [dats]
theorem after0_11 (c : Dev nD) (t : Fin cfg0.N) : (dats hm 0 c).after 11 t = outsAt hm c t := by dsimp only [dats]
theorem before0_0 (c : Dev nD) (t : Fin cfg0.N) (d) : (dats hm 0 c).before 0 t d = iblk m c 0 t :=
  before0_0_of m (dats hm 0 c) (A_eq m hm c 0) (after0_0 m hm c) t d
theorem before0_1 (c : Dev nD) (t : Fin cfg0.N) (d) : (dats hm 0 c).before 1 t d = iblk m c 1 t :=
  before0_1_of m (dats hm 0 c) (A_eq m hm c 1) (after0_1 m hm c) t d
theorem before0_2 (c : Dev nD) (t : Fin cfg0.N) (d) : (dats hm 0 c).before 2 t d = iblk m c 2 t :=
  before0_2_of m (dats hm 0 c) (A_eq m hm c 2) (after0_2 m hm c) t d
theorem before0_3 (c : Dev nD) (t : Fin cfg0.N) (d) : (dats hm 0 c).before 3 t d = iblk m c 3 t :=
  before0_3_of m (dats hm 0 c) (A_eq m hm c 3) (after0_3 m hm c) t d
theorem before0_4 (c : Dev nD) (t : Fin cfg0.N) (d) : (dats hm 0 c).before 4 t d = iblk m c 4 t :=
  before0_4_of m (dats hm 0 c) (A_eq m hm c 4) (after0_4 m hm c) t d
theorem before0_5 (c : Dev nD) (t : Fin cfg0.N) (d) : (dats hm 0 c).before 5 t d = iblk m c 5 t :=
  before0_5_of m (dats hm 0 c) (A_eq m hm c 5) (after0_5 m hm c) t d
theorem before0_6 (c : Dev nD) (t : Fin cfg0.N) (d) : (dats hm 0 c).before 6 t d = iblk m c 6 t :=
  before0_6_of m (dats hm 0 c) (A_eq m hm c 6) (after0_6 m hm c) t d
theorem before0_7 (c : Dev nD) (t : Fin cfg0.N) (d) : (dats hm 0 c).before 7 t d = iblk m c 7 t :=
  before0_7_of m (dats hm 0 c) (A_eq m hm c 7) (after0_7 m hm c) t d
theorem before0_8 (c : Dev nD) (t : Fin cfg0.N) (d) : (dats hm 0 c).before 8 t d = iblk m c 8 t :=
  before0_8_of m (dats hm 0 c) (A_eq m hm c 8) (after0_8 m hm c) t d
theorem before0_9 (c : Dev nD) (t : Fin cfg0.N) (d) : (dats hm 0 c).before 9 t d = iblk m c 9 t :=
  before0_9_of m (dats hm 0 c) (A_eq m hm c 9) (after0_9 m hm c) t d
theorem before0_10 (c : Dev nD) (t : Fin cfg0.N) (d) : (dats hm 0 c).before 10 t d = iblk m c 10 t :=
  before0_10_of m (dats hm 0 c) (A_eq m hm c 10) (after0_10 m hm c) t d

set_option maxHeartbeats 0 in
/-- The body meets its obligation at the point. -/
theorem body_obligation (c : Dev nD) : BodyObligation (dats (F := F) hm 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10]
  rw [show (dats hm 0 c).Φ t.succ = Pipeline.ΦA spec0 c from rfl, show (dats hm 0 c).Φ t.castSucc = Pipeline.ΦA spec0 c from rfl,
    show (dats hm 0 c).owesAt () t.succ = (dats hm 0 c).owesAt () t.castSucc from rfl,
    after0_0, after0_1, after0_2, after0_3, after0_4, after0_5, after0_6, after0_7, after0_8, after0_9, after0_10, after0_11]
  unfold Pipeline.ΦA
  rw [scopedRest0_eq]
  rw [Mem.owns_eq (c : Thread nD τ) (hs0_0 t) fullShare (iblk m c 0 t), Mem.owns_eq (c : Thread nD τ) (hs0_1 t) fullShare (iblk m c 1 t), Mem.owns_eq (c : Thread nD τ) (hs0_2 t) fullShare (iblk m c 2 t), Mem.owns_eq (c : Thread nD τ) (hs0_3 t) fullShare (iblk m c 3 t), Mem.owns_eq (c : Thread nD τ) (hs0_4 t) fullShare (iblk m c 4 t), Mem.owns_eq (c : Thread nD τ) (hs0_5 t) fullShare (iblk m c 5 t), Mem.owns_eq (c : Thread nD τ) (hs0_6 t) fullShare (iblk m c 6 t), Mem.owns_eq (c : Thread nD τ) (hs0_7 t) fullShare (iblk m c 7 t), Mem.owns_eq (c : Thread nD τ) (hs0_8 t) fullShare (iblk m c 8 t), Mem.owns_eq (c : Thread nD τ) (hs0_9 t) fullShare (iblk m c 9 t), Mem.owns_eq (c : Thread nD τ) (hs0_10 t) fullShare (iblk m c 10 t),
    Mem.owns_eq (c : Thread nD τ) (hs0_11 t) fullShare (outsAt hm c t)]
  have run := (bodyRun hm c t).2
  unfold outsAt
  generalize (bodyRun hm c t).1 = Y at run ⊢
  rw [(Memref.isWhole_whole cc0_scratch0).set_eq_univ, (Memref.isWhole_whole cc0_scratch1).set_eq_univ,
    (Memref.isWhole_whole cc0_scratch2).set_eq_univ, (Memref.isWhole_whole cc0_scratch3).set_eq_univ,
    (Memref.isWhole_whole cc0_scratch4).set_eq_univ] at run
  iintro ⟨⟨⟨⟨%d12, H12⟩, ⟨%d13, H13⟩, ⟨%d14, H14⟩, ⟨%d15, H15⟩, ⟨%d16, H16⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave H11' := (Entails.of_eq (Mem.owns_eq (c : Thread nD τ) (hs0_11 t) fullShare _)) $$ H11
  iapply (run ((hs0_11 t).unread ((dats hm 0 c).before 11 t d11)) d12 d13 d14 d15 d16 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11']; · iexact H11'
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, H13, H14, H15, H16⟩
  isplitl [H12 H13 H14 H15 H16 Hp]
  · isplitl [H12 H13 H14 H15 H16]
    · isplitl [H12]; · iexact H12
      isplitl [H13]; · iexact H13
      isplitl [H14]; · iexact H14
      isplitl [H15]; · iexact H15
      iexact H16
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option backward.isDefEq.respectTransparency.types false in
/-- Every run of the program ends with each window's array at what the pipeline's data says and every counter at zero. -/
theorem run_main : θ_run defs (onTc (τ := τ) (main (F := F))) (s₀ m ρ)
    (fun r => Pipeline.FramePost cfgs (dats hm) 0 (V m) r ∧ r.2.sem = fun _ => 0) :=
  Pipeline.θ_run_frame_shared (Q' := _) cfgs (dats hm) (0 : Fin 1) launch₀0 defs₀ 𝒱₀ m ρ main
    (hbody := fun c => (body_obligation m hm c).loose) (hq := fun _ _ _ => rfl)
    (howed := fun _ _ => rfl) (V := V m) (hmain := hmain m 𝒱₀) (hA := fun _ _ => rfl) (hΦ := fun _ _ => rfl)

include hm in
/-- The run leaves the arguments as they were, with the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_with_sems (frame_of m ρ (dats hm) fun _ _ => rfl) (run_main m ρ hm)

end Cert.KernelIdeal.Run

end
-- ==== Proof.KI.Blocks.lean ====
/-
  What each window's block is at the one grid point: the argument, or its reshape, whole.
-/
module

public import proofs.«01_k».proof.Proof.KI.Run
public import Idealize.ShloMosaic.Lib.Claim

@[expose] public section

set_option maxRecDepth 16384

noncomputable section

namespace Cert.KernelIdeal.Run

open Cert.KernelIdeal Cert.KernelIdeal.Gen Cert.Proof.Words Cert.Proof
open Idealize.ShloMosaic Idealize.ShloMosaic.TcCoe Idealize.ShloMosaic.Tactic
open Idealize.SL Idealize.SL.RA Idealize.SL.BI
open Idealize.SL.Sem

variable {F : FTy → Type} [FloatOps F] [Named F]

variable (m : (ℓ : Loc nD τ sig) → Buf (Elt F) ℓ) (c : Dev nD) (t : Fin cfg0.N)

theorem V_main_v0 : V m c main_v0 = shapeCast S1x4096 (m ((c : Thread nD τ).loc main_arg1)) shapeCasts_S4096_S1x4096 := by
  unfold_abbrev_sides
  after_results
  rfl

theorem V_main_v1 : V m c main_v1 = shapeCast S4096x1 (m ((c : Thread nD τ).loc main_arg1)) shapeCasts_S4096_S4096x1 := by
  unfold_abbrev_sides
  after_results
  rfl

theorem V_main_v2 : V m c main_v2 = shapeCast S1x32 (m ((c : Thread nD τ).loc main_arg7)) shapeCasts_S32_S1x32 := by
  unfold_abbrev_sides
  after_results
  rfl

theorem V_main_v3 : V m c main_v3 = shapeCast S1x32 (m ((c : Thread nD τ).loc main_arg8)) shapeCasts_S32_S1x32 := by
  unfold_abbrev_sides
  after_results
  rfl

/-- A window that is its whole array takes each index to itself. -/
theorem whole_emb {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (j : s.Idx) :
    ((Pipeline.Window.whole arr isOut sync stage sem harr hstage).rect t).emb j = j := by
  funext a
  apply Fin.ext
  show 0 * s.size a + 1 * (j a).val = (j a).val
  omega

theorem iblk0 : (show Vec F S1x4096 .i32 from iblk m c 0 t) = shapeCast S1x4096 (m ((c : Thread nD τ).loc main_arg1)) shapeCasts_S4096_S1x4096 := by
  rw [← V_main_v0 m c]
  funext j
  show V m c main_v0 ((win0_0.rect t).emb j) = V m c main_v0 j
  rw [whole_emb]

theorem iblk1 : (show Vec F S4096x16 .f32 from iblk m c 1 t) = m ((c : Thread nD τ).loc main_arg0) := by
  rw [← V_main_arg0 m c]
  funext j
  show V m c main_arg0 ((win0_1.rect t).emb j) = V m c main_arg0 j
  rw [whole_emb]

theorem iblk2 : (show Vec F S4096x1 .i32 from iblk m c 2 t) = shapeCast S4096x1 (m ((c : Thread nD τ).loc main_arg1)) shapeCasts_S4096_S4096x1 := by
  rw [← V_main_v1 m c]
  funext j
  show V m c main_v1 ((win0_2.rect t).emb j) = V m c main_v1 j
  rw [whole_emb]

theorem iblk3 : (show Vec F S1x4096 .i32 from iblk m c 3 t) = shapeCast S1x4096 (m ((c : Thread nD τ).loc main_arg1)) shapeCasts_S4096_S1x4096 := by
  rw [← V_main_v0 m c]
  funext j
  show V m c main_v0 ((win0_3.rect t).emb j) = V m c main_v0 j
  rw [whole_emb]

theorem iblk4 : (show Vec F S16x32 .f32 from iblk m c 4 t) = m ((c : Thread nD τ).loc main_arg2) := by
  rw [← V_main_arg2 m c]
  funext j
  show V m c main_arg2 ((win0_4.rect t).emb j) = V m c main_arg2 j
  rw [whole_emb]

theorem iblk5 : (show Vec F S32x32 .f32 from iblk m c 5 t) = m ((c : Thread nD τ).loc main_arg3) := by
  rw [← V_main_arg3 m c]
  funext j
  show V m c main_arg3 ((win0_5.rect t).emb j) = V m c main_arg3 j
  rw [whole_emb]

theorem iblk6 : (show Vec F S32x32 .f32 from iblk m c 6 t) = m ((c : Thread nD τ).loc main_arg4) := by
  rw [← V_main_arg4 m c]
  funext j
  show V m c main_arg4 ((win0_6.rect t).emb j) = V m c main_arg4 j
  rw [whole_emb]

theorem iblk7 : (show Vec F S32x32 .f32 from iblk m c 7 t) = m ((c : Thread nD τ).loc main_arg5) := by
  rw [← V_main_arg5 m c]
  funext j
  show V m c main_arg5 ((win0_7.rect t).emb j) = V m c main_arg5 j
  rw [whole_emb]

theorem iblk8 : (show Vec F S32x32 .f32 from iblk m c 8 t) = m ((c : Thread nD τ).loc main_arg6) := by
  rw [← V_main_arg6 m c]
  funext j
  show V m c main_arg6 ((win0_8.rect t).emb j) = V m c main_arg6 j
  rw [whole_emb]

theorem iblk9 : (show Vec F S1x32 .f32 from iblk m c 9 t) = shapeCast S1x32 (m ((c : Thread nD τ).loc main_arg7)) shapeCasts_S32_S1x32 := by
  rw [← V_main_v2 m c]
  funext j
  show V m c main_v2 ((win0_9.rect t).emb j) = V m c main_v2 j
  rw [whole_emb]

theorem iblk10 : (show Vec F S1x32 .f32 from iblk m c 10 t) = shapeCast S1x32 (m ((c : Thread nD τ).loc main_arg8)) shapeCasts_S32_S1x32 := by
  rw [← V_main_v3 m c]
  funext j
  show V m c main_v3 ((win0_10.rect t).emb j) = V m c main_v3 j
  rw [whole_emb]

/-- When the segment ids are segments, so are those that the region finds. -/
theorem segRange_of (h : ∀ (c : Dev nD) (i : S4096.Idx), (m ((c : Thread nD τ).loc main_arg1) i : BitVec 32).toNat < 4) : SegRange m := by
  intro c t i
  rw [iblk0]
  exact h c _

variable (hm : SegRange m)

/-- What the point writes back is its block of what the body leaves. -/
theorem flushed11 : (dats hm 0 c).flushed 11 t = ((cfg0.win 11).blk t).view.read (Elt F) (show Vec F S4096x32 .f32 from outsAt hm c t) := by
  unfold Pipeline.Dat.flushed
  rw [after0_11 m hm c t]
  generalize outsAt hm c t = Y
  funext j
  show Y j = Y ((win0_11.rect t).emb j)
  rw [whole_emb]

/-- The one grid point. -/
def point0 : Fin cfg0.N := ⟨0, by decide⟩

instance : Subsingleton (Fin cfg0.N) := inferInstanceAs (Subsingleton (Fin 1))

/-- The result array after the run is what the body leaves at the one point. -/
theorem final11 : (dats hm 0 c).arrAt 11 cfg0.N = (show Vec F S4096x32 .f32 from outsAt hm c point0) :=
  (dats hm 0 c).arrAt_eq_of_cover 11 (show Vec F S4096x32 .f32 from outsAt hm c point0)
    (fun t _ => by rw [flushed11, Subsingleton.elim t point0])
    (fun i => ⟨point0, flush0_11 _, by
      have h := ((cfg0.win 11).blk point0).view.emb_mem_set i
      have e : ((cfg0.win 11).blk point0).view.emb i = i := whole_emb (Memref.whole main_v4) true false (stage0_11 0) (sem0_11 0) (Memref.isWhole_whole _) (hstage0_11 0) point0 i
      rwa [e] at h⟩)

end Cert.KernelIdeal.Run

end
-- ==== Proof.Consts.lean ====
/-
  The literals both programs use, the choice by equal words and a row's maximum, over the extended reals.
-/
module

public import Idealize.ShloMosaic.Lib.Pointwise

@[expose] public section
set_option maxRecDepth 16384

noncomputable section

open Idealize Idealize.ShloMosaic

namespace Cert.Proof.Consts

theorem ofBits_bot : Ideal.ofBits .f32 0xFF800000#32 = (⊥ : EReal) := by simp [Ideal.ofBits, Ideal.ieee]
theorem ofBits_4096 : Ideal.ofBits .f32 0x45800000#32 = ((4096 : ℝ) : EReal) := by
  simp [Ideal.ofBits, Ideal.ieee]
  norm_cast
  norm_num
theorem ofBits_eps : ∃ ε : ℝ, 0 < ε ∧ Ideal.ofBits .f32 0x3727C5AC#32 = (ε : EReal) := by
  refine ⟨_, ?_, by simp [Ideal.ofBits, Ideal.ieee]; rfl⟩
  positivity
theorem sitofp_zero : (FloatOps.sitofp .f32 (0#32) : Ideal .f32) = (0 : EReal) := by
  simp [FloatOps.sitofp]
theorem ofBits_one_bf16 : Ideal.ofBits .bf16 0x3F80#16 = (1 : EReal) := by
  simp [Ideal.ofBits, Ideal.ieee]
  norm_cast
  norm_num

theorem reduceMax {m n : Nat} {u : Shape} (x : FVec Ideal ⟨2, ![m, n]⟩ .f32) (c : FVec Ideal u .f32) (b : FVec Ideal ⟨1, ![m]⟩ .f32)
    (h' : (⟨2, ![m, n]⟩ : Shape).ReducesTo [1] (⟨1, ![m]⟩ : Shape)) (hu : 0 < u.numel) (i : Fin m) :
    maximumf b (Host.reduce FloatOps.maximumf x c h' hu) (ix1 i) =
      max (b (ix1 i)) ((Finset.univ : Finset (Fin n)).fold max (c (Shape.Idx.first hu)) fun k => x (ix2 i k)) := by
  pointwise

theorem select_eq {α : Type} (a b : BitVec 32) (x y : α) : Scalar.select (IntOp.cmpi .eq a b) x y = if a = b then x else y := by
  unfold Scalar.select IntOp.cmpi
  by_cases h : a = b
  · simp [h]
  · simp [h, beq_eq_false_iff_ne.2 h]

end Cert.Proof.Consts
-- ==== Proof.Ref.lean ====
module

public import proofs.«01_k».proof.Proof.Gen.ReferenceIdeal.Run
public import proofs.«01_k».proof.Proof.Consts

/-! # The reference at an index, in the order it computes. -/

@[expose] public section
set_option maxRecDepth 16384

noncomputable section

open Idealize Idealize.ShloMosaic
open Cert.ReferenceIdeal Cert.ReferenceIdeal.Gen Idealize.ShloMosaic.TcCoe Idealize.SL.Sem Idealize.ShloMosaic.StableHlo

namespace Cert.Proof.Ref

def hMat (a0 : FVec Ideal S4096x16 .f32) (a2 : FVec Ideal S16x32 .f32) : FVec Ideal S4096x32 .f32 :=
  Host.dotGeneral dot_S4096x16_S16x32_S4096x32_1_0_0_1_n_n none a0 a2
def proj (h : FVec Ideal S4096x32 .f32) (w : FVec Ideal S32x32 .f32) : FVec Ideal S4096x32 .f32 :=
  Host.dotGeneral dot_S4096x32_S32x32_S4096x32_1_0_0_1_n_n none h w
def scores (a1 : IVec S4096 32) (q k : FVec Ideal S4096x32 .f32) : FVec Ideal S4096x4096 .f32 :=
  (select (cmpi .eq (broadcastInDim S4096x4096 ![0, 1] bcast_S4096x1_S4096x4096_0_1 (broadcastInDim S4096x1 ![0] bcast_S4096_S4096x1_0 a1)) (broadcastInDim S4096x4096 ![0, 1] bcast_S1x4096_S4096x4096_0_1 (broadcastInDim S1x4096 ![1] bcast_S4096_S1x4096_1 a1))) (Host.dotGeneral dot_S4096x32_S32x4096_S4096x4096_1_0_0_1_n_n none q (transpose S32x4096 [1, 0] k transposes_S4096x32_S32x4096_1_0)) (broadcastInDim S4096x4096 ![] bcast_S_S4096x4096 (id (constant S_ .f32 0xFF800000#32))))
def rowMaxes (b : FVec Ideal S4096 .f32) (c : FVec Ideal S_ .f32) (s : FVec Ideal S4096x4096 .f32) : FVec Ideal S4096 .f32 :=
  maximumf b (Host.reduce FloatOps.maximumf s c reducesTo_S4096x4096_S4096_d1 h_S_)
def rowMax (s : FVec Ideal S4096x4096 .f32) : FVec Ideal S4096 .f32 :=
  rowMaxes (broadcastInDim S4096 ![] bcast_S_S4096 (constant S_ .f32 0xFF800000#32)) (constant S_ .f32 0xFF800000#32) s
def expo (s : FVec Ideal S4096x4096 .f32) (mx : FVec Ideal S4096 .f32) : FVec Ideal S4096x4096 .f32 :=
  (Host.exp (subf s (broadcastInDim S4096x4096 ![0, 1] bcast_S4096x1_S4096x4096_0_1 (broadcastInDim S4096x1 ![0] bcast_S4096_S4096x1_0 mx))))
def attn (e : FVec Ideal S4096x4096 .f32) : FVec Ideal S4096x4096 .f32 :=
  (Host.divf e (broadcastInDim S4096x4096 ![0, 1] bcast_S4096x1_S4096x4096_0_1 (broadcastInDim S4096x1 ![0] bcast_S4096_S4096x1_0 (Host.reduceAdd e (constant S_ .f32 0x00000000#32) reducesTo_S4096x4096_S4096_d1 h_S_))))
def mix (p : FVec Ideal S4096x4096 .f32) (v : FVec Ideal S4096x32 .f32) : FVec Ideal S4096x32 .f32 :=
  Host.dotGeneral dot_S4096x4096_S4096x32_S4096x32_1_0_0_1_n_n none p v
def meanOf (tt : FVec Ideal S4096x32 .f32) : FVec Ideal S32 .f32 :=
  (Host.divf (Host.reduceAdd tt (constant S_ .f32 0x00000000#32) reducesTo_S4096x32_S32_d0 h_S_) (broadcastInDim S32 ![] bcast_S_S32 (constant S_ .f32 0x45800000#32)))
def varOf (tt : FVec Ideal S4096x32 .f32) : FVec Ideal S32 .f32 :=
  (select (broadcastInDim S32 ![] bcast_S_S32 (cmpf .ogt (subf (constant S_ .f32 0x45800000#32) (sitofp .f32 (constantI S_ 32 0#32)) : FVec Ideal S_ .f32) (constant S_ .f32 0x00000000#32))) (Host.divf (Host.reduceAdd (mulf (subf tt (broadcastInDim S4096x32 ![0, 1] bcast_S1x32_S4096x32_0_1 (Host.divf (broadcastInDim S1x32 ![1] bcast_S32_S1x32_1 (Host.reduceAdd tt (constant S_ .f32 0x00000000#32) reducesTo_S4096x32_S32_d0 h_S_)) (broadcastInDim S1x32 ![] bcast_S_S1x32 (constant S_ .f32 0x45800000#32))))) (subf tt (broadcastInDim S4096x32 ![0, 1] bcast_S1x32_S4096x32_0_1 (Host.divf (broadcastInDim S1x32 ![1] bcast_S32_S1x32_1 (Host.reduceAdd tt (constant S_ .f32 0x00000000#32) reducesTo_S4096x32_S32_d0 h_S_)) (broadcastInDim S1x32 ![] bcast_S_S1x32 (constant S_ .f32 0x45800000#32)))))) (constant S_ .f32 0x00000000#32) reducesTo_S4096x32_S32_d0 h_S_) (broadcastInDim S32 ![] bcast_S_S32 (subf (constant S_ .f32 0x45800000#32) (sitofp .f32 (constantI S_ 32 0#32))))) (broadcastInDim S32 ![] bcast_S_S32 (id (constant S_ .f32 0x7FC00000#32))))
def normal (h tt : FVec Ideal S4096x32 .f32) (mean var a7 a8 : FVec Ideal S32 .f32) : FVec Ideal S4096x32 .f32 :=
  addf h (addf (mulf (Host.divf (subf tt (broadcastInDim S4096x32 ![0, 1] bcast_S1x32_S4096x32_0_1 (broadcastInDim S1x32 ![1] bcast_S32_S1x32_1 mean))) (broadcastInDim S4096x32 ![0, 1] bcast_S1x32_S4096x32_0_1 (broadcastInDim S1x32 ![1] bcast_S32_S1x32_1 (Host.sqrt (addf var (broadcastInDim S32 ![] bcast_S_S32 (constant S_ .f32 0x3727C5AC#32))))))) (broadcastInDim S4096x32 ![0, 1] bcast_S1x32_S4096x32_0_1 (broadcastInDim S1x32 ![1] bcast_S32_S1x32_1 a7))) (broadcastInDim S4096x32 ![0, 1] bcast_S1x32_S4096x32_0_1 (broadcastInDim S1x32 ![1] bcast_S32_S1x32_1 a8)))
def attended (a1 : IVec S4096 32) (q k v : FVec Ideal S4096x32 .f32) : FVec Ideal S4096x32 .f32 :=
  mix (attn (expo (scores a1 q k) (rowMax (scores a1 q k)))) v
def outOf (a0 : FVec Ideal S4096x16 .f32) (a1 : IVec S4096 32) (a2 : FVec Ideal S16x32 .f32) (a3 a4 a5 a6 : FVec Ideal S32x32 .f32) (a7 a8 : FVec Ideal S32 .f32) : FVec Ideal S4096x32 .f32 :=
  normal (hMat a0 a2) (proj (attended a1 (proj (hMat a0 a2) a3) (proj (hMat a0 a2) a4) (proj (hMat a0 a2) a5)) a6)
    (meanOf (proj (attended a1 (proj (hMat a0 a2) a3) (proj (hMat a0 a2) a4) (proj (hMat a0 a2) a5)) a6))
    (varOf (proj (attended a1 (proj (hMat a0 a2) a3) (proj (hMat a0 a2) a4) (proj (hMat a0 a2) a5)) a6)) a7 a8

theorem res_eq (m : (ℓ : Loc nD τ sig) → Buf (Elt Ideal) ℓ) (c : Dev nD) :
    Value.res_main_v44 m c = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Value.res_main_v44
  rfl

theorem hMat_at (a0 : FVec Ideal S4096x16 .f32) (a2 : FVec Ideal S16x32 .f32) (i : Fin 4096) (d : Fin 32) :
    hMat a0 a2 (ix2 i d) = ∑ k : Fin 16, a0 (ix2 i k) * a2 (ix2 k d) := by
  pointwise [hMat]
theorem proj_at (h : FVec Ideal S4096x32 .f32) (w : FVec Ideal S32x32 .f32) (i : Fin 4096) (d : Fin 32) :
    proj h w (ix2 i d) = ∑ k : Fin 32, h (ix2 i k) * w (ix2 k d) := by
  pointwise [proj]
theorem scores_at (a1 : IVec S4096 32) (q k : FVec Ideal S4096x32 .f32) (i j : Fin 4096) :
    scores a1 q k (ix2 i j) = if a1 (ix1 i) = a1 (ix1 j) then ∑ d : Fin 32, q (ix2 i d) * k (ix2 j d) else (⊥ : EReal) := by
  pointwise [scores]
  rw [Consts.select_eq]
  exact congrArg (fun z => if a1 (ix1 i) = a1 (ix1 j) then ∑ d : Fin 32, q (ix2 i d) * k (ix2 j d) else z) Consts.ofBits_bot
theorem rowMaxes_at (b : FVec Ideal S4096 .f32) (c : FVec Ideal S_ .f32) (s : FVec Ideal S4096x4096 .f32) (i : Fin 4096) :
    rowMaxes b c s (ix1 i) = max (b (ix1 i)) ((Finset.univ : Finset (Fin 4096)).fold max (c (Shape.Idx.first h_S_)) fun k => s (ix2 i k)) :=
  Consts.reduceMax s c b reducesTo_S4096x4096_S4096_d1 h_S_ i
theorem rowMax_at (s : FVec Ideal S4096x4096 .f32) (i : Fin 4096) :
    rowMax s (ix1 i) = (Finset.univ : Finset (Fin 4096)).fold max (⊥ : EReal) fun k => s (ix2 i k) := by
  unfold rowMax
  rw [rowMaxes_at]
  have hb : broadcastInDim S4096 ![] bcast_S_S4096 (constant S_ .f32 0xFF800000#32 : FVec Ideal S_ .f32) (ix1 i) = (⊥ : EReal) := Consts.ofBits_bot
  have hc : (constant S_ .f32 0xFF800000#32 : FVec Ideal S_ .f32) (Shape.Idx.first h_S_) = (⊥ : EReal) := Consts.ofBits_bot
  rw [hb, hc]
  exact max_eq_right bot_le
theorem expo_at (s : FVec Ideal S4096x4096 .f32) (mx : FVec Ideal S4096 .f32) (i j : Fin 4096) :
    expo s mx (ix2 i j) = Ideal.exp (s (ix2 i j) - mx (ix1 i)) := by
  pointwise [expo]
theorem attn_at (e : FVec Ideal S4096x4096 .f32) (i j : Fin 4096) :
    attn e (ix2 i j) = Ideal.div (e (ix2 i j)) (∑ k : Fin 4096, e (ix2 i k)) := by
  pointwise [attn]
theorem mix_at (p : FVec Ideal S4096x4096 .f32) (v : FVec Ideal S4096x32 .f32) (i : Fin 4096) (d : Fin 32) :
    mix p v (ix2 i d) = ∑ k : Fin 4096, p (ix2 i k) * v (ix2 k d) := by
  pointwise [mix]
theorem meanOf_at (tt : FVec Ideal S4096x32 .f32) (d : Fin 32) :
    meanOf tt (ix1 d) = Ideal.div (∑ i : Fin 4096, tt (ix2 i d)) (4096 : ℝ) := by
  pointwise [meanOf]
  rw [Consts.ofBits_4096]
theorem varOf_at (tt : FVec Ideal S4096x32 .f32) (d : Fin 32) :
    varOf tt (ix1 d) = Ideal.div (∑ i : Fin 4096, (tt (ix2 i d) - meanOf tt (ix1 d)) * (tt (ix2 i d) - meanOf tt (ix1 d))) (4096 : ℝ) := by
  pointwise [varOf, meanOf]
  rw [Consts.sitofp_zero, sub_zero, if_pos (by rw [Consts.ofBits_4096]; exact EReal.coe_pos.2 (by norm_num)), Consts.ofBits_4096]
theorem normal_at (h tt : FVec Ideal S4096x32 .f32) (mean var a7 a8 : FVec Ideal S32 .f32) (i : Fin 4096) (d : Fin 32) :
    normal h tt mean var a7 a8 (ix2 i d) = h (ix2 i d) + (Ideal.div (tt (ix2 i d) - mean (ix1 d)) (Ideal.sqrt (var (ix1 d) + Ideal.ofBits .f32 0x3727C5AC#32)) * a7 (ix1 d) + a8 (ix1 d)) := by
  pointwise [normal]

end Cert.Proof.Ref
-- ==== Proof.Maths.lean ====
/-
  The mathematics the two programs share, over the real numbers, and how the extended reals carry it.
-/
module

public import proofs.«01_k».proof.Proof.Consts

@[expose] public section

noncomputable section

namespace Cert.Proof.Maths

open Idealize.ShloMosaic

/-! ## Sums of reals among the extended reals -/

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem dot_coe {ι : Type} [Fintype ι] {a b : ι → EReal} {x y : ι → ℝ} (ha : ∀ i, a i = x i) (hb : ∀ i, b i = y i) :
    ∑ i, a i * b i = ((∑ i, x i * y i : ℝ) : EReal) := by
  rw [← sum_coe]
  exact Finset.sum_congr rfl fun i _ => by rw [ha, hb, EReal.coe_mul]

theorem div_real (a : ℝ) {b : ℝ} (hb : b ≠ 0) : Ideal.div (a : EReal) (b : EReal) = ((a / b : ℝ) : EReal) := by
  rw [Ideal.div_coe hb, ← EReal.coe_mul]; congr 1; ring

theorem sqrt_real {a : ℝ} (ha : 0 ≤ a) : Ideal.sqrt (a : EReal) = ((Real.sqrt a : ℝ) : EReal) := by
  show (if a < 0 then (⊥ : EReal) else (Real.sqrt a : EReal)) = _
  rw [if_neg (not_lt.2 ha)]

theorem rsqrt_real {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 ha.le), if_neg ha.ne']

/-! ## A row of the masked softmax -/

section
variable {n : ℕ} (p : Fin n → Prop) [DecidablePred p] (r : Fin n → ℝ)

/-- The scores of a row: those of its own segment, and −∞. -/
def masked (j : Fin n) : EReal := if p j then (r j : EReal) else ⊥

/-- Their exponentials. -/
def weight (j : Fin n) : ℝ := if p j then Real.exp (r j) else 0

theorem exp_masked (j : Fin n) : Ideal.exp (masked p r j) = (weight p r j : EReal) := by
  unfold masked weight
  by_cases h : p j
  · rw [if_pos h, if_pos h]; rfl
  · rw [if_neg h, if_neg h]; exact EReal.coe_zero.symm

theorem weight_nonneg (j : Fin n) : 0 ≤ weight p r j := by
  unfold weight; split
  · exact (Real.exp_pos _).le
  · exact le_rfl

theorem weight_sum_pos {i : Fin n} (hi : p i) : 0 < ∑ j, weight p r j :=
  Finset.sum_pos' (fun j _ => weight_nonneg p r j) ⟨i, Finset.mem_univ i, by unfold weight; rw [if_pos hi]; exact Real.exp_pos _⟩

/-- The largest score of a row is a real number, its own score being one. -/
theorem rowMax_real {i : Fin n} (hi : p i) : ∃ M : ℝ, (Finset.univ : Finset (Fin n)).fold max (⊥ : EReal) (masked p r) = (M : EReal) := by
  have hle : (r i : EReal) ≤ (Finset.univ : Finset (Fin n)).fold max (⊥ : EReal) (masked p r) :=
    Finset.le_fold_max _ |>.2 (.inr ⟨i, Finset.mem_univ i, by unfold masked; rw [if_pos hi]⟩)
  have hlt : (Finset.univ : Finset (Fin n)).fold max (⊥ : EReal) (masked p r) < ⊤ :=
    Finset.fold_max_lt _ |>.2 ⟨bot_lt_top, fun j _ => by
      unfold masked; split
      · exact EReal.coe_lt_top _
      · exact bot_lt_top⟩
  exact ⟨_, (EReal.coe_toReal hlt.ne (lt_of_lt_of_le (EReal.bot_lt_coe _) hle).ne').symm⟩

theorem exp_shift (M : ℝ) (j : Fin n) : Ideal.exp (masked p r j - (M : EReal)) = ((weight p r j * Real.exp (-M) : ℝ) : EReal) := by
  unfold masked weight
  by_cases h : p j
  · rw [if_pos h, if_pos h, ← EReal.coe_sub]
    show ((Real.exp (r j - M) : ℝ) : EReal) = _
    rw [sub_eq_add_neg, Real.exp_add]
  · rw [if_neg h, if_neg h, zero_mul, EReal.bot_sub]; exact EReal.coe_zero.symm

/-- The row of the softmax, its exponentials shifted by the largest score, against values: the shift cancels. -/
theorem softmax_row {i : Fin n} (hi : p i) {M : EReal} (hM : M = (Finset.univ : Finset (Fin n)).fold max (⊥ : EReal) (masked p r))
    {w : Fin n → EReal} {v : Fin n → ℝ} (hw : ∀ j, w j = v j) :
    ∑ j, Ideal.div (Ideal.exp (masked p r j - M)) (∑ k, Ideal.exp (masked p r k - M)) * w j
      = (((∑ j, weight p r j * v j) / ∑ j, weight p r j : ℝ) : EReal) := by
  obtain ⟨m, hm⟩ := rowMax_real p r hi
  rw [hM, hm]
  have hZ := weight_sum_pos p r hi
  have he := Real.exp_pos (-m)
  simp only [exp_shift, sum_coe]
  rw [← Finset.sum_mul]
  have hne : (∑ j, weight p r j) * Real.exp (-m) ≠ 0 := (mul_pos hZ he).ne'
  simp only [div_real _ hne]
  rw [dot_coe (fun _ => rfl) hw, Finset.sum_div]
  refine congrArg _ (Finset.sum_congr rfl fun j _ => ?_)
  field_simp
end

/-! ## The rows' mean and variance -/

theorem var_eq {n : ℕ} (hn : (n : ℝ) ≠ 0) (T : Fin n → ℝ) :
    (∑ i, T i * T i) / n - (∑ i, T i) / n * ((∑ i, T i) / n)
      = (∑ i, (T i - (∑ i, T i) / n) * (T i - (∑ i, T i) / n)) / n := by
  have h : ∀ m : ℝ, ∑ i, (T i - m) * (T i - m) = ∑ i, T i * T i - 2 * m * ∑ i, T i + n * (m * m) := by
    intro m
    have : ∀ i, (T i - m) * (T i - m) = T i * T i - 2 * m * T i + m * m := fun i => by ring
    simp only [this, Finset.sum_add_distrib, Finset.sum_sub_distrib, ← Finset.mul_sum, Finset.sum_const, Finset.card_univ, Fintype.card_fin, nsmul_eq_mul]
    ring
  rw [h]; field_simp; ring

theorem var_nonneg {n : ℕ} (T : Fin n → ℝ) (m : ℝ) : 0 ≤ (∑ i, (T i - m) * (T i - m)) / n :=
  div_nonneg (Finset.sum_nonneg fun i _ => mul_self_nonneg _) (Nat.cast_nonneg n)

/-- The last step: scaling by the reciprocal root, or dividing by the root. -/
theorem finish (h t m w : ℝ) (hw : 0 < w) (sc b : EReal) :
    (h : EReal) + ((t : EReal) - m) * (Ideal.rsqrt (w : EReal) * sc) + b
      = (h : EReal) + (Ideal.div ((t : EReal) - m) (Ideal.sqrt (w : EReal)) * sc + b) := by
  have hs : Real.sqrt w ≠ 0 := (Real.sqrt_pos.2 hw).ne'
  rw [rsqrt_real hw, sqrt_real hw.le, Ideal.div_coe hs, one_div, mul_assoc, add_assoc]

/-! ## Sums over blocks -/

theorem sum_blocks {M : Type} [AddCommMonoid M] (B : ℕ) (f : ℕ → M) : ∀ N, ∑ k ∈ Finset.range N, ∑ i : Fin B, f (B * k + i.val) = ∑ i ∈ Finset.range (B * N), f i
  | 0 => by simp
  | N + 1 => by
    rw [Finset.sum_range_succ, sum_blocks B f N, Nat.mul_succ, Finset.sum_range_add]
    exact congrArg _ (Finset.sum_range fun x => f (B * N + x)).symm

/-- Blocks from `c` to `c + N` hold every index where `f` is not zero. -/
theorem sum_blocks_cover {M : Type} [AddCommMonoid M] (B c N n : ℕ) (f : ℕ → M) (hN : B * (c + N) ≤ n)
    (h : ∀ i, i < n → ¬(B * c ≤ i ∧ i < B * (c + N)) → f i = 0) :
    ∑ k ∈ Finset.range N, ∑ i : Fin B, f (B * (c + k) + i.val) = ∑ i : Fin n, f i.val := by
  have h1 : ∑ k ∈ Finset.range N, ∑ i : Fin B, f (B * (c + k) + i.val) = ∑ k ∈ Finset.range N, ∑ i : Fin B, (fun x => f (B * c + x)) (B * k + i.val) :=
    Finset.sum_congr rfl fun k _ => Finset.sum_congr rfl fun i _ => by show f _ = f _; congr 1; ring
  rw [h1, sum_blocks B (fun x => f (B * c + x)) N, ← Finset.sum_range f]
  obtain ⟨m, rfl⟩ : ∃ m, n = B * c + B * N + m := ⟨n - (B * c + B * N), by rw [Nat.mul_add] at hN; omega⟩
  rw [Finset.sum_range_add, Finset.sum_range_add]
  rw [Finset.sum_eq_zero (s := Finset.range (B * c)) fun i hi => h i (by have := Finset.mem_range.1 hi; omega) (by have := Finset.mem_range.1 hi; omega),
    Finset.sum_eq_zero (s := Finset.range m) fun i hi => h _ (by have := Finset.mem_range.1 hi; omega) (by rw [Nat.mul_add]; omega),
    zero_add, add_zero]

/-! ## The operation itself -/

/-- A product of matrices. -/
def mm {a b c : ℕ} (X : Fin a → Fin b → ℝ) (W : Fin b → Fin c → ℝ) (i : Fin a) (d : Fin c) : ℝ := ∑ k, X i k * W k d

theorem mm_coe {a b c : ℕ} {X : Fin a → Fin b → ℝ} {W : Fin b → Fin c → ℝ} {f : Fin a → Fin b → EReal} {g : Fin b → Fin c → EReal}
    (i : Fin a) (d : Fin c) (hf : ∀ i k, f i k = X i k) (hg : ∀ k d, g k d = W k d) : ∑ k, f i k * g k d = (mm X W i d : EReal) :=
  dot_coe (fun k => hf i k) fun k => hg k d

section
variable (x : Fin 4096 → Fin 16 → ℝ) (wp : Fin 16 → Fin 32 → ℝ) (wq wk wv wt : Fin 32 → Fin 32 → ℝ) (seg : Fin 4096 → BitVec 32)

/-- The score of row `i` against row `j`, -/
def score (i j : Fin 4096) : ℝ := ∑ d, mm (mm x wp) wq i d * mm (mm x wp) wk j d

/-- the exponentials of row `i`'s scores within its segment, -/
def wgt (i : Fin 4096) : Fin 4096 → ℝ := weight (fun j => seg i = seg j) (score x wp wq wk i)

/-- the attention's rows, -/
def att (i : Fin 4096) (d : Fin 32) : ℝ :=
  (∑ j, wgt x wp wq wk seg i j * mm (mm x wp) wv j d) / ∑ j, wgt x wp wq wk seg i j

/-- the transformed rows, their mean and variance by column, -/
def tr : Fin 4096 → Fin 32 → ℝ := mm (att x wp wq wk wv seg) wt
def mean (d : Fin 32) : ℝ := (∑ i, tr x wp wq wk wv wt seg i d) / 4096
def var (d : Fin 32) : ℝ :=
  (∑ i, (tr x wp wq wk wv wt seg i d - mean x wp wq wk wv wt seg d) * (tr x wp wq wk wv wt seg i d - mean x wp wq wk wv wt seg d)) / 4096

/-- and the result: the projection plus the rows normalised, scaled and shifted. -/
def result (sc b : Fin 32 → EReal) (i : Fin 4096) (d : Fin 32) : EReal :=
  (mm x wp i d : EReal) + (Ideal.div ((tr x wp wq wk wv wt seg i d : EReal) - (mean x wp wq wk wv wt seg d : EReal))
    (Ideal.sqrt ((var x wp wq wk wv wt seg d : EReal) + Ideal.ofBits .f32 0x3727C5AC#32)) * sc d + b d)

theorem wgt_sum_pos (i : Fin 4096) : 0 < ∑ j, wgt x wp wq wk seg i j :=
  weight_sum_pos (i := i) (fun j => seg i = seg j) (score x wp wq wk i) rfl

theorem var_eq_moments (d : Fin 32) :
    (∑ i, tr x wp wq wk wv wt seg i d * tr x wp wq wk wv wt seg i d) / 4096 - mean x wp wq wk wv wt seg d * mean x wp wq wk wv wt seg d
      = var x wp wq wk wv wt seg d := by
  have h := var_eq (n := 4096) (by norm_num) fun i => tr x wp wq wk wv wt seg i d
  simp only [Nat.cast_ofNat] at h
  exact h

theorem var_nonneg' (d : Fin 32) : 0 ≤ var x wp wq wk wv wt seg d := by
  have h := var_nonneg (n := 4096) (fun i => tr x wp wq wk wv wt seg i d) (mean x wp wq wk wv wt seg d)
  simp only [Nat.cast_ofNat] at h
  exact h

end

end Cert.Proof.Maths

end
-- ==== Proof.RefResult.lean ====
/-
  The reference's result, on finite features and weights, as the operation's mathematics.
-/
module

public import proofs.«01_k».proof.Proof.Ref
public import proofs.«01_k».proof.Proof.Maths

@[expose] public section
set_option maxRecDepth 16384

noncomputable section

namespace Cert.Proof.Ref

open Idealize.ShloMosaic Cert.ReferenceIdeal Cert.Proof.Maths

variable {a0 : FVec Ideal S4096x16 .f32} {a1 : IVec S4096 32} {a2 : FVec Ideal S16x32 .f32} {a3 a4 a5 a6 : FVec Ideal S32x32 .f32}
  {x : Fin 4096 → Fin 16 → ℝ} {wp : Fin 16 → Fin 32 → ℝ} {wq wk wv wt : Fin 32 → Fin 32 → ℝ}

theorem proj_real {h : FVec Ideal S4096x32 .f32} {w : FVec Ideal S32x32 .f32} {X : Fin 4096 → Fin 32 → ℝ} {W : Fin 32 → Fin 32 → ℝ}
    (hh : ∀ i k, h (ix2 i k) = (X i k : EReal)) (hw : ∀ k d, w (ix2 k d) = (W k d : EReal)) (i : Fin 4096) (d : Fin 32) :
    proj h w (ix2 i d) = (mm X W i d : EReal) :=
  (proj_at h w i d).trans (mm_coe i d hh hw)

theorem scores_real {q k : FVec Ideal S4096x32 .f32} {Q K : Fin 4096 → Fin 32 → ℝ}
    (hq : ∀ i d, q (ix2 i d) = (Q i d : EReal)) (hk : ∀ i d, k (ix2 i d) = (K i d : EReal)) (i j : Fin 4096) :
    scores a1 q k (ix2 i j) = masked (fun j => a1 (ix1 i) = a1 (ix1 j)) (fun j => ∑ d, Q i d * K j d) j := by
  rw [scores_at, dot_coe (fun d => hq i d) fun d => hk j d]; rfl

theorem attended_real {q k v : FVec Ideal S4096x32 .f32} {Q K V : Fin 4096 → Fin 32 → ℝ}
    (hq : ∀ i d, q (ix2 i d) = (Q i d : EReal)) (hk : ∀ i d, k (ix2 i d) = (K i d : EReal)) (hv : ∀ i d, v (ix2 i d) = (V i d : EReal))
    (i : Fin 4096) (d : Fin 32) :
    attended a1 q k v (ix2 i d) =
      (((∑ j, weight (fun j => a1 (ix1 i) = a1 (ix1 j)) (fun j => ∑ d, Q i d * K j d) j * V j d)
        / ∑ j, weight (fun j => a1 (ix1 i) = a1 (ix1 j)) (fun j => ∑ d, Q i d * K j d) j : ℝ) : EReal) := by
  unfold attended
  rw [mix_at]
  simp only [attn_at, expo_at, rowMax_at, scores_real hq hk]
  exact softmax_row (i := i) (fun j => a1 (ix1 i) = a1 (ix1 j)) (fun j => ∑ d, Q i d * K j d) rfl rfl fun j => hv j d

theorem outOf_at (h0 : ∀ i k, a0 (ix2 i k) = (x i k : EReal)) (h2 : ∀ k d, a2 (ix2 k d) = (wp k d : EReal))
    (h3 : ∀ k d, a3 (ix2 k d) = (wq k d : EReal)) (h4 : ∀ k d, a4 (ix2 k d) = (wk k d : EReal)) (h5 : ∀ k d, a5 (ix2 k d) = (wv k d : EReal))
    (h6 : ∀ k d, a6 (ix2 k d) = (wt k d : EReal)) (a7 a8 : FVec Ideal S32 .f32) (i : Fin 4096) (d : Fin 32) :
    outOf a0 a1 a2 a3 a4 a5 a6 a7 a8 (ix2 i d) =
      result x wp wq wk wv wt (fun j => a1 (ix1 j)) (fun d => a7 (ix1 d)) (fun d => a8 (ix1 d)) i d := by
  have hH : ∀ i d, hMat a0 a2 (ix2 i d) = (mm x wp i d : EReal) := fun i d => (hMat_at a0 a2 i d).trans (mm_coe i d h0 h2)
  have hT : ∀ i d, proj (attended a1 (proj (hMat a0 a2) a3) (proj (hMat a0 a2) a4) (proj (hMat a0 a2) a5)) a6 (ix2 i d)
      = (tr x wp wq wk wv wt (fun j => a1 (ix1 j)) i d : EReal) :=
    proj_real (fun i d => attended_real (proj_real hH h3) (proj_real hH h4) (proj_real hH h5) i d) h6
  unfold outOf
  generalize proj (attended a1 (proj (hMat a0 a2) a3) (proj (hMat a0 a2) a4) (proj (hMat a0 a2) a5)) a6 = t at hT
  have hm : ∀ d, meanOf t (ix1 d) = (mean x wp wq wk wv wt (fun j => a1 (ix1 j)) d : EReal) := fun d => by
    rw [meanOf_at]; simp only [hT]; rw [sum_coe, div_real _ (by norm_num)]; rfl
  have hv : varOf t (ix1 d) = (var x wp wq wk wv wt (fun j => a1 (ix1 j)) d : EReal) := by
    rw [varOf_at]; simp only [hT, hm, ← EReal.coe_sub, ← EReal.coe_mul]; rw [sum_coe, div_real _ (by norm_num)]; rfl
  rw [normal_at, hH, hT, hm, hv]; rfl

end Cert.Proof.Ref

end
-- ==== Proof.Starts.lean ====
/-
  What the search finds when the segments are sorted: before a start every row's segment is lower, from it on none is.
-/
module

public import proofs.«01_k».proof.Proof.Words

@[expose] public section

noncomputable section

namespace Cert.Proof.Words

open Idealize.ShloMosaic Idealize.ShloMosaic.Affine

theorem toInt_small {w : BitVec 32} (h : w.toNat < 2 ^ 31) : w.toInt = (w.toNat : Int) := toInt_of (isNat_of rfl h)

section
variable (seg : ℕ → BitVec 32) (hs : ∀ i, (seg i).toNat < 4)
  (mono : ∀ i j, i ≤ j → j < 4096 → (seg i).toNat ≤ (seg j).toNat) (b : BitVec 32) (hb : b.toNat < 4)
include hs mono hb

/-- The search keeps the rows below its interval lower than `b`, and those above it at least `b`. -/
theorem bsearch_keeps : ∀ k, k ≤ 12 →
    (∀ i, i < (bsearch seg b k).1.toNat → (seg i).toNat < b.toNat) ∧
    (∀ i, (bsearch seg b k).2.toNat ≤ i → i < 4096 → b.toNat ≤ (seg i).toNat)
  | 0, _ => ⟨fun i hi => absurd hi (Nat.not_lt_zero i), fun i hi h => by
      have : (4096#32 : BitVec 32).toNat ≤ i := hi
      have e : (4096#32 : BitVec 32).toNat = 4096 := rfl
      omega⟩
  | k + 1, h => by
    obtain ⟨hl, hr⟩ := bsearch_keeps k (by omega)
    have s := bsearch_span seg b k (by omega)
    have hlt := s.lt (by omega)
    have htop := s.top
    have hm := isNat_toNat s.mid_nat
    have hup := s.up_nat
    have hmid := s.mid_lt (by omega)
    have ei : ∀ w : BitVec 32, w.toNat < 4 → w.toInt = (w.toNat : Int) := fun w hw => toInt_small (by omega)
    show (∀ i, i < (bstep _ _ _ b).1.toNat → _) ∧ (∀ i, (bstep _ _ _ b).2.toNat ≤ i → _)
    by_cases hc : (seg (mid (bsearch seg b k).1 (bsearch seg b k).2).toNat).toInt < b.toInt
    · rw [bstep_up hc]
      rw [ei _ (hs _), ei _ hb] at hc
      refine ⟨fun i hi => ?_, hr⟩
      dsimp only at hi
      have hile : i ≤ (mid (bsearch seg b k).1 (bsearch seg b k).2).toNat := by omega
      have := mono i _ hile hmid
      omega
    · rw [bstep_down hc]
      rw [ei _ (hs _), ei _ hb] at hc
      refine ⟨hl, fun i hi h4 => ?_⟩
      dsimp only at hi
      have := mono _ i hi h4
      omega

theorem start_low {i : ℕ} (h : i < (start seg b).toNat) : (seg i).toNat < b.toNat :=
  (bsearch_keeps seg hs mono b hb 12 le_rfl).1 i h

theorem start_high {i : ℕ} (h : (start seg b).toNat ≤ i) (h1 : 1 ≤ i) (h4 : i < 4096) : b.toNat ≤ (seg i).toNat := by
  refine (bsearch_keeps seg hs mono b hb 12 le_rfl).2 i ?_ h4
  have s := bsearch_span seg b 12 le_rfl
  have hle := s.le
  have h' : (bsearch seg b 12).1.toNat ≤ i := h
  rcases s.len with ⟨ha, hb⟩ | ha <;> simp only [Nat.sub_self, pow_zero] at * <;> omega
end

end Cert.Proof.Words

end
-- ==== Proof.Finite.lean ====
/-
  What the precondition of the value claim says: the segments are in range and sorted, the features and weights finite.
-/
module

public import proofs.«01_k».proof.Proof.Pre
public import proofs.«01_k».proof.Proof.Consts
public import proofs.«01_k».proof.Proof.Starts

@[expose] public section

set_option maxRecDepth 16384

noncomputable section

namespace Cert.Proof.Pre

open Idealize.ShloMosaic

/-- A number whose absolute value is below +∞ is real. -/
theorem real_of {a : EReal} (h : Ideal.cmp .olt (max a (-a)) (Ideal.ofBits .f32 0x7F800000#32) = 1#1) : a = ((a.toReal : ℝ) : EReal) := by
  have ht : Ideal.ofBits .f32 0x7F800000#32 = (⊤ : EReal) := by simp [Ideal.ofBits, Ideal.ieee]
  have hl : max a (-a) < (⊤ : EReal) := by
    rw [ht] at h
    exact of_decide_eq_true ((StableHlo.Predicate.ofBool_eq_one_iff _).1 h)
  refine (EReal.coe_toReal (fun e => ?_) fun e => ?_).symm
  · subst e; exact absurd hl (by simp)
  · subst e; exact absurd hl (by simp)

open Cert.Pre_sorted_and_finite

section
variable [Facts] {a0 : FVec Ideal S4096x16 .f32} {a1 : IVec S4096 32} {a2 : FVec Ideal S16x32 .f32} {a3 a4 a5 a6 : FVec Ideal S32x32 .f32}
    {a7 a8 : FVec Ideal S32 .f32}

theorem sorted_range (h : (fn (F := Ideal) a0 a1 a2 a3 a4 a5 a6 a7 a8).1 = fun _ => 1#1) (i : S4096.Idx) : (a1 i).toNat < 4 := by
  have hi : (BitVec.ofBool ((0#32).sle (a1 i)) &&& BitVec.ofBool ((a1 i).slt 4#32) : BitVec 1) = 1#1 := congrFun h i
  obtain ⟨h0, h4⟩ := and_bits hi
  exact nat_of_range _ ((StableHlo.Predicate.ofBool_eq_one_iff _).1 h0) ((StableHlo.Predicate.ofBool_eq_one_iff _).1 h4)

theorem sorted_step (hr : ∀ i, (a1 i).toNat < 4) (h : (fn (F := Ideal) a0 a1 a2 a3 a4 a5 a6 a7 a8).2.1 = fun _ => 1#1) (n : ℕ) (hn : n + 1 < 4096) :
    (a1 (ix1 ⟨n, by omega⟩)).toNat ≤ (a1 (ix1 ⟨n + 1, hn⟩)).toNat := by
  have hi := congrFun h (ix1 (⟨n, by omega⟩ : Fin 4095))
  have h' : BitVec.ofBool ((a1 (ix1 ⟨n, by omega⟩)).sle (a1 (ix1 ⟨n + 1, hn⟩))) = 1#1 := by
    refine Eq.trans (congrArg₂ (fun u v : BitVec 32 => BitVec.ofBool (u.sle v)) (congrArg a1 ?_) (congrArg a1 ?_)) hi
    · funext a; fin_cases a; refine Fin.ext ?_; show n = 0 + n; omega
    · funext a; fin_cases a; refine Fin.ext ?_; show n + 1 = 1 + n; omega
  have hle := (StableHlo.Predicate.ofBool_eq_one_iff _).1 h'
  simp only [BitVec.sle, decide_eq_true_eq] at hle
  rw [Words.toInt_small (by have := hr (ix1 ⟨n, by omega⟩); omega), Words.toInt_small (by have := hr (ix1 ⟨n + 1, hn⟩); omega)] at hle
  omega

theorem sorted_mono (hr : ∀ i, (a1 i).toNat < 4) (h : (fn (F := Ideal) a0 a1 a2 a3 a4 a5 a6 a7 a8).2.1 = fun _ => 1#1) (i j : Fin 4096) (hij : i ≤ j) :
    (a1 (ix1 i)).toNat ≤ (a1 (ix1 j)).toNat := by
  obtain ⟨i, hi⟩ := i
  obtain ⟨j, hj⟩ := j
  have hij : i ≤ j := hij
  induction j, hij using Nat.le_induction with
  | base => exact le_rfl
  | succ j hle ih => exact (ih (by omega) hle).trans (sorted_step hr h j hj)

theorem finite0 (h : (fn (F := Ideal) a0 a1 a2 a3 a4 a5 a6 a7 a8).2.2.1 = fun _ => 1#1) (i : S4096x16.Idx) : a0 i = (((a0 i : EReal).toReal : ℝ) : EReal) :=
  real_of (congrFun h i)
theorem finite2 (h : (fn (F := Ideal) a0 a1 a2 a3 a4 a5 a6 a7 a8).2.2.2.1 = fun _ => 1#1) (i : S16x32.Idx) : a2 i = (((a2 i : EReal).toReal : ℝ) : EReal) :=
  real_of (congrFun h i)
theorem finite3 (h : (fn (F := Ideal) a0 a1 a2 a3 a4 a5 a6 a7 a8).2.2.2.2.1 = fun _ => 1#1) (i : S32x32.Idx) : a3 i = (((a3 i : EReal).toReal : ℝ) : EReal) :=
  real_of (congrFun h i)
theorem finite4 (h : (fn (F := Ideal) a0 a1 a2 a3 a4 a5 a6 a7 a8).2.2.2.2.2.1 = fun _ => 1#1) (i : S32x32.Idx) : a4 i = (((a4 i : EReal).toReal : ℝ) : EReal) :=
  real_of (congrFun h i)
theorem finite5 (h : (fn (F := Ideal) a0 a1 a2 a3 a4 a5 a6 a7 a8).2.2.2.2.2.2.1 = fun _ => 1#1) (i : S32x32.Idx) : a5 i = (((a5 i : EReal).toReal : ℝ) : EReal) :=
  real_of (congrFun h i)
theorem finite6 (h : (fn (F := Ideal) a0 a1 a2 a3 a4 a5 a6 a7 a8).2.2.2.2.2.2.2 = fun _ => 1#1) (i : S32x32.Idx) : a6 i = (((a6 i : EReal).toReal : ℝ) : EReal) :=
  real_of (congrFun h i)
end

end Cert.Proof.Pre

end
-- ==== Proof.KI.Tile.lean ====
/-
  The kernel's loops over blocks of 1024 keys, as folds over the blocks visited.
-/
module

public import proofs.«01_k».proof.Proof.KI.Run
public import Idealize.ShloMosaic.Lib.Pointwise

@[expose] public section

set_option maxRecDepth 16384
set_option warn.classDefReducibility false

noncomputable section

namespace Cert.KernelIdeal.Run

open Cert.KernelIdeal Cert.KernelIdeal.Gen Cert.Proof.Words Cert.Proof
open Idealize.ShloMosaic Idealize.ShloMosaic.TcCoe Idealize.ShloMosaic.Tactic
open Idealize.SL Idealize.SL.Sem

variable {F : FTy → Type} [FloatOps F] [Named F]

/-- A state advanced trip by trip. -/
def iter {α : Type} (step : ℕ → α → α) (init : α) : ℕ → α
  | 0 => init
  | k + 1 => step k (iter step init k)

theorem iter_of {α : Type} (st : ℕ → α) (init : α) (step : ℕ → α → α) (n : ℕ) (h0 : st 0 = init)
    (hs : ∀ k : Fin n, st (k.val + 1) = step k.val (st k.val)) : ∀ j, j ≤ n → st j = iter step init j
  | 0, _ => h0
  | j + 1, hj => by rw [hs ⟨j, hj⟩]; exact congrArg (step j) (iter_of st init step n h0 hs j (by omega))

/-- Block `c` of 1024 rows of the keys, of the values, of the segment ids. -/
def kBlk (K : Vec F S4096x32 .bf16) (c : ℕ) : Vec F S1024x32 .bf16 := fun x => K (ix2 (Fin.ofNat 4096 (1024 * c + (x 0).val)) (x 1))
def vBlk (V : Vec F S4096x33 .bf16) (c : ℕ) : Vec F S1024x33 .bf16 := fun x => V (ix2 (Fin.ofNat 4096 (1024 * c + (x 0).val)) (x 1))
def sBlk (S : Vec F S1x4096 .i32) (c : ℕ) : Vec F S1x1024 .i32 := fun x => S (ix2 (0 : Fin 1) (Fin.ofNat 4096 (1024 * c + (x 1).val)))

/-- A tile's weighted sums over the blocks between two starts. -/
def tileAcc (q : FVec F S512x32 .bf16) (sg : IVec S512x1 32) (K : Vec F S4096x32 .bf16) (V : Vec F S4096x33 .bf16) (S : Vec F S1x4096 .i32)
    (v w : BitVec 32) (init : FVec F S512x33 .f32) : FVec F S512x33 .f32 :=
  iter (fun k acc => k0_pay12 q sg acc (kBlk K (v.toNat / 1024 + k)) (vBlk V (v.toNat / 1024 + k)) (sBlk S (v.toNat / 1024 + k))) init
    ((w.toNat + 1023) / 1024 - v.toNat / 1024)

variable
  (arg0 : Memref sig .tc .smem S1x4096 .i32) (harg0 : arg0.IsWhole)
  (arg1 : Memref sig .tc .vmem S4096x16 .f32) (harg1 : arg1.IsWhole)
  (arg2 : Memref sig .tc .vmem S4096x1 .i32) (harg2 : arg2.IsWhole)
  (arg3 : Memref sig .tc .vmem S1x4096 .i32) (harg3 : arg3.IsWhole)
  (arg4 : Memref sig .tc .vmem S16x32 .f32) (harg4 : arg4.IsWhole)
  (arg5 : Memref sig .tc .vmem S32x32 .f32) (harg5 : arg5.IsWhole)
  (arg6 : Memref sig .tc .vmem S32x32 .f32) (harg6 : arg6.IsWhole)
  (arg7 : Memref sig .tc .vmem S32x32 .f32) (harg7 : arg7.IsWhole)
  (arg8 : Memref sig .tc .vmem S32x32 .f32) (harg8 : arg8.IsWhole)
  (arg9 : Memref sig .tc .vmem S1x32 .f32) (harg9 : arg9.IsWhole)
  (arg10 : Memref sig .tc .vmem S1x32 .f32) (harg10 : arg10.IsWhole)
  (arg11 : Memref sig .tc .vmem S4096x32 .f32) (harg11 : arg11.IsWhole)
  (arg12 : Memref sig .tc .vmem S4096x32 .f32) (harg12 : arg12.IsWhole)
  (arg13 : Memref sig .tc .vmem S4096x32 .bf16) (harg13 : arg13.IsWhole)
  (arg14 : Memref sig .tc .vmem S4096x33 .bf16) (harg14 : arg14.IsWhole)
  (arg15 : Memref sig .tc .vmem S4096x32 .f32) (harg15 : arg15.IsWhole)
  (arg16 : Memref sig .tc .smem S1x5 .i32) (harg16 : arg16.IsWhole)

theorem row_ofNat {n : ℕ} {a b : ℕ} (h : a = b) (hb : a < n) [NeZero n] : (⟨a, hb⟩ : Fin n) = Fin.ofNat n b := by
  subst h; exact Fin.ext (Nat.mod_eq_of_lt hb).symm

theorem k_read {off : Fin 2 → ℕ} {r c : ℕ} (ho : off = ![r, 0]) (hr : r = 1024 * c) (hc : 1024 * c + 1024 ≤ 4096) (inb : ∀ a, off a + S1024x32.size a ≤ S4096x32.size a) (K : Vec F S4096x32 .bf16) :
    View.readAt (Elt F) arg13.view (Rect.unit (s := S4096x32) off S1024x32.size inb).toLoadRect (harg13.unread K) = kBlk K c := by
  subst ho hr; funext x; rw [harg13.readAt_unread]
  have h0 : (x 0).val < 1024 := (x 0).isLt
  refine congrArg K (funext fun a => ?_); fin_cases a
  · refine Fin.ext ?_; show 1024 * c + 1 * (x 0).val = (1024 * c + (x 0).val) % 4096; omega
  · refine Fin.ext ?_; show 0 + 1 * (x 1).val = (x 1).val; omega

theorem v_read {off : Fin 2 → ℕ} {r c : ℕ} (ho : off = ![r, 0]) (hr : r = 1024 * c) (hc : 1024 * c + 1024 ≤ 4096) (inb : ∀ a, off a + S1024x33.size a ≤ S4096x33.size a) (V : Vec F S4096x33 .bf16) :
    View.readAt (Elt F) arg14.view (Rect.unit (s := S4096x33) off S1024x33.size inb).toLoadRect (harg14.unread V) = vBlk V c := by
  subst ho hr; funext x; rw [harg14.readAt_unread]
  have h0 : (x 0).val < 1024 := (x 0).isLt
  refine congrArg V (funext fun a => ?_); fin_cases a
  · refine Fin.ext ?_; show 1024 * c + 1 * (x 0).val = (1024 * c + (x 0).val) % 4096; omega
  · refine Fin.ext ?_; show 0 + 1 * (x 1).val = (x 1).val; omega

theorem s_read {off : Fin 2 → ℕ} {r c : ℕ} (ho : off = ![0, r]) (hr : r = 1024 * c) (hc : 1024 * c + 1024 ≤ 4096) (inb : ∀ a, off a + S1x1024.size a ≤ S1x4096.size a) (S : Vec F S1x4096 .i32) :
    View.readAt (Elt F) arg3.view (Rect.unit (s := S1x4096) off S1x1024.size inb).toLoadRect (harg3.unread S) = sBlk S c := by
  subst ho hr; funext x; rw [harg3.readAt_unread]
  have h0 : (x 1).val < 1024 := (x 1).isLt
  have h1 : (x 0).val < 1 := (x 0).isLt
  refine congrArg S (funext fun a => ?_); fin_cases a
  · refine Fin.ext ?_; show 0 + 1 * (x 0).val = 0; omega
  · refine Fin.ext ?_; show 1024 * c + 1 * (x 1).val = (1024 * c + (x 1).val) % 4096; omega

/-! Every tile's loop is the fold; the remainder loop beside it makes no trip. -/

theorem st4_eq (c : Dev nD) (v33 : Vec F S32x32 .f32) (v34 : Vec F S32x32 .f32) (v35 : FVec F S1x32 .f32) (v36 : FVec F S1x32 .f32) (v39 : FVec F S512x32 .bf16) (v41 : IVec S512x1 32) (v42 : FVec F S512x33 .f32) (v46 : Elt F .i32) (v63 : BitVec 32) (v66 : Elt F .i32) (k0_hw6 : k0_chk6 v46 v66) (v85 : BitVec 32) (hv : (show BitVec 32 from v46).toNat ≤ 4096) (hw : (show BitVec 32 from v66).toNat ≤ 4096)
    (S : Vec F S1x4096 .i32) (K : Vec F S4096x32 .bf16) (V : Vec F S4096x33 .bf16) (init : FVec F S512x33 .f32) :
    st_k0_t4 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v33 v34 v35 v36 v39 v41 v42 v46 v63 v66 k0_hw6 v85 (harg3.unread S) (harg13.unread K) (harg14.unread V) init (Scf.trips (k0_t4_loop v46 v66).lb (k0_t4_loop v46 v66).ub (k0_t4_loop v46 v66).st)
      = tileAcc v39 v41 K V S v46 v66 init := by
  have hn : (k0_t4_loop v46 v66).trips = _ := blocks_trips hv hw
  unfold tileAcc
  rw [← hn]
  refine iter_of _ _ _ (k0_t4_loop v46 v66).trips rfl (fun k => ?_) _ le_rfl
  have hr := blocks_row hv hw k
  have hc := blocks_row_le hv hw k
  rw [st_k0_t4_succ]
  unfold tripR_k0_t4 trip_k0_t4
  refine congr (congr (congrArg (k0_pay12 v39 v41 _) ?_) ?_) ?_
  · exact k_read arg13 harg13 rfl hr hc _ K
  · exact v_read arg14 harg14 rfl hr hc _ V
  · exact s_read arg3 harg3 rfl hr hc _ S

theorem st5_eq (c : Dev nD) (v33 : Vec F S32x32 .f32) (v34 : Vec F S32x32 .f32) (v35 : FVec F S1x32 .f32) (v36 : FVec F S1x32 .f32) (v39 : FVec F S512x32 .bf16) (v41 : IVec S512x1 32) (v42 : FVec F S512x33 .f32) (v46 : Elt F .i32) (v63 : BitVec 32) (v66 : Elt F .i32) (k0_hw6 : k0_chk6 v46 v66) (v85 : BitVec 32) (X3 : BufTy.Contents (Elt F) arg3.view.ty) (X13 : BufTy.Contents (Elt F) arg13.view.ty) (X14 : BufTy.Contents (Elt F) arg14.view.ty) (init : FVec F S512x33 .f32) :
    st_k0_t5 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v33 v34 v35 v36 v39 v41 v42 v46 v63 v66 k0_hw6 v85 X3 X13 X14 init (Scf.trips (k0_t5_loop v46 v66).lb (k0_t5_loop v46 v66).ub (k0_t5_loop v46 v66).st) = init := by
  have hn : Scf.trips (k0_t5_loop v46 v66).lb (k0_t5_loop v46 v66).ub (k0_t5_loop v46 v66).st = 0 := Nat.eq_zero_of_not_pos fun h => Scf.rem_no_trip _ _ ⟨0, h⟩
  rw [hn]; rfl

theorem st6_eq (c : Dev nD) (v110 : FVec F S512x32 .bf16) (v112 : IVec S512x1 32) (v113 : FVec F S512x33 .f32) (v115 : Elt F .i32) (k0_hw8 : k0_chk8 v115) (v117 : Elt F .i32) (c1024_i32_86 : BitVec 32) (v118 : BitVec 32) (v120 : BitVec 32) (c0_i32_88 : BitVec 32) (v137 : Elt F .i32) (k0_hw9 : k0_chk9 v117 v137) (hv : (show BitVec 32 from v117).toNat ≤ 4096) (hw : (show BitVec 32 from v137).toNat ≤ 4096)
    (S : Vec F S1x4096 .i32) (K : Vec F S4096x32 .bf16) (V : Vec F S4096x33 .bf16) (init : FVec F S512x33 .f32) :
    st_k0_t6 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v110 v112 v113 v115 k0_hw8 v117 c1024_i32_86 v118 v120 c0_i32_88 v137 k0_hw9 (harg3.unread S) (harg13.unread K) (harg14.unread V) init (Scf.trips (k0_t6_loop v117 v137).lb (k0_t6_loop v117 v137).ub (k0_t6_loop v117 v137).st)
      = tileAcc v110 v112 K V S v117 v137 init := by
  have hn : (k0_t6_loop v117 v137).trips = _ := blocks_trips hv hw
  unfold tileAcc
  rw [← hn]
  refine iter_of _ _ _ (k0_t6_loop v117 v137).trips rfl (fun k => ?_) _ le_rfl
  have hr := blocks_row hv hw k
  have hc := blocks_row_le hv hw k
  rw [st_k0_t6_succ]
  unfold tripR_k0_t6 trip_k0_t6
  refine congr (congr (congrArg (k0_pay12 v110 v112 _) ?_) ?_) ?_
  · exact k_read arg13 harg13 rfl hr hc _ K
  · exact v_read arg14 harg14 rfl hr hc _ V
  · exact s_read arg3 harg3 rfl hr hc _ S

theorem st7_eq (c : Dev nD) (v33 : Vec F S32x32 .f32) (v34 : Vec F S32x32 .f32) (v103 : FVec F S1x32 .f32) (v107 : FVec F S1x32 .f32) (v110 : FVec F S512x32 .bf16) (v112 : IVec S512x1 32) (v117 : Elt F .i32) (v137 : Elt F .i32) (k0_hw9 : k0_chk9 v117 v137) (v161 : BitVec 32) (v162 : FVec F S512x33 .f32) (X3 : BufTy.Contents (Elt F) arg3.view.ty) (X13 : BufTy.Contents (Elt F) arg13.view.ty) (X14 : BufTy.Contents (Elt F) arg14.view.ty) (init : FVec F S512x33 .f32) :
    st_k0_t7 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v33 v34 v103 v107 v110 v112 v117 v137 k0_hw9 v161 v162 X3 X13 X14 init (Scf.trips (k0_t7_loop v117 v137).lb (k0_t7_loop v117 v137).ub (k0_t7_loop v117 v137).st) = init := by
  have hn : Scf.trips (k0_t7_loop v117 v137).lb (k0_t7_loop v117 v137).ub (k0_t7_loop v117 v137).st = 0 := Nat.eq_zero_of_not_pos fun h => Scf.rem_no_trip _ _ ⟨0, h⟩
  rw [hn]; rfl

theorem st8_eq (c : Dev nD) (v34 : Vec F S32x32 .f32) (v181 : FVec F S512x32 .bf16) (v183 : IVec S512x1 32) (v184 : FVec F S512x33 .f32) (v186 : Elt F .i32) (k0_hw11 : k0_chk11 v186) (v188 : Elt F .i32) (c1024_i32_121 : BitVec 32) (v189 : BitVec 32) (v194 : BitVec 32) (v196 : BitVec 32) (v197 : BitVec 1) (v208 : Elt F .i32) (k0_hw12 : k0_chk12 v188 v208) (hv : (show BitVec 32 from v188).toNat ≤ 4096) (hw : (show BitVec 32 from v208).toNat ≤ 4096)
    (S : Vec F S1x4096 .i32) (K : Vec F S4096x32 .bf16) (V : Vec F S4096x33 .bf16) (init : FVec F S512x33 .f32) :
    st_k0_t8 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v34 v181 v183 v184 v186 k0_hw11 v188 c1024_i32_121 v189 v194 v196 v197 v208 k0_hw12 (harg3.unread S) (harg13.unread K) (harg14.unread V) init (Scf.trips (k0_t8_loop v188 v208).lb (k0_t8_loop v188 v208).ub (k0_t8_loop v188 v208).st)
      = tileAcc v181 v183 K V S v188 v208 init := by
  have hn : (k0_t8_loop v188 v208).trips = _ := blocks_trips hv hw
  unfold tileAcc
  rw [← hn]
  refine iter_of _ _ _ (k0_t8_loop v188 v208).trips rfl (fun k => ?_) _ le_rfl
  have hr := blocks_row hv hw k
  have hc := blocks_row_le hv hw k
  rw [st_k0_t8_succ]
  unfold tripR_k0_t8 trip_k0_t8
  refine congr (congr (congrArg (k0_pay12 v181 v183 _) ?_) ?_) ?_
  · exact k_read arg13 harg13 rfl hr hc _ K
  · exact v_read arg14 harg14 rfl hr hc _ V
  · exact s_read arg3 harg3 rfl hr hc _ S

theorem st9_eq (c : Dev nD) (v34 : Vec F S32x32 .f32) (v181 : FVec F S512x32 .bf16) (v183 : IVec S512x1 32) (v184 : FVec F S512x33 .f32) (v186 : Elt F .i32) (k0_hw11 : k0_chk11 v186) (v188 : Elt F .i32) (c1024_i32_121 : BitVec 32) (v189 : BitVec 32) (v194 : BitVec 32) (v196 : BitVec 32) (v197 : BitVec 1) (v208 : Elt F .i32) (k0_hw12 : k0_chk12 v188 v208) (X3 : BufTy.Contents (Elt F) arg3.view.ty) (X13 : BufTy.Contents (Elt F) arg13.view.ty) (X14 : BufTy.Contents (Elt F) arg14.view.ty) (init : FVec F S512x33 .f32) :
    st_k0_t9 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v34 v181 v183 v184 v186 k0_hw11 v188 c1024_i32_121 v189 v194 v196 v197 v208 k0_hw12 X3 X13 X14 init (Scf.trips (k0_t9_loop v188 v208).lb (k0_t9_loop v188 v208).ub (k0_t9_loop v188 v208).st) = init := by
  have hn : Scf.trips (k0_t9_loop v188 v208).lb (k0_t9_loop v188 v208).ub (k0_t9_loop v188 v208).st = 0 := Nat.eq_zero_of_not_pos fun h => Scf.rem_no_trip _ _ ⟨0, h⟩
  rw [hn]; rfl

theorem st10_eq (c : Dev nD) (v34 : Vec F S32x32 .f32) (v252 : FVec F S512x32 .bf16) (v254 : IVec S512x1 32) (v255 : FVec F S512x33 .f32) (v257 : Elt F .i32) (k0_hw14 : k0_chk14 v257) (v259 : Elt F .i32) (v260 : BitVec 32) (v274 : BitVec 1) (c1_i32_162 : BitVec 32) (v279 : Elt F .i32) (k0_hw15 : k0_chk15 v259 v279) (hv : (show BitVec 32 from v259).toNat ≤ 4096) (hw : (show BitVec 32 from v279).toNat ≤ 4096)
    (S : Vec F S1x4096 .i32) (K : Vec F S4096x32 .bf16) (V : Vec F S4096x33 .bf16) (init : FVec F S512x33 .f32) :
    st_k0_t10 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v34 v252 v254 v255 v257 k0_hw14 v259 v260 v274 c1_i32_162 v279 k0_hw15 (harg3.unread S) (harg13.unread K) (harg14.unread V) init (Scf.trips (k0_t10_loop v259 v279).lb (k0_t10_loop v259 v279).ub (k0_t10_loop v259 v279).st)
      = tileAcc v252 v254 K V S v259 v279 init := by
  have hn : (k0_t10_loop v259 v279).trips = _ := blocks_trips hv hw
  unfold tileAcc
  rw [← hn]
  refine iter_of _ _ _ (k0_t10_loop v259 v279).trips rfl (fun k => ?_) _ le_rfl
  have hr := blocks_row hv hw k
  have hc := blocks_row_le hv hw k
  rw [st_k0_t10_succ]
  unfold tripR_k0_t10 trip_k0_t10
  refine congr (congr (congrArg (k0_pay12 v252 v254 _) ?_) ?_) ?_
  · exact k_read arg13 harg13 rfl hr hc _ K
  · exact v_read arg14 harg14 rfl hr hc _ V
  · exact s_read arg3 harg3 rfl hr hc _ S

theorem st11_eq (c : Dev nD) (v34 : Vec F S32x32 .f32) (v252 : FVec F S512x32 .bf16) (v254 : IVec S512x1 32) (v255 : FVec F S512x33 .f32) (v257 : Elt F .i32) (k0_hw14 : k0_chk14 v257) (v259 : Elt F .i32) (v260 : BitVec 32) (v274 : BitVec 1) (c1_i32_162 : BitVec 32) (v279 : Elt F .i32) (k0_hw15 : k0_chk15 v259 v279) (X3 : BufTy.Contents (Elt F) arg3.view.ty) (X13 : BufTy.Contents (Elt F) arg13.view.ty) (X14 : BufTy.Contents (Elt F) arg14.view.ty) (init : FVec F S512x33 .f32) :
    st_k0_t11 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v34 v252 v254 v255 v257 k0_hw14 v259 v260 v274 c1_i32_162 v279 k0_hw15 X3 X13 X14 init (Scf.trips (k0_t11_loop v259 v279).lb (k0_t11_loop v259 v279).ub (k0_t11_loop v259 v279).st) = init := by
  have hn : Scf.trips (k0_t11_loop v259 v279).lb (k0_t11_loop v259 v279).ub (k0_t11_loop v259 v279).st = 0 := Nat.eq_zero_of_not_pos fun h => Scf.rem_no_trip _ _ ⟨0, h⟩
  rw [hn]; rfl

theorem st12_eq (c : Dev nD) (v34 : Vec F S32x32 .f32) (v316 : FVec F S1x32 .f32) (v320 : FVec F S1x32 .f32) (v323 : FVec F S512x32 .bf16) (v325 : IVec S512x1 32) (v326 : FVec F S512x33 .f32) (v330 : Elt F .i32) (v347 : BitVec 32) (v350 : Elt F .i32) (k0_hw18 : k0_chk18 v330 v350) (hv : (show BitVec 32 from v330).toNat ≤ 4096) (hw : (show BitVec 32 from v350).toNat ≤ 4096)
    (S : Vec F S1x4096 .i32) (K : Vec F S4096x32 .bf16) (V : Vec F S4096x33 .bf16) (init : FVec F S512x33 .f32) :
    st_k0_t12 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v34 v316 v320 v323 v325 v326 v330 v347 v350 k0_hw18 (harg3.unread S) (harg13.unread K) (harg14.unread V) init (Scf.trips (k0_t12_loop v330 v350).lb (k0_t12_loop v330 v350).ub (k0_t12_loop v330 v350).st)
      = tileAcc v323 v325 K V S v330 v350 init := by
  have hn : (k0_t12_loop v330 v350).trips = _ := blocks_trips hv hw
  unfold tileAcc
  rw [← hn]
  refine iter_of _ _ _ (k0_t12_loop v330 v350).trips rfl (fun k => ?_) _ le_rfl
  have hr := blocks_row hv hw k
  have hc := blocks_row_le hv hw k
  rw [st_k0_t12_succ]
  unfold tripR_k0_t12 trip_k0_t12
  refine congr (congr (congrArg (k0_pay12 v323 v325 _) ?_) ?_) ?_
  · exact k_read arg13 harg13 rfl hr hc _ K
  · exact v_read arg14 harg14 rfl hr hc _ V
  · exact s_read arg3 harg3 rfl hr hc _ S

theorem st13_eq (c : Dev nD) (v34 : Vec F S32x32 .f32) (v316 : FVec F S1x32 .f32) (v320 : FVec F S1x32 .f32) (v323 : FVec F S512x32 .bf16) (v325 : IVec S512x1 32) (v326 : FVec F S512x33 .f32) (v330 : Elt F .i32) (v347 : BitVec 32) (v350 : Elt F .i32) (k0_hw18 : k0_chk18 v330 v350) (X3 : BufTy.Contents (Elt F) arg3.view.ty) (X13 : BufTy.Contents (Elt F) arg13.view.ty) (X14 : BufTy.Contents (Elt F) arg14.view.ty) (init : FVec F S512x33 .f32) :
    st_k0_t13 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v34 v316 v320 v323 v325 v326 v330 v347 v350 k0_hw18 X3 X13 X14 init (Scf.trips (k0_t13_loop v330 v350).lb (k0_t13_loop v330 v350).ub (k0_t13_loop v330 v350).st) = init := by
  have hn : Scf.trips (k0_t13_loop v330 v350).lb (k0_t13_loop v330 v350).ub (k0_t13_loop v330 v350).st = 0 := Nat.eq_zero_of_not_pos fun h => Scf.rem_no_trip _ _ ⟨0, h⟩
  rw [hn]; rfl

theorem st14_eq (c : Dev nD) (v33 : Vec F S32x32 .f32) (v34 : Vec F S32x32 .f32) (v387 : FVec F S1x32 .f32) (v391 : FVec F S1x32 .f32) (v394 : FVec F S512x32 .bf16) (v396 : IVec S512x1 32) (v397 : FVec F S512x33 .f32) (v401 : Elt F .i32) (v418 : BitVec 32) (v421 : Elt F .i32) (k0_hw21 : k0_chk21 v401 v421) (v423 : BitVec 32) (c1024_i32_237 : BitVec 32) (v424 : BitVec 32) (v425 : BitVec 1) (hv : (show BitVec 32 from v401).toNat ≤ 4096) (hw : (show BitVec 32 from v421).toNat ≤ 4096)
    (S : Vec F S1x4096 .i32) (K : Vec F S4096x32 .bf16) (V : Vec F S4096x33 .bf16) (init : FVec F S512x33 .f32) :
    st_k0_t14 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v33 v34 v387 v391 v394 v396 v397 v401 v418 v421 k0_hw21 v423 c1024_i32_237 v424 v425 (harg3.unread S) (harg13.unread K) (harg14.unread V) init (Scf.trips (k0_t14_loop v401 v421).lb (k0_t14_loop v401 v421).ub (k0_t14_loop v401 v421).st)
      = tileAcc v394 v396 K V S v401 v421 init := by
  have hn : (k0_t14_loop v401 v421).trips = _ := blocks_trips hv hw
  unfold tileAcc
  rw [← hn]
  refine iter_of _ _ _ (k0_t14_loop v401 v421).trips rfl (fun k => ?_) _ le_rfl
  have hr := blocks_row hv hw k
  have hc := blocks_row_le hv hw k
  rw [st_k0_t14_succ]
  unfold tripR_k0_t14 trip_k0_t14
  refine congr (congr (congrArg (k0_pay12 v394 v396 _) ?_) ?_) ?_
  · exact k_read arg13 harg13 rfl hr hc _ K
  · exact v_read arg14 harg14 rfl hr hc _ V
  · exact s_read arg3 harg3 rfl hr hc _ S

theorem st15_eq (c : Dev nD) (v33 : Vec F S32x32 .f32) (v34 : Vec F S32x32 .f32) (v387 : FVec F S1x32 .f32) (v391 : FVec F S1x32 .f32) (v394 : FVec F S512x32 .bf16) (v396 : IVec S512x1 32) (v397 : FVec F S512x33 .f32) (v401 : Elt F .i32) (v418 : BitVec 32) (v421 : Elt F .i32) (k0_hw21 : k0_chk21 v401 v421) (v423 : BitVec 32) (c1024_i32_237 : BitVec 32) (v424 : BitVec 32) (v425 : BitVec 1) (X3 : BufTy.Contents (Elt F) arg3.view.ty) (X13 : BufTy.Contents (Elt F) arg13.view.ty) (X14 : BufTy.Contents (Elt F) arg14.view.ty) (init : FVec F S512x33 .f32) :
    st_k0_t15 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v33 v34 v387 v391 v394 v396 v397 v401 v418 v421 k0_hw21 v423 c1024_i32_237 v424 v425 X3 X13 X14 init (Scf.trips (k0_t15_loop v401 v421).lb (k0_t15_loop v401 v421).ub (k0_t15_loop v401 v421).st) = init := by
  have hn : Scf.trips (k0_t15_loop v401 v421).lb (k0_t15_loop v401 v421).ub (k0_t15_loop v401 v421).st = 0 := Nat.eq_zero_of_not_pos fun h => Scf.rem_no_trip _ _ ⟨0, h⟩
  rw [hn]; rfl

theorem st16_eq (c : Dev nD) (v33 : Vec F S32x32 .f32) (v34 : Vec F S32x32 .f32) (v458 : FVec F S1x32 .f32) (v462 : FVec F S1x32 .f32) (v465 : FVec F S512x32 .bf16) (v467 : IVec S512x1 32) (v468 : FVec F S512x33 .f32) (v472 : Elt F .i32) (v489 : BitVec 32) (v492 : Elt F .i32) (k0_hw24 : k0_chk24 v472 v492) (v494 : BitVec 32) (c1024_i32_272 : BitVec 32) (v495 : BitVec 32) (v500 : BitVec 32) (v502 : BitVec 32) (hv : (show BitVec 32 from v472).toNat ≤ 4096) (hw : (show BitVec 32 from v492).toNat ≤ 4096)
    (S : Vec F S1x4096 .i32) (K : Vec F S4096x32 .bf16) (V : Vec F S4096x33 .bf16) (init : FVec F S512x33 .f32) :
    st_k0_t16 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v33 v34 v458 v462 v465 v467 v468 v472 v489 v492 k0_hw24 v494 c1024_i32_272 v495 v500 v502 (harg3.unread S) (harg13.unread K) (harg14.unread V) init (Scf.trips (k0_t16_loop v472 v492).lb (k0_t16_loop v472 v492).ub (k0_t16_loop v472 v492).st)
      = tileAcc v465 v467 K V S v472 v492 init := by
  have hn : (k0_t16_loop v472 v492).trips = _ := blocks_trips hv hw
  unfold tileAcc
  rw [← hn]
  refine iter_of _ _ _ (k0_t16_loop v472 v492).trips rfl (fun k => ?_) _ le_rfl
  have hr := blocks_row hv hw k
  have hc := blocks_row_le hv hw k
  rw [st_k0_t16_succ]
  unfold tripR_k0_t16 trip_k0_t16
  refine congr (congr (congrArg (k0_pay12 v465 v467 _) ?_) ?_) ?_
  · exact k_read arg13 harg13 rfl hr hc _ K
  · exact v_read arg14 harg14 rfl hr hc _ V
  · exact s_read arg3 harg3 rfl hr hc _ S

theorem st17_eq (c : Dev nD) (v33 : Vec F S32x32 .f32) (v34 : Vec F S32x32 .f32) (v458 : FVec F S1x32 .f32) (v462 : FVec F S1x32 .f32) (v465 : FVec F S512x32 .bf16) (v467 : IVec S512x1 32) (v468 : FVec F S512x33 .f32) (v472 : Elt F .i32) (v489 : BitVec 32) (v492 : Elt F .i32) (k0_hw24 : k0_chk24 v472 v492) (v494 : BitVec 32) (c1024_i32_272 : BitVec 32) (v495 : BitVec 32) (v500 : BitVec 32) (v502 : BitVec 32) (X3 : BufTy.Contents (Elt F) arg3.view.ty) (X13 : BufTy.Contents (Elt F) arg13.view.ty) (X14 : BufTy.Contents (Elt F) arg14.view.ty) (init : FVec F S512x33 .f32) :
    st_k0_t17 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v33 v34 v458 v462 v465 v467 v468 v472 v489 v492 k0_hw24 v494 c1024_i32_272 v495 v500 v502 X3 X13 X14 init (Scf.trips (k0_t17_loop v472 v492).lb (k0_t17_loop v472 v492).ub (k0_t17_loop v472 v492).st) = init := by
  have hn : Scf.trips (k0_t17_loop v472 v492).lb (k0_t17_loop v472 v492).ub (k0_t17_loop v472 v492).st = 0 := Nat.eq_zero_of_not_pos fun h => Scf.rem_no_trip _ _ ⟨0, h⟩
  rw [hn]; rfl

theorem st18_eq (c : Dev nD) (v34 : Vec F S32x32 .f32) (v529 : FVec F S1x32 .f32) (v533 : FVec F S1x32 .f32) (v536 : FVec F S512x32 .bf16) (v538 : IVec S512x1 32) (v539 : FVec F S512x33 .f32) (v543 : Elt F .i32) (v560 : BitVec 32) (v563 : Elt F .i32) (k0_hw27 : k0_chk27 v543 v563) (v566 : BitVec 32) (v577 : BitVec 1) (v579 : BitVec 1) (hv : (show BitVec 32 from v543).toNat ≤ 4096) (hw : (show BitVec 32 from v563).toNat ≤ 4096)
    (S : Vec F S1x4096 .i32) (K : Vec F S4096x32 .bf16) (V : Vec F S4096x33 .bf16) (init : FVec F S512x33 .f32) :
    st_k0_t18 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v34 v529 v533 v536 v538 v539 v543 v560 v563 k0_hw27 v566 v577 v579 (harg3.unread S) (harg13.unread K) (harg14.unread V) init (Scf.trips (k0_t18_loop v543 v563).lb (k0_t18_loop v543 v563).ub (k0_t18_loop v543 v563).st)
      = tileAcc v536 v538 K V S v543 v563 init := by
  have hn : (k0_t18_loop v543 v563).trips = _ := blocks_trips hv hw
  unfold tileAcc
  rw [← hn]
  refine iter_of _ _ _ (k0_t18_loop v543 v563).trips rfl (fun k => ?_) _ le_rfl
  have hr := blocks_row hv hw k
  have hc := blocks_row_le hv hw k
  rw [st_k0_t18_succ]
  unfold tripR_k0_t18 trip_k0_t18
  refine congr (congr (congrArg (k0_pay12 v536 v538 _) ?_) ?_) ?_
  · exact k_read arg13 harg13 rfl hr hc _ K
  · exact v_read arg14 harg14 rfl hr hc _ V
  · exact s_read arg3 harg3 rfl hr hc _ S

theorem st19_eq (c : Dev nD) (v34 : Vec F S32x32 .f32) (v529 : FVec F S1x32 .f32) (v533 : FVec F S1x32 .f32) (v536 : FVec F S512x32 .bf16) (v538 : IVec S512x1 32) (v539 : FVec F S512x33 .f32) (v543 : Elt F .i32) (v560 : BitVec 32) (v563 : Elt F .i32) (k0_hw27 : k0_chk27 v543 v563) (v566 : BitVec 32) (v577 : BitVec 1) (v579 : BitVec 1) (X3 : BufTy.Contents (Elt F) arg3.view.ty) (X13 : BufTy.Contents (Elt F) arg13.view.ty) (X14 : BufTy.Contents (Elt F) arg14.view.ty) (init : FVec F S512x33 .f32) :
    st_k0_t19 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v34 v529 v533 v536 v538 v539 v543 v560 v563 k0_hw27 v566 v577 v579 X3 X13 X14 init (Scf.trips (k0_t19_loop v543 v563).lb (k0_t19_loop v543 v563).ub (k0_t19_loop v543 v563).st) = init := by
  have hn : Scf.trips (k0_t19_loop v543 v563).lb (k0_t19_loop v543 v563).ub (k0_t19_loop v543 v563).st = 0 := Nat.eq_zero_of_not_pos fun h => Scf.rem_no_trip _ _ ⟨0, h⟩
  rw [hn]; rfl

end Cert.KernelIdeal.Run

end
-- ==== Proof.KI.Model.lean ====
/-
  What the kernel's run leaves in the result: tile by tile, the projection plus the normalised rows.
-/
module

public import proofs.«01_k».proof.Proof.KI.Tile
public import Idealize.ShloMosaic.Lib.Pipeline.ValueKit

@[expose] public section

set_option maxRecDepth 16384
set_option warn.classDefReducibility false

noncomputable section

namespace Cert.KernelIdeal.Run

open Cert.KernelIdeal Cert.KernelIdeal.Gen Cert.Proof.Words Cert.Proof
open Idealize.ShloMosaic Idealize.ShloMosaic.TcCoe Idealize.ShloMosaic.Tactic
open Idealize.SL Idealize.SL.Sem

variable {F : FTy → Type} [FloatOps F] [Named F]

/-- Tile `r` of 512 rows of an array, of the segment ids. -/
def rows (X : Vec F S4096x32 .f32) (r : ℕ) : Vec F S512x32 .f32 := fun x => X (ix2 (Fin.ofNat 4096 (512 * r + (x 0).val)) (x 1))
def segRows (X : Vec F S4096x1 .i32) (r : ℕ) : Vec F S512x1 .i32 := fun x => X (ix2 (Fin.ofNat 4096 (512 * r + (x 0).val)) (x 1))

section
variable (x0 : Vec F S1x4096 .i32) (x1 : Vec F S4096x16 .f32) (x2 : Vec F S4096x1 .i32) (x3 : Vec F S1x4096 .i32) (x4 : Vec F S16x32 .f32)
  (x5 x6 x7 x8 : Vec F S32x32 .f32) (x9 x10 : Vec F S1x32 .f32)

/-- Where the segment of a tile's first row starts, and where the one after its last row's does. -/
def loW (r : ℕ) : BitVec 32 := startAt (segOf x0) (Fin.ofNat 5 (segOf x0 (512 * r)).toNat)
def hiW (r : ℕ) : BitVec 32 := startAt (segOf x0) (Fin.ofNat 5 ((segOf x0 (512 * r + 511)).toNat + 1))

def hArr : FVec F S4096x32 .f32 := k0_pay3 x1 x4
def kArr : FVec F S4096x32 .bf16 := k0_pay4 (k0_pay2 x1 x4) x6
def vArr : Vec F S4096x33 .bf16 := withOnes (k0_pay5 (k0_pay2 x1 x4) x7)

/-- A tile's weighted sums, its rows of the transformed attention, and the running column sums of these and of their squares. -/
def acc (r : ℕ) : FVec F S512x33 .f32 :=
  tileAcc (k0_pay9 x5 (rows (hArr x1 x4) r)) (k0_pay10 (segRows x2 r)) (kArr x1 x4 x6) (vArr x1 x4 x7) x3 (loW x0 r) (hiW x0 r) k0_pay11
def tTile (r : ℕ) : FVec F S512x32 .f32 := k0_pay15 x8 (acc x0 x1 x2 x3 x4 x5 x6 x7 r)
def sum1 : ℕ → FVec F S1x32 .f32
  | 0 => k0_pay7
  | r + 1 => k0_pay16 x8 (sum1 r) (acc x0 x1 x2 x3 x4 x5 x6 x7 r)
def sum2 : ℕ → FVec F S1x32 .f32
  | 0 => k0_pay8
  | r + 1 => k0_pay17 x8 (sum2 r) (acc x0 x1 x2 x3 x4 x5 x6 x7 r)

def meanV : FVec F S1x32 .f32 := k0_pay80 x8 (sum1 x0 x1 x2 x3 x4 x5 x6 x7 x8 7) (acc x0 x1 x2 x3 x4 x5 x6 x7 7)
def invV : FVec F S1x32 .f32 := k0_pay81 x8 (sum1 x0 x1 x2 x3 x4 x5 x6 x7 x8 7) (sum2 x0 x1 x2 x3 x4 x5 x6 x7 x8 7) (acc x0 x1 x2 x3 x4 x5 x6 x7 7) x9

/-- A tile of the result, and the result. -/
def outTile (r : ℕ) : FVec F S512x32 .f32 :=
  k0_pay1 (meanV x0 x1 x2 x3 x4 x5 x6 x7 x8) (invV x0 x1 x2 x3 x4 x5 x6 x7 x8 x9) (k0_pay82 x10) (tTile x0 x1 x2 x3 x4 x5 x6 x7 x8 r) (rows (hArr x1 x4) r)
def outArr : FVec F S4096x32 .f32 := fun i => outTile x0 x1 x2 x3 x4 x5 x6 x7 x8 x9 x10 ((i 0).val / 512) (ix2 (Fin.ofNat 512 (i 0).val) (i 1))
end

/-- An array put together of its tiles. -/
def tiled (T : ℕ → FVec F S512x32 .f32) : FVec F S4096x32 .f32 := fun i => T ((i 0).val / 512) (ix2 (Fin.ofNat 512 (i 0).val) (i 1))

theorem tiled_emb (T : ℕ → FVec F S512x32 .f32) {n : ℕ} (r : ℕ) (hn : n = 512 * r) (inb : ∀ a, (![n, 0] : Fin 2 → ℕ) a + S512x32.size a ≤ S4096x32.size a) (x : S512x32.Idx) :
    T r x = tiled T ((Rect.unit (s := S4096x32) ![n, 0] S512x32.size inb).emb x) := by
  subst hn
  have h0 : (x 0).val < 512 := (x 0).isLt
  have hr : ((Rect.unit (s := S4096x32) ![512 * r, 0] S512x32.size inb).emb x 0).val / 512 = r := by
    show (512 * r + 1 * (x 0).val) / 512 = r; omega
  unfold tiled
  rw [hr]
  refine congrArg (T r) (funext fun a => ?_); fin_cases a
  · refine Fin.ext ?_; show (x 0).val = (512 * r + 1 * (x 0).val) % 512; omega
  · refine Fin.ext ?_; show (x 1).val = 0 + 1 * (x 1).val; omega

/-- Eight tiles stored leave the array they make up. -/
theorem canon_tiled (T : ℕ → FVec F S512x32 .f32) (inb7 inb6 inb5 inb4 inb3 inb2 inb1 inb0) :
    View.canon (Val := Elt F) (s := S4096x32) (e := .f32)
      [⟨Rect.unit ![3584, 0] S512x32.size inb7, T 7⟩, ⟨Rect.unit ![3072, 0] S512x32.size inb6, T 6⟩, ⟨Rect.unit ![2560, 0] S512x32.size inb5, T 5⟩, ⟨Rect.unit ![2048, 0] S512x32.size inb4, T 4⟩,
        ⟨Rect.unit ![1536, 0] S512x32.size inb3, T 3⟩, ⟨Rect.unit ![1024, 0] S512x32.size inb2, T 2⟩, ⟨Rect.unit ![512, 0] S512x32.size inb1, T 1⟩, ⟨Rect.unit ![0, 0] S512x32.size inb0, T 0⟩] = tiled T := by
  have hp : View.PiecesOf (Val := Elt F) (s := S4096x32) (e := .f32) (tiled T)
      [⟨Rect.unit ![3584, 0] S512x32.size inb7, T 7⟩, ⟨Rect.unit ![3072, 0] S512x32.size inb6, T 6⟩, ⟨Rect.unit ![2560, 0] S512x32.size inb5, T 5⟩, ⟨Rect.unit ![2048, 0] S512x32.size inb4, T 4⟩,
        ⟨Rect.unit ![1536, 0] S512x32.size inb3, T 3⟩, ⟨Rect.unit ![1024, 0] S512x32.size inb2, T 2⟩, ⟨Rect.unit ![512, 0] S512x32.size inb1, T 1⟩, ⟨Rect.unit ![0, 0] S512x32.size inb0, T 0⟩] :=
    ⟨fun x => tiled_emb T 7 rfl inb7 x, fun x => tiled_emb T 6 rfl inb6 x, fun x => tiled_emb T 5 rfl inb5 x, fun x => tiled_emb T 4 rfl inb4 x,
      fun x => tiled_emb T 3 rfl inb3 x, fun x => tiled_emb T 2 rfl inb2 x, fun x => tiled_emb T 1 rfl inb1 x, fun x => tiled_emb T 0 rfl inb0 x, trivial⟩
  refine funext fun y => View.canon_apply_of_pieces _ _ hp.mem y (View.cover_of_tiledL (s := S4096x32) _ S512x32.size ?_ y)
  rfl

variable
  (arg0 : Memref sig .tc .smem S1x4096 .i32) (harg0 : arg0.IsWhole)
  (arg1 : Memref sig .tc .vmem S4096x16 .f32) (harg1 : arg1.IsWhole)
  (arg2 : Memref sig .tc .vmem S4096x1 .i32) (harg2 : arg2.IsWhole)
  (arg3 : Memref sig .tc .vmem S1x4096 .i32) (harg3 : arg3.IsWhole)
  (arg4 : Memref sig .tc .vmem S16x32 .f32) (harg4 : arg4.IsWhole)
  (arg5 : Memref sig .tc .vmem S32x32 .f32) (harg5 : arg5.IsWhole)
  (arg6 : Memref sig .tc .vmem S32x32 .f32) (harg6 : arg6.IsWhole)
  (arg7 : Memref sig .tc .vmem S32x32 .f32) (harg7 : arg7.IsWhole)
  (arg8 : Memref sig .tc .vmem S32x32 .f32) (harg8 : arg8.IsWhole)
  (arg9 : Memref sig .tc .vmem S1x32 .f32) (harg9 : arg9.IsWhole)
  (arg10 : Memref sig .tc .vmem S1x32 .f32) (harg10 : arg10.IsWhole)
  (arg11 : Memref sig .tc .vmem S4096x32 .f32) (harg11 : arg11.IsWhole)
  (arg12 : Memref sig .tc .vmem S4096x32 .f32) (harg12 : arg12.IsWhole)
  (arg13 : Memref sig .tc .vmem S4096x32 .bf16) (harg13 : arg13.IsWhole)
  (arg14 : Memref sig .tc .vmem S4096x33 .bf16) (harg14 : arg14.IsWhole)
  (arg15 : Memref sig .tc .vmem S4096x32 .f32) (harg15 : arg15.IsWhole)
  (arg16 : Memref sig .tc .smem S1x5 .i32) (harg16 : arg16.IsWhole)

theorem rows_read {n : ℕ} (r : ℕ) (hn : n = 512 * r) (hr : r < 8) (inb : ∀ a, (![n, 0] : Fin 2 → ℕ) a + S512x32.size a ≤ S4096x32.size a) (X : Vec F S4096x32 .f32) :
    View.readAt (Elt F) arg12.view (Rect.unit (s := S4096x32) ![n, 0] S512x32.size inb).toLoadRect (harg12.unread X) = rows X r := by
  subst hn; funext x; rw [harg12.readAt_unread]
  have h0 : (x 0).val < 512 := (x 0).isLt
  refine congrArg X (funext fun a => ?_); fin_cases a
  · refine Fin.ext ?_; show 512 * r + 1 * (x 0).val = (512 * r + (x 0).val) % 4096; omega
  · refine Fin.ext ?_; show 0 + 1 * (x 1).val = (x 1).val; omega

theorem segRows_read {n : ℕ} (r : ℕ) (hn : n = 512 * r) (hr : r < 8) (inb : ∀ a, (![n, 0] : Fin 2 → ℕ) a + S512x1.size a ≤ S4096x1.size a) (X : Vec F S4096x1 .i32) :
    View.readAt (Elt F) arg2.view (Rect.unit (s := S4096x1) ![n, 0] S512x1.size inb).toLoadRect (harg2.unread X) = segRows X r := by
  subst hn; funext x; rw [harg2.readAt_unread]
  have h0 : (x 0).val < 512 := (x 0).isLt
  refine congrArg X (funext fun a => ?_); fin_cases a
  · refine Fin.ext ?_; show 512 * r + 1 * (x 0).val = (512 * r + (x 0).val) % 4096; omega
  · refine Fin.ext ?_; show 0 + 1 * (x 1).val = (x 1).val; omega

include harg15 in
theorem tile_read (T : ℕ → FVec F S512x32 .f32) {n : ℕ} (r : ℕ) (hn : n = 512 * r) (inb : ∀ a, (![n, 0] : Fin 2 → ℕ) a + S512x32.size a ≤ S4096x32.size a)
    (L : List (View.Piece (Elt F) S4096x32 .f32)) (hL : View.canon L = tiled T) :
    arg15.view.readCov L (Rect.unit (s := S4096x32) ![n, 0] S512x32.size inb).toLoadRect = T r := by
  unfold View.readCov
  rw [Mem.writes_canon harg15, hL]
  funext x; rw [harg15.readAt_unread]
  exact (tiled_emb T r hn inb x).symm

theorem seg_word (x0 : Vec F S1x4096 .i32) {n : ℕ} (hn : n < 4096) (inb : ∀ a, (![0, n] : Fin 2 → ℕ) a + S1x1.size a ≤ S1x4096.size a) (x : S1x1.Idx) :
    (View.readAt (Elt F) arg0.view (Rect.unit (s := S1x4096) ![0, n] S1x1.size inb).toLoadRect (harg0.unread x0) x : BitVec 32) = segOf x0 n := by
  rw [harg0.readAt_unread]
  have h0 : (x 0).val < 1 := (x 0).isLt
  have h1 : (x 1).val < 1 := (x 1).isLt
  refine congrArg x0 (funext fun a => ?_); fin_cases a
  · refine Fin.ext ?_; show 0 + 1 * (x 0).val = 0; omega
  · refine Fin.ext ?_; show n + 1 * (x 1).val = n % 4096; omega

theorem start_word (x0 : Vec F S1x4096 .i32) {off : Fin 2 → ℕ} {n : ℕ} (ho : off = ![0, n]) (hn : n < 5) (inb : ∀ a, off a + S1x1.size a ≤ S1x5.size a) (x : S1x1.Idx) :
    (View.readAt (Elt F) arg16.view (Rect.unit (s := S1x5) off S1x1.size inb).toLoadRect (harg16.unread (starts x0)) x : BitVec 32) = startAt (segOf x0) (Fin.ofNat 5 n) := by
  subst ho
  rw [harg16.readAt_unread]
  have h1 : (x 1).val < 1 := (x 1).isLt
  show startAt (segOf x0) _ = _
  refine congrArg (startAt (segOf x0)) (Fin.ext ?_)
  show n + 1 * (x 1).val = n % 5; omega

/-- The word after a segment's. -/
theorem succ_nat {v : BitVec 32} (h : v.toNat < 4) : (Scalar.addi v 1#32).toNat = v.toNat + 1 := by
  show (v + 1#32).toNat = _
  rw [BitVec.toNat_add]; show (v.toNat + 1) % 2 ^ 32 = _; omega

theorem segOf_lt (x0 : Vec F S1x4096 .i32) (hseg : ∀ i, (x0 i).toNat < 4) (n : ℕ) : (segOf x0 n).toNat < 4 := hseg _

theorem loW_le (x0 : Vec F S1x4096 .i32) (r : ℕ) : (loW x0 r).toNat ≤ 4096 := startAt_le _ _
theorem hiW_le (x0 : Vec F S1x4096 .i32) (r : ℕ) : (hiW x0 r).toNat ≤ 4096 := startAt_le _ _

variable (c : Dev nD) (x0 : Vec F S1x4096 .i32) (x1 : Vec F S4096x16 .f32) (x2 : Vec F S4096x1 .i32) (x3 : Vec F S1x4096 .i32) (x4 : Vec F S16x32 .f32)
  (x5 x6 x7 x8 : Vec F S32x32 .f32) (x9 x10 : Vec F S1x32 .f32) (hseg : ∀ i, (x0 i).toNat < 4)

/-! The run's values, one after another. -/

theorem r11_eq : kernelRun.sl.r_11 arg0 harg0 x0 = segOf x0 0 := by
  unfold kernelRun.sl.r_11; exact seg_word arg0 harg0 x0 (by decide) _ _
theorem r8_eq : kernelRun.sl.r_8 arg0 harg0 x0 = segOf x0 511 := by
  unfold kernelRun.sl.r_8; exact seg_word arg0 harg0 x0 (by decide) _ _
theorem r12_eq : kernelRun.sl.r_12 arg0 harg0 arg16 harg16 x0 hseg = loW x0 0 := by
  unfold kernelRun.sl.r_12 kernelRun.sl.f_4
  refine (start_word arg16 harg16 x0 rfl ?_ _ _).trans ?_
  · rw [Scalar.indexCast, r11_eq]; have := segOf_lt x0 hseg 0; omega
  · rw [Scalar.indexCast, r11_eq]; rfl
theorem r13_eq : kernelRun.sl.r_13 arg0 harg0 arg16 harg16 x0 hseg = hiW x0 0 := by
  unfold kernelRun.sl.r_13 kernelRun.sl.f_5
  refine (start_word arg16 harg16 x0 rfl ?_ _ _).trans ?_
  · rw [Scalar.indexCast, r8_eq, succ_nat (segOf_lt x0 hseg _)]; have := segOf_lt x0 hseg 511; omega
  · rw [Scalar.indexCast, r8_eq, succ_nat (segOf_lt x0 hseg _)]; rfl
include harg12 in
theorem r9_eq : kernelRun.sl.r_9 arg12 x1 x4 x5 = k0_pay9 x5 (rows (hArr x1 x4) 0) := by
  unfold kernelRun.sl.r_9 View.readCov
  rw [Mem.writes_box harg12 Mem.zero2, rows_read arg12 harg12 0 rfl (by decide)]; rfl
theorem r10_eq : kernelRun.sl.r_10 arg2 harg2 x2 = k0_pay10 (segRows x2 0) := by
  unfold kernelRun.sl.r_10
  exact congrArg k0_pay10 (segRows_read arg2 harg2 0 rfl (by decide) _ x2)
theorem r14_eq : kernelRun.sl.r_14 arg0 harg0 x0 = segOf x0 512 := by
  unfold kernelRun.sl.r_14; exact seg_word arg0 harg0 x0 (by decide) _ _
theorem r15_eq : kernelRun.sl.r_15 arg0 harg0 x0 = segOf x0 1023 := by
  unfold kernelRun.sl.r_15; exact seg_word arg0 harg0 x0 (by decide) _ _
theorem r16_eq : kernelRun.sl.r_16 arg0 harg0 arg16 harg16 x0 hseg = loW x0 1 := by
  unfold kernelRun.sl.r_16 kernelRun.sl.f_6
  refine (start_word arg16 harg16 x0 rfl ?_ _ _).trans ?_
  · rw [Scalar.indexCast, r14_eq]; have := segOf_lt x0 hseg 512; omega
  · rw [Scalar.indexCast, r14_eq]; rfl
theorem r21_eq : kernelRun.sl.r_21 arg0 harg0 arg16 harg16 x0 hseg = hiW x0 1 := by
  unfold kernelRun.sl.r_21 kernelRun.sl.f_7
  refine (start_word arg16 harg16 x0 rfl ?_ _ _).trans ?_
  · rw [Scalar.indexCast, r15_eq, succ_nat (segOf_lt x0 hseg _)]; have := segOf_lt x0 hseg 1023; omega
  · rw [Scalar.indexCast, r15_eq, succ_nat (segOf_lt x0 hseg _)]; rfl
theorem r19_eq : kernelRun.sl.r_19 arg12 harg12 x1 x4 x5 = k0_pay9 x5 (rows (hArr x1 x4) 1) := by
  unfold kernelRun.sl.r_19
  rw [rows_read arg12 harg12 1 rfl (by decide)]; rfl
theorem r20_eq : kernelRun.sl.r_20 arg2 harg2 x2 = k0_pay10 (segRows x2 1) := by
  unfold kernelRun.sl.r_20
  exact congrArg k0_pay10 (segRows_read arg2 harg2 1 rfl (by decide) _ x2)
theorem r23_eq : kernelRun.sl.r_23 arg0 harg0 x0 = segOf x0 1024 := by
  unfold kernelRun.sl.r_23; exact seg_word arg0 harg0 x0 (by decide) _ _
theorem r24_eq : kernelRun.sl.r_24 arg0 harg0 x0 = segOf x0 1535 := by
  unfold kernelRun.sl.r_24; exact seg_word arg0 harg0 x0 (by decide) _ _
theorem r25_eq : kernelRun.sl.r_25 arg0 harg0 arg16 harg16 x0 hseg = loW x0 2 := by
  unfold kernelRun.sl.r_25 kernelRun.sl.f_8
  refine (start_word arg16 harg16 x0 rfl ?_ _ _).trans ?_
  · rw [Scalar.indexCast, r23_eq]; have := segOf_lt x0 hseg 1024; omega
  · rw [Scalar.indexCast, r23_eq]; rfl
theorem r30_eq : kernelRun.sl.r_30 arg0 harg0 arg16 harg16 x0 hseg = hiW x0 2 := by
  unfold kernelRun.sl.r_30 kernelRun.sl.f_9
  refine (start_word arg16 harg16 x0 rfl ?_ _ _).trans ?_
  · rw [Scalar.indexCast, r24_eq, succ_nat (segOf_lt x0 hseg _)]; have := segOf_lt x0 hseg 1535; omega
  · rw [Scalar.indexCast, r24_eq, succ_nat (segOf_lt x0 hseg _)]; rfl
theorem r28_eq : kernelRun.sl.r_28 arg12 harg12 x1 x4 x5 = k0_pay9 x5 (rows (hArr x1 x4) 2) := by
  unfold kernelRun.sl.r_28
  rw [rows_read arg12 harg12 2 rfl (by decide)]; rfl
theorem r29_eq : kernelRun.sl.r_29 arg2 harg2 x2 = k0_pay10 (segRows x2 2) := by
  unfold kernelRun.sl.r_29
  exact congrArg k0_pay10 (segRows_read arg2 harg2 2 rfl (by decide) _ x2)
theorem r32_eq : kernelRun.sl.r_32 arg0 harg0 x0 = segOf x0 1536 := by
  unfold kernelRun.sl.r_32; exact seg_word arg0 harg0 x0 (by decide) _ _
theorem r33_eq : kernelRun.sl.r_33 arg0 harg0 x0 = segOf x0 2047 := by
  unfold kernelRun.sl.r_33; exact seg_word arg0 harg0 x0 (by decide) _ _
theorem r34_eq : kernelRun.sl.r_34 arg0 harg0 arg16 harg16 x0 hseg = loW x0 3 := by
  unfold kernelRun.sl.r_34 kernelRun.sl.f_10
  refine (start_word arg16 harg16 x0 rfl ?_ _ _).trans ?_
  · rw [Scalar.indexCast, r32_eq]; have := segOf_lt x0 hseg 1536; omega
  · rw [Scalar.indexCast, r32_eq]; rfl
theorem r39_eq : kernelRun.sl.r_39 arg0 harg0 arg16 harg16 x0 hseg = hiW x0 3 := by
  unfold kernelRun.sl.r_39 kernelRun.sl.f_11
  refine (start_word arg16 harg16 x0 rfl ?_ _ _).trans ?_
  · rw [Scalar.indexCast, r33_eq, succ_nat (segOf_lt x0 hseg _)]; have := segOf_lt x0 hseg 2047; omega
  · rw [Scalar.indexCast, r33_eq, succ_nat (segOf_lt x0 hseg _)]; rfl
theorem r37_eq : kernelRun.sl.r_37 arg12 harg12 x1 x4 x5 = k0_pay9 x5 (rows (hArr x1 x4) 3) := by
  unfold kernelRun.sl.r_37
  rw [rows_read arg12 harg12 3 rfl (by decide)]; rfl
theorem r38_eq : kernelRun.sl.r_38 arg2 harg2 x2 = k0_pay10 (segRows x2 3) := by
  unfold kernelRun.sl.r_38
  exact congrArg k0_pay10 (segRows_read arg2 harg2 3 rfl (by decide) _ x2)
theorem r42_eq : kernelRun.sl.r_42 arg0 harg0 x0 = segOf x0 2048 := by
  unfold kernelRun.sl.r_42; exact seg_word arg0 harg0 x0 (by decide) _ _
theorem r43_eq : kernelRun.sl.r_43 arg0 harg0 x0 = segOf x0 2559 := by
  unfold kernelRun.sl.r_43; exact seg_word arg0 harg0 x0 (by decide) _ _
theorem r44_eq : kernelRun.sl.r_44 arg0 harg0 arg16 harg16 x0 hseg = loW x0 4 := by
  unfold kernelRun.sl.r_44 kernelRun.sl.f_12
  refine (start_word arg16 harg16 x0 rfl ?_ _ _).trans ?_
  · rw [Scalar.indexCast, r42_eq]; have := segOf_lt x0 hseg 2048; omega
  · rw [Scalar.indexCast, r42_eq]; rfl
theorem r45_eq : kernelRun.sl.r_45 arg0 harg0 arg16 harg16 x0 hseg = hiW x0 4 := by
  unfold kernelRun.sl.r_45 kernelRun.sl.f_13
  refine (start_word arg16 harg16 x0 rfl ?_ _ _).trans ?_
  · rw [Scalar.indexCast, r43_eq, succ_nat (segOf_lt x0 hseg _)]; have := segOf_lt x0 hseg 2559; omega
  · rw [Scalar.indexCast, r43_eq, succ_nat (segOf_lt x0 hseg _)]; rfl
theorem r48_eq : kernelRun.sl.r_48 arg12 harg12 x1 x4 x5 = k0_pay9 x5 (rows (hArr x1 x4) 4) := by
  unfold kernelRun.sl.r_48
  rw [rows_read arg12 harg12 4 rfl (by decide)]; rfl
theorem r49_eq : kernelRun.sl.r_49 arg2 harg2 x2 = k0_pay10 (segRows x2 4) := by
  unfold kernelRun.sl.r_49
  exact congrArg k0_pay10 (segRows_read arg2 harg2 4 rfl (by decide) _ x2)
theorem r52_eq : kernelRun.sl.r_52 arg0 harg0 x0 = segOf x0 2560 := by
  unfold kernelRun.sl.r_52; exact seg_word arg0 harg0 x0 (by decide) _ _
theorem r53_eq : kernelRun.sl.r_53 arg0 harg0 x0 = segOf x0 3071 := by
  unfold kernelRun.sl.r_53; exact seg_word arg0 harg0 x0 (by decide) _ _
theorem r54_eq : kernelRun.sl.r_54 arg0 harg0 arg16 harg16 x0 hseg = loW x0 5 := by
  unfold kernelRun.sl.r_54 kernelRun.sl.f_14
  refine (start_word arg16 harg16 x0 rfl ?_ _ _).trans ?_
  · rw [Scalar.indexCast, r52_eq]; have := segOf_lt x0 hseg 2560; omega
  · rw [Scalar.indexCast, r52_eq]; rfl
theorem r55_eq : kernelRun.sl.r_55 arg0 harg0 arg16 harg16 x0 hseg = hiW x0 5 := by
  unfold kernelRun.sl.r_55 kernelRun.sl.f_15
  refine (start_word arg16 harg16 x0 rfl ?_ _ _).trans ?_
  · rw [Scalar.indexCast, r53_eq, succ_nat (segOf_lt x0 hseg _)]; have := segOf_lt x0 hseg 3071; omega
  · rw [Scalar.indexCast, r53_eq, succ_nat (segOf_lt x0 hseg _)]; rfl
theorem r56_eq : kernelRun.sl.r_56 arg12 harg12 x1 x4 x5 = k0_pay9 x5 (rows (hArr x1 x4) 5) := by
  unfold kernelRun.sl.r_56
  rw [rows_read arg12 harg12 5 rfl (by decide)]; rfl
theorem r57_eq : kernelRun.sl.r_57 arg2 harg2 x2 = k0_pay10 (segRows x2 5) := by
  unfold kernelRun.sl.r_57
  exact congrArg k0_pay10 (segRows_read arg2 harg2 5 rfl (by decide) _ x2)
theorem r62_eq : kernelRun.sl.r_62 arg0 harg0 x0 = segOf x0 3072 := by
  unfold kernelRun.sl.r_62; exact seg_word arg0 harg0 x0 (by decide) _ _
theorem r63_eq : kernelRun.sl.r_63 arg0 harg0 x0 = segOf x0 3583 := by
  unfold kernelRun.sl.r_63; exact seg_word arg0 harg0 x0 (by decide) _ _
theorem r64_eq : kernelRun.sl.r_64 arg0 harg0 arg16 harg16 x0 hseg = loW x0 6 := by
  unfold kernelRun.sl.r_64 kernelRun.sl.f_16
  refine (start_word arg16 harg16 x0 rfl ?_ _ _).trans ?_
  · rw [Scalar.indexCast, r62_eq]; have := segOf_lt x0 hseg 3072; omega
  · rw [Scalar.indexCast, r62_eq]; rfl
theorem r65_eq : kernelRun.sl.r_65 arg0 harg0 arg16 harg16 x0 hseg = hiW x0 6 := by
  unfold kernelRun.sl.r_65 kernelRun.sl.f_17
  refine (start_word arg16 harg16 x0 rfl ?_ _ _).trans ?_
  · rw [Scalar.indexCast, r63_eq, succ_nat (segOf_lt x0 hseg _)]; have := segOf_lt x0 hseg 3583; omega
  · rw [Scalar.indexCast, r63_eq, succ_nat (segOf_lt x0 hseg _)]; rfl
theorem r60_eq : kernelRun.sl.r_60 arg12 harg12 x1 x4 x5 = k0_pay9 x5 (rows (hArr x1 x4) 6) := by
  unfold kernelRun.sl.r_60
  rw [rows_read arg12 harg12 6 rfl (by decide)]; rfl
theorem r66_eq : kernelRun.sl.r_66 arg2 harg2 x2 = k0_pay10 (segRows x2 6) := by
  unfold kernelRun.sl.r_66 kernelRun.sl.r_61
  exact congrArg k0_pay10 (segRows_read arg2 harg2 6 rfl (by decide) _ x2)
theorem r67_eq : kernelRun.sl.r_67 arg0 harg0 x0 = segOf x0 3584 := by
  unfold kernelRun.sl.r_67; exact seg_word arg0 harg0 x0 (by decide) _ _
theorem r72_eq : kernelRun.sl.r_72 arg0 harg0 x0 = segOf x0 4095 := by
  unfold kernelRun.sl.r_72; exact seg_word arg0 harg0 x0 (by decide) _ _
theorem r73_eq : kernelRun.sl.r_73 arg0 harg0 arg16 harg16 x0 hseg = loW x0 7 := by
  unfold kernelRun.sl.r_73 kernelRun.sl.f_18
  refine (start_word arg16 harg16 x0 rfl ?_ _ _).trans ?_
  · rw [Scalar.indexCast, r67_eq]; have := segOf_lt x0 hseg 3584; omega
  · rw [Scalar.indexCast, r67_eq]; rfl
theorem r74_eq : kernelRun.sl.r_74 arg0 harg0 arg16 harg16 x0 hseg = hiW x0 7 := by
  unfold kernelRun.sl.r_74 kernelRun.sl.f_19
  refine (start_word arg16 harg16 x0 rfl ?_ _ _).trans ?_
  · rw [Scalar.indexCast, r72_eq, succ_nat (segOf_lt x0 hseg _)]; have := segOf_lt x0 hseg 4095; omega
  · rw [Scalar.indexCast, r72_eq, succ_nat (segOf_lt x0 hseg _)]; rfl
theorem r70_eq : kernelRun.sl.r_70 arg12 harg12 x1 x4 x5 = k0_pay9 x5 (rows (hArr x1 x4) 7) := by
  unfold kernelRun.sl.r_70
  rw [rows_read arg12 harg12 7 rfl (by decide)]; rfl
theorem r71_eq : kernelRun.sl.r_71 arg2 harg2 x2 = k0_pay10 (segRows x2 7) := by
  unfold kernelRun.sl.r_71
  exact congrArg k0_pay10 (segRows_read arg2 harg2 7 rfl (by decide) _ x2)
theorem r_17_eq : kernelRun.sl.r_17 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum1 x0 x1 x2 x3 x4 x5 x6 x7 x8 1) := by
  unfold kernelRun.sl.r_17
  rw [st5_eq, st4_eq]; rw [r9_eq arg12 harg12, r10_eq, r12_eq, r13_eq]
  · rfl
  · exact (congrArg BitVec.toNat (r12_eq arg0 harg0 arg16 harg16 x0 hseg)).trans_le (loW_le x0 0)
  · exact (congrArg BitVec.toNat (r13_eq arg0 harg0 arg16 harg16 x0 hseg)).trans_le (hiW_le x0 0)
theorem r_18_eq : kernelRun.sl.r_18 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum2 x0 x1 x2 x3 x4 x5 x6 x7 x8 1) := by
  unfold kernelRun.sl.r_18
  rw [st5_eq, st4_eq]; rw [r9_eq arg12 harg12, r10_eq, r12_eq, r13_eq]
  · rfl
  · exact (congrArg BitVec.toNat (r12_eq arg0 harg0 arg16 harg16 x0 hseg)).trans_le (loW_le x0 0)
  · exact (congrArg BitVec.toNat (r13_eq arg0 harg0 arg16 harg16 x0 hseg)).trans_le (hiW_le x0 0)
theorem r_26_eq : kernelRun.sl.r_26 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum1 x0 x1 x2 x3 x4 x5 x6 x7 x8 2) := by
  unfold kernelRun.sl.r_26 kernelRun.sl.r_22
  rw [st7_eq, st6_eq]; rw [r19_eq , r20_eq, r16_eq, r21_eq]; rw [r_17_eq]
  · rfl
  · exact (congrArg BitVec.toNat (r16_eq arg0 harg0 arg16 harg16 x0 hseg)).trans_le (loW_le x0 1)
  · exact (congrArg BitVec.toNat (r21_eq arg0 harg0 arg16 harg16 x0 hseg)).trans_le (hiW_le x0 1)
theorem r_27_eq : kernelRun.sl.r_27 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum2 x0 x1 x2 x3 x4 x5 x6 x7 x8 2) := by
  unfold kernelRun.sl.r_27 kernelRun.sl.r_22
  rw [st7_eq, st6_eq]; rw [r19_eq , r20_eq, r16_eq, r21_eq]; rw [r_18_eq]
  · rfl
  · exact (congrArg BitVec.toNat (r16_eq arg0 harg0 arg16 harg16 x0 hseg)).trans_le (loW_le x0 1)
  · exact (congrArg BitVec.toNat (r21_eq arg0 harg0 arg16 harg16 x0 hseg)).trans_le (hiW_le x0 1)
theorem r_31_eq : kernelRun.sl.r_31 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = k0_pay32 x8 (acc x0 x1 x2 x3 x4 x5 x6 x7 2) := by
  unfold kernelRun.sl.r_31
  rw [st9_eq, st8_eq]; rw [r28_eq , r29_eq, r25_eq, r30_eq]
  · rfl
  · exact (congrArg BitVec.toNat (r25_eq arg0 harg0 arg16 harg16 x0 hseg)).trans_le (loW_le x0 2)
  · exact (congrArg BitVec.toNat (r30_eq arg0 harg0 arg16 harg16 x0 hseg)).trans_le (hiW_le x0 2)
theorem r_35_eq : kernelRun.sl.r_35 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum1 x0 x1 x2 x3 x4 x5 x6 x7 x8 3) := by
  unfold kernelRun.sl.r_35
  rw [r_26_eq, r_31_eq]; rfl
theorem r_36_eq : kernelRun.sl.r_36 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum2 x0 x1 x2 x3 x4 x5 x6 x7 x8 3) := by
  unfold kernelRun.sl.r_36
  rw [r_27_eq, r_31_eq]; rfl
theorem r_40_eq : kernelRun.sl.r_40 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = k0_pay41 x8 (acc x0 x1 x2 x3 x4 x5 x6 x7 3) := by
  unfold kernelRun.sl.r_40
  rw [st11_eq, st10_eq]; rw [r37_eq , r38_eq, r34_eq, r39_eq]
  · rfl
  · exact (congrArg BitVec.toNat (r34_eq arg0 harg0 arg16 harg16 x0 hseg)).trans_le (loW_le x0 3)
  · exact (congrArg BitVec.toNat (r39_eq arg0 harg0 arg16 harg16 x0 hseg)).trans_le (hiW_le x0 3)
theorem r_41_eq : kernelRun.sl.r_41 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = k0_pay43 x8 (acc x0 x1 x2 x3 x4 x5 x6 x7 3) := by
  unfold kernelRun.sl.r_41
  rw [st11_eq, st10_eq]; rw [r37_eq , r38_eq, r34_eq, r39_eq]
  · rfl
  · exact (congrArg BitVec.toNat (r34_eq arg0 harg0 arg16 harg16 x0 hseg)).trans_le (loW_le x0 3)
  · exact (congrArg BitVec.toNat (r39_eq arg0 harg0 arg16 harg16 x0 hseg)).trans_le (hiW_le x0 3)
theorem r_46_eq : kernelRun.sl.r_46 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum1 x0 x1 x2 x3 x4 x5 x6 x7 x8 4) := by
  unfold kernelRun.sl.r_46
  rw [r_35_eq, r_41_eq]; rfl
theorem r_47_eq : kernelRun.sl.r_47 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum2 x0 x1 x2 x3 x4 x5 x6 x7 x8 4) := by
  unfold kernelRun.sl.r_47
  rw [r_36_eq, r_40_eq]; rfl
theorem r_50_eq : kernelRun.sl.r_50 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum1 x0 x1 x2 x3 x4 x5 x6 x7 x8 5) := by
  unfold kernelRun.sl.r_50
  rw [st13_eq, st12_eq]; rw [r48_eq , r49_eq, r44_eq, r45_eq]; rw [r_46_eq]
  · rfl
  · exact (congrArg BitVec.toNat (r44_eq arg0 harg0 arg16 harg16 x0 hseg)).trans_le (loW_le x0 4)
  · exact (congrArg BitVec.toNat (r45_eq arg0 harg0 arg16 harg16 x0 hseg)).trans_le (hiW_le x0 4)
theorem r_51_eq : kernelRun.sl.r_51 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum2 x0 x1 x2 x3 x4 x5 x6 x7 x8 5) := by
  unfold kernelRun.sl.r_51
  rw [st13_eq, st12_eq]; rw [r48_eq , r49_eq, r44_eq, r45_eq]; rw [r_47_eq]
  · rfl
  · exact (congrArg BitVec.toNat (r44_eq arg0 harg0 arg16 harg16 x0 hseg)).trans_le (loW_le x0 4)
  · exact (congrArg BitVec.toNat (r45_eq arg0 harg0 arg16 harg16 x0 hseg)).trans_le (hiW_le x0 4)
theorem r_58_eq : kernelRun.sl.r_58 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum1 x0 x1 x2 x3 x4 x5 x6 x7 x8 6) := by
  unfold kernelRun.sl.r_58
  rw [st15_eq, st14_eq]; rw [r56_eq , r57_eq, r54_eq, r55_eq]; rw [r_50_eq]
  · rfl
  · exact (congrArg BitVec.toNat (r54_eq arg0 harg0 arg16 harg16 x0 hseg)).trans_le (loW_le x0 5)
  · exact (congrArg BitVec.toNat (r55_eq arg0 harg0 arg16 harg16 x0 hseg)).trans_le (hiW_le x0 5)
theorem r_59_eq : kernelRun.sl.r_59 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum2 x0 x1 x2 x3 x4 x5 x6 x7 x8 6) := by
  unfold kernelRun.sl.r_59
  rw [st15_eq, st14_eq]; rw [r56_eq , r57_eq, r54_eq, r55_eq]; rw [r_51_eq]
  · rfl
  · exact (congrArg BitVec.toNat (r54_eq arg0 harg0 arg16 harg16 x0 hseg)).trans_le (loW_le x0 5)
  · exact (congrArg BitVec.toNat (r55_eq arg0 harg0 arg16 harg16 x0 hseg)).trans_le (hiW_le x0 5)
theorem r_68_eq : kernelRun.sl.r_68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum1 x0 x1 x2 x3 x4 x5 x6 x7 x8 7) := by
  unfold kernelRun.sl.r_68
  rw [st17_eq, st16_eq]; rw [r60_eq , r66_eq, r64_eq, r65_eq]; rw [r_58_eq]
  · rfl
  · exact (congrArg BitVec.toNat (r64_eq arg0 harg0 arg16 harg16 x0 hseg)).trans_le (loW_le x0 6)
  · exact (congrArg BitVec.toNat (r65_eq arg0 harg0 arg16 harg16 x0 hseg)).trans_le (hiW_le x0 6)
theorem r_69_eq : kernelRun.sl.r_69 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = (sum2 x0 x1 x2 x3 x4 x5 x6 x7 x8 7) := by
  unfold kernelRun.sl.r_69
  rw [st17_eq, st16_eq]; rw [r60_eq , r66_eq, r64_eq, r65_eq]; rw [r_59_eq]
  · rfl
  · exact (congrArg BitVec.toNat (r64_eq arg0 harg0 arg16 harg16 x0 hseg)).trans_le (loW_le x0 6)
  · exact (congrArg BitVec.toNat (r65_eq arg0 harg0 arg16 harg16 x0 hseg)).trans_le (hiW_le x0 6)
theorem r_75_eq : kernelRun.sl.r_75 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = meanV x0 x1 x2 x3 x4 x5 x6 x7 x8 := by
  unfold kernelRun.sl.r_75
  rw [st19_eq, st18_eq]; rw [r70_eq , r71_eq, r73_eq, r74_eq]; rw [r_68_eq]
  · rfl
  · exact (congrArg BitVec.toNat (r73_eq arg0 harg0 arg16 harg16 x0 hseg)).trans_le (loW_le x0 7)
  · exact (congrArg BitVec.toNat (r74_eq arg0 harg0 arg16 harg16 x0 hseg)).trans_le (hiW_le x0 7)
theorem r_76_eq : kernelRun.sl.r_76 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 x9 hseg = invV x0 x1 x2 x3 x4 x5 x6 x7 x8 x9 := by
  unfold kernelRun.sl.r_76
  rw [st19_eq, st18_eq]; rw [r70_eq , r71_eq, r73_eq, r74_eq]; rw [r_68_eq, r_69_eq, Mem.readAt_box harg9 _ Mem.zero2]
  · rfl
  · exact (congrArg BitVec.toNat (r73_eq arg0 harg0 arg16 harg16 x0 hseg)).trans_le (loW_le x0 7)
  · exact (congrArg BitVec.toNat (r74_eq arg0 harg0 arg16 harg16 x0 hseg)).trans_le (hiW_le x0 7)
theorem r_77_eq : kernelRun.sl.r_77 arg10 harg10 x10 = k0_pay82 x10 := by
  unfold kernelRun.sl.r_77
  rw [Mem.readAt_box harg10 _ Mem.zero2]

end Cert.KernelIdeal.Run

end
-- ==== Proof.KI.Ideal.lean ====
module

public import proofs.«01_k».proof.Proof.KI.Model
public import proofs.«01_k».proof.Proof.Consts

/-! # The kernel's stored values at an index, over the extended reals. -/

@[expose] public section
set_option maxRecDepth 16384

noncomputable section

namespace Cert.KernelIdeal.Run

open Cert.KernelIdeal Cert.KernelIdeal.Gen Cert.Proof.Words Cert.Proof
open Idealize.ShloMosaic Idealize.ShloMosaic.TcCoe

theorem pay2_at (x : FVec Ideal S4096x16 .f32) (w : FVec Ideal S16x32 .f32) (i : Fin 4096) (d : Fin 32) :
    k0_pay2 x w (ix2 i d) = ∑ k : Fin 16, x (ix2 i k) * w (ix2 k d) := by
  pointwise [k0_pay2]
theorem pay3_at (x : FVec Ideal S4096x16 .f32) (w : FVec Ideal S16x32 .f32) (i : Fin 4096) (d : Fin 32) :
    k0_pay3 x w (ix2 i d) = ∑ k : Fin 16, x (ix2 i k) * w (ix2 k d) := by
  pointwise [k0_pay3, k0_pay2]
theorem pay4_at (h : FVec Ideal S4096x32 .f32) (w : FVec Ideal S32x32 .f32) (i : Fin 4096) (d : Fin 32) :
    k0_pay4 h w (ix2 i d) = ∑ k : Fin 32, h (ix2 i k) * w (ix2 k d) := by
  pointwise [k0_pay4]
theorem pay5_at (h : FVec Ideal S4096x32 .f32) (w : FVec Ideal S32x32 .f32) (i : Fin 4096) (d : Fin 32) :
    k0_pay5 h w (ix2 i d) = ∑ k : Fin 32, h (ix2 i k) * w (ix2 k d) := by
  pointwise [k0_pay5]
theorem pay6_at (x : S4096x1.Idx) : (k0_pay6 : FVec Ideal S4096x1 .bf16) x = (Ideal.ofBits .bf16 0x3F80#16 : EReal) := by
  idx_vars x
  pointwise [k0_pay6]
theorem pay9_at (w : FVec Ideal S32x32 .f32) (h : FVec Ideal S512x32 .f32) (i : Fin 512) (d : Fin 32) :
    (k0_pay9 (F := Ideal) w h (ix2 i d) : EReal) = ∑ k : Fin 32, h (ix2 i k) * w (ix2 k d) := by
  pointwise [k0_pay9]
theorem pay10_at (s : IVec S512x1 32) (i : Fin 512) (d : Fin 1) : k0_pay10 (F := Ideal) s (ix2 i d) = s (ix2 i d) := by
  pointwise [k0_pay10]
theorem pay11_at (x : S512x33.Idx) : (k0_pay11 : FVec Ideal S512x33 .f32) x = (0 : EReal) := by
  idx_vars x
  pointwise [k0_pay11]
theorem pay7_at (x : S1x32.Idx) : (k0_pay7 : FVec Ideal S1x32 .f32) x = (0 : EReal) := by
  idx_vars x
  pointwise [k0_pay7]
theorem pay8_at (x : S1x32.Idx) : (k0_pay8 : FVec Ideal S1x32 .f32) x = (0 : EReal) := by
  idx_vars x
  pointwise [k0_pay8]
theorem pay12_at (q : FVec Ideal S512x32 .bf16) (sg : IVec S512x1 32) (a : FVec Ideal S512x33 .f32) (kb : FVec Ideal S1024x32 .bf16)
    (vb : FVec Ideal S1024x33 .bf16) (sb : IVec S1x1024 32) (i : Fin 512) (d : Fin 33) :
    k0_pay12 q sg a kb vb sb (ix2 i d) = a (ix2 i d) + ∑ j : Fin 1024,
      Ideal.exp (if sg (ix2 i 0) = sb (ix2 0 j) then ∑ k : Fin 32, q (ix2 i k) * kb (ix2 j k) else ⊥) * vb (ix2 j d) := by
  have hm : (Named.named κ "mask" 0xF149F2CA#32 : Ideal .f32) = (⊥ : EReal) := rfl
  pointwise [k0_pay12]
  rw [hm]
  simp only [Consts.select_eq]
theorem pay14_at (w : FVec Ideal S32x32 .f32) (a : FVec Ideal S512x33 .f32) (i : Fin 512) (d : Fin 32) :
    k0_pay14 w a (ix2 i d) = ∑ k : Fin 32, Ideal.div (a (ix2 i k.castSucc)) (a (ix2 i (Fin.last 32))) * w (ix2 k d) := by
  pointwise [k0_pay14]
  rfl
theorem pay15_eq (w : FVec Ideal S32x32 .f32) (a : FVec Ideal S512x33 .f32) : k0_pay15 w a = k0_pay14 w a := by
  unfold k0_pay15; exact shapeCast_self _ _
theorem pay78_eq (w : FVec Ideal S32x32 .f32) (a : FVec Ideal S512x33 .f32) : k0_pay78 w a = k0_pay14 w a := rfl
theorem pay16_at (w : FVec Ideal S32x32 .f32) (s : FVec Ideal S1x32 .f32) (a : FVec Ideal S512x33 .f32) (d : Fin 32) :
    k0_pay16 w s a (ix2 0 d) = s (ix2 0 d) + ∑ i : Fin 512, k0_pay14 w a (ix2 i d) := by
  pointwise [k0_pay16]
theorem pay17_at (w : FVec Ideal S32x32 .f32) (s : FVec Ideal S1x32 .f32) (a : FVec Ideal S512x33 .f32) (d : Fin 32) :
    k0_pay17 w s a (ix2 0 d) = s (ix2 0 d) + ∑ i : Fin 512, k0_pay14 w a (ix2 i d) * k0_pay14 w a (ix2 i d) := by
  pointwise [k0_pay17]
theorem pay80_at (w : FVec Ideal S32x32 .f32) (s : FVec Ideal S1x32 .f32) (a : FVec Ideal S512x33 .f32) (d : Fin 32) :
    k0_pay80 w s a (ix2 0 d) = Ideal.div (k0_pay16 w s a (ix2 0 d)) (Ideal.ofBits .f32 0x45800000#32) := by
  pointwise [k0_pay80, k0_pay16]
  rfl
theorem pay81_at (w : FVec Ideal S32x32 .f32) (s s2 : FVec Ideal S1x32 .f32) (a : FVec Ideal S512x33 .f32) (sc : FVec Ideal S1x32 .f32) (d : Fin 32) :
    k0_pay81 w s s2 a sc (ix2 0 d) = Ideal.rsqrt (Ideal.div (k0_pay17 w s2 a (ix2 0 d)) (Ideal.ofBits .f32 0x45800000#32)
      - k0_pay80 w s a (ix2 0 d) * k0_pay80 w s a (ix2 0 d) + Ideal.ofBits .f32 0x3727C5AC#32) * sc (ix2 0 d) := by
  pointwise [k0_pay81, k0_pay17]
  rfl
theorem pay82_at (b : FVec Ideal S1x32 .f32) (d : Fin 32) : k0_pay82 (F := Ideal) b (ix2 0 d) = b (ix2 0 d) := by
  pointwise [k0_pay82]
theorem pay1_at (mean inv b : FVec Ideal S1x32 .f32) (t h : FVec Ideal S512x32 .f32) (i : Fin 512) (d : Fin 32) :
    k0_pay1 mean inv b t h (ix2 i d) = h (ix2 i d) + (t (ix2 i d) - mean (ix2 0 d)) * inv (ix2 0 d) + b (ix2 0 d) := by
  pointwise [k0_pay1]

end Cert.KernelIdeal.Run
-- ==== Proof.KI.Result.lean ====
/-
  The kernel's result, on sorted segments and finite features and weights, as the operation's mathematics.
-/
module

public import proofs.«01_k».proof.Proof.KI.Ideal
public import proofs.«01_k».proof.Proof.Starts
public import proofs.«01_k».proof.Proof.Maths

@[expose] public section
set_option maxRecDepth 16384

noncomputable section

namespace Cert.KernelIdeal.Run

open Cert.KernelIdeal Cert.KernelIdeal.Gen Cert.Proof.Words Cert.Proof Cert.Proof.Maths
open Idealize.ShloMosaic Idealize.ShloMosaic.TcCoe

/-! ## The values with their column of ones -/

theorem withOnes_left {F : FTy → Type} [FloatOps F] [Named F] (v : FVec F S4096x32 .bf16) (j : Fin 4096) (k : Fin 32) :
    withOnes v (ix2 j k.castSucc) = v (ix2 j k) := by
  have hk : k.val < 32 := k.isLt
  unfold withOnes
  refine View.canon_eq_of_allAt _ _ _ ⟨_, List.mem_cons_of_mem _ (List.mem_singleton.2 rfl), ?_⟩
    (View.allAt_cons_unit _ _ _ _ _ (fun x hx => ?_) (View.allAt_cons_unit _ _ _ _ _ (fun x hx => ?_) (View.allAt_nil _ _)))
  · have e : (ix2 j k.castSucc : S4096x33.Idx) = (Rect.unit (s := S4096x33) ![0, 0] S4096x32.size inb_S4096x33_S4096x32_0_0).emb (ix2 j k) := by
      funext a; fin_cases a
      · refine Fin.ext ?_; show j.val = 0 + 1 * j.val; omega
      · refine Fin.ext ?_; show k.val = 0 + 1 * k.val; omega
    rw [e]; exact LoadRect.idx_mem _ _
  · have h1 : k.val = 32 + (x 1).val := hx 1
    omega
  · have h0 : j.val = 0 + (x 0).val := hx 0
    have h1 : k.val = 0 + (x 1).val := hx 1
    refine congrArg v (funext fun a => ?_); fin_cases a
    · refine Fin.ext ?_; show (x 0).val = j.val; omega
    · refine Fin.ext ?_; show (x 1).val = k.val; omega

theorem withOnes_last (v : FVec Ideal S4096x32 .bf16) (j : Fin 4096) :
    withOnes v (ix2 j (Fin.last 32)) = (1 : EReal) := by
  have e : (ix2 j (Fin.last 32) : S4096x33.Idx) = (Rect.unit (s := S4096x33) ![0, 32] S4096x1.size inb_S4096x33_S4096x1_0_32).emb (ix2 j 0) := by
    funext a; fin_cases a
    · refine Fin.ext ?_; show j.val = 0 + 1 * j.val; omega
    · refine Fin.ext ?_; show 32 = 32 + 1 * 0; omega
  unfold withOnes
  refine View.canon_eq_of_allAt _ _ _ ⟨_, List.mem_cons_self, ?_⟩
    (View.allAt_cons_unit _ _ _ _ _ (fun x hx => ?_) (View.allAt_cons_unit _ _ _ _ _ (fun x hx => ?_) (View.allAt_nil _ _)))
  · rw [e]; exact LoadRect.idx_mem _ _
  · exact (pay6_at x).trans Consts.ofBits_one_bf16
  · have h1 : 32 = 0 + (x 1).val := hx 1
    have h2 : (x 1).val < 32 := (x 1).isLt
    omega

/-! ## The blocks a tile visits hold every row of its segments -/

section
variable (sg : ℕ → BitVec 32) (hs : ∀ i, (sg i).toNat < 4) (mono : ∀ i j, i ≤ j → j < 4096 → (sg i).toNat ≤ (sg j).toNat)
include hs mono

theorem startAt_low (n : ℕ) (hn : n ≤ 4) (i : ℕ) (h : i < (startAt sg (Fin.ofNat 5 n)).toNat) : (sg i).toNat < n := by
  have hn' : n = 0 ∨ n = 1 ∨ n = 2 ∨ n = 3 ∨ n = 4 := by omega
  rcases hn' with rfl | rfl | rfl | rfl | rfl
  · exact absurd h (Nat.not_lt_zero i)
  · exact start_low sg hs mono 1#32 (by decide) h
  · exact start_low sg hs mono 2#32 (by decide) h
  · exact start_low sg hs mono 3#32 (by decide) h
  · exact hs i

theorem startAt_high (n : ℕ) (hn : n ≤ 4) (i : ℕ) (h : (startAt sg (Fin.ofNat 5 n)).toNat ≤ i) (h1 : 1 ≤ i) (h4 : i < 4096) : n ≤ (sg i).toNat := by
  have hn' : n = 0 ∨ n = 1 ∨ n = 2 ∨ n = 3 ∨ n = 4 := by omega
  rcases hn' with rfl | rfl | rfl | rfl | rfl
  · exact Nat.zero_le _
  · exact start_high sg hs mono 1#32 (by decide) h h1 h4
  · exact start_high sg hs mono 2#32 (by decide) h h1 h4
  · exact start_high sg hs mono 3#32 (by decide) h h1 h4
  · exact absurd (show 4096 ≤ i from h) (by omega)

theorem tile_cover {r a j : ℕ} (hr : r < 8) (ha : a < 512) (hj : j < 4096) (he : sg (512 * r + a) = sg j) :
    (startAt sg (Fin.ofNat 5 (sg (512 * r)).toNat)).toNat ≤ j ∧ j < (startAt sg (Fin.ofNat 5 ((sg (512 * r + 511)).toNat + 1))).toNat := by
  have m1 := mono (512 * r) (512 * r + a) (by omega) (by omega)
  have m2 := mono (512 * r + a) (512 * r + 511) (by omega) (by omega)
  have b1 := hs (512 * r)
  have b2 := hs (512 * r + 511)
  rw [he] at m1 m2
  constructor
  · by_contra hc
    have := startAt_low sg hs mono (sg (512 * r)).toNat (by omega) j (not_le.1 hc)
    omega
  · by_contra hc
    have hc := not_lt.1 hc
    rcases Nat.eq_zero_or_pos j with h0 | h0
    · have := startAt_high sg hs mono ((sg (512 * r + 511)).toNat + 1) (by omega) (512 * r + 511) (by omega) (by omega) (by omega)
      omega
    · have := startAt_high sg hs mono ((sg (512 * r + 511)).toNat + 1) (by omega) j hc h0 hj
      omega
end

section
variable {x0 : Vec Ideal S1x4096 .i32} {x1 : Vec Ideal S4096x16 .f32} {x2 : Vec Ideal S4096x1 .i32} {x3 : Vec Ideal S1x4096 .i32} {x4 : Vec Ideal S16x32 .f32}
  {x5 x6 x7 x8 : Vec Ideal S32x32 .f32} {x9 x10 : Vec Ideal S1x32 .f32}
  {x : Fin 4096 → Fin 16 → ℝ} {wp : Fin 16 → Fin 32 → ℝ} {wq wk wv wt : Fin 32 → Fin 32 → ℝ} {seg : Fin 4096 → BitVec 32}
  (hs : ∀ i, (seg i).toNat < 4) (mono : ∀ i j, i ≤ j → (seg i).toNat ≤ (seg j).toNat)
  (h0 : ∀ j, x0 (ix2 0 j) = seg j) (h2 : ∀ j, x2 (ix2 j 0) = seg j) (h3 : ∀ j, x3 (ix2 0 j) = seg j)
  (h1 : ∀ i k, x1 (ix2 i k) = (x i k : EReal)) (h4 : ∀ k d, x4 (ix2 k d) = (wp k d : EReal))
  (h5 : ∀ k d, x5 (ix2 k d) = (wq k d : EReal)) (h6 : ∀ k d, x6 (ix2 k d) = (wk k d : EReal)) (h7 : ∀ k d, x7 (ix2 k d) = (wv k d : EReal))
  (h8 : ∀ k d, x8 (ix2 k d) = (wt k d : EReal))

include h1 h4 in
theorem hArr_real (i : Fin 4096) (d : Fin 32) : hArr x1 x4 (ix2 i d) = (mm x wp i d : EReal) :=
  (pay3_at x1 x4 i d).trans (mm_coe i d h1 h4)

include h1 h4 in
theorem pay2_real (i : Fin 4096) (d : Fin 32) : k0_pay2 x1 x4 (ix2 i d) = (mm x wp i d : EReal) :=
  (pay2_at x1 x4 i d).trans (mm_coe i d h1 h4)

include h1 h4 h6 in
theorem kArr_real (i : Fin 4096) (d : Fin 32) : kArr x1 x4 x6 (ix2 i d) = (mm (mm x wp) wk i d : EReal) :=
  (pay4_at _ x6 i d).trans (mm_coe i d (pay2_real h1 h4) h6)

include h1 h4 h7 in
theorem vArr_real (i : Fin 4096) (d : Fin 32) : vArr x1 x4 x7 (ix2 i d.castSucc) = (mm (mm x wp) wv i d : EReal) :=
  (withOnes_left _ i d).trans ((pay5_at _ x7 i d).trans (mm_coe i d (pay2_real h1 h4) h7))

theorem vArr_last (i : Fin 4096) : vArr x1 x4 x7 (ix2 i (Fin.last 32)) = ((1 : ℝ) : EReal) :=
  (withOnes_last _ i).trans EReal.coe_one.symm

/-- Row `a` of tile `r`. -/
def row (r a : ℕ) : Fin 4096 := Fin.ofNat 4096 (512 * r + a)

include h1 h4 h5 in
theorem q_real (r : ℕ) (a : Fin 512) (d : Fin 32) : k0_pay9 (F := Ideal) x5 (rows (hArr x1 x4) r) (ix2 a d) = (mm (mm x wp) wq (row r a) d : EReal) :=
  (pay9_at x5 _ a d).trans (mm_coe (X := mm x wp) (row r a) d (f := fun i k => hArr x1 x4 (ix2 i k)) (hArr_real h1 h4) h5)

/-- What row `j` adds to row `i`'s sum in column `d`. -/
def term (i : Fin 4096) (d : Fin 33) (V : Vec Ideal S4096x33 .bf16) (x : Fin 4096 → Fin 16 → ℝ) (wp : Fin 16 → Fin 32 → ℝ) (wq wk : Fin 32 → Fin 32 → ℝ)
    (seg : Fin 4096 → BitVec 32) (n : ℕ) : EReal :=
  Ideal.exp (masked (fun j => seg i = seg j) (score x wp wq wk i) (Fin.ofNat 4096 n)) * V (ix2 (Fin.ofNat 4096 n) d)

include h1 h4 h5 h6 h2 h3 in
theorem step_real (r c : ℕ) (a : Fin 512) (d : Fin 33) (A : FVec Ideal S512x33 .f32) (V : Vec Ideal S4096x33 .bf16) :
    k0_pay12 (k0_pay9 x5 (rows (hArr x1 x4) r)) (k0_pay10 (F := Ideal) (segRows x2 r)) A (kBlk (kArr x1 x4 x6) c) (vBlk V c) (sBlk x3 c) (ix2 a d)
      = A (ix2 a d) + ∑ j : Fin 1024, term (row r a) d V x wp wq wk seg (1024 * c + j.val) := by
  rw [pay12_at]
  refine congrArg (A (ix2 a d) + ·) (Finset.sum_congr rfl fun j _ => ?_)
  have eS : k0_pay10 (F := Ideal) (segRows x2 r) (ix2 a 0) = seg (row r a) := (pay10_at _ a 0).trans (h2 (row r a))
  have eT : sBlk x3 c (ix2 0 j) = seg (Fin.ofNat 4096 (1024 * c + j.val)) := h3 _
  have eQ : ∑ k : Fin 32, k0_pay9 (F := Ideal) x5 (rows (hArr x1 x4) r) (ix2 a k) * kBlk (kArr x1 x4 x6) c (ix2 j k)
      = (score x wp wq wk (row r a) (Fin.ofNat 4096 (1024 * c + j.val)) : EReal) :=
    dot_coe (fun k => q_real h1 h4 h5 r a k) fun k => kArr_real h1 h4 h6 (Fin.ofNat 4096 (1024 * c + j.val)) k
  rw [eS, eT, eQ]
  rfl

include h1 h4 h5 h6 h2 h3 in
theorem blocks_real (r c : ℕ) (a : Fin 512) (d : Fin 33) (V : Vec Ideal S4096x33 .bf16) : ∀ N,
    iter (fun k A => k0_pay12 (k0_pay9 x5 (rows (hArr x1 x4) r)) (k0_pay10 (F := Ideal) (segRows x2 r)) A (kBlk (kArr x1 x4 x6) (c + k)) (vBlk V (c + k)) (sBlk x3 (c + k)))
        (k0_pay11 (F := Ideal)) N (ix2 a d)
      = ∑ k ∈ Finset.range N, ∑ j : Fin 1024, term (row r a) d V x wp wq wk seg (1024 * (c + k) + j.val)
  | 0 => pay11_at _
  | N + 1 => by
    rw [Finset.sum_range_succ, ← blocks_real r c a d V N]
    exact step_real h2 h3 h1 h4 h5 h6 r (c + N) a d _ V

include hs mono h0 h1 h4 h5 h6 h2 h3 in
theorem acc_sum (r : ℕ) (hr : r < 8) (a : Fin 512) (d : Fin 33) :
    acc x0 x1 x2 x3 x4 x5 x6 x7 r (ix2 a d)
      = ∑ j : Fin 4096, Ideal.exp (masked (fun j => seg (row r a) = seg j) (score x wp wq wk (row r a)) j) * vArr x1 x4 x7 (ix2 j d) := by
  unfold acc tileAcc
  rw [blocks_real h2 h3 h1 h4 h5 h6]
  have sg : ∀ n, segOf x0 n = seg (Fin.ofNat 4096 n) := fun n =>
    (congrArg x0 (funext fun a => by fin_cases a <;> rfl)).trans (h0 _)
  have hv : ∀ n (h : n < 4096), (Fin.ofNat 4096 n : Fin 4096) = ⟨n, h⟩ := fun n h => Fin.ext (Nat.mod_eq_of_lt h)
  have hlo := loW_le x0 r
  have hhi := hiW_le x0 r
  rw [sum_blocks_cover 1024 ((loW x0 r).toNat / 1024) _ 4096 (term (row r a) d (vArr x1 x4 x7) x wp wq wk seg) (by omega) (fun n hn hc => ?_)]
  · refine Finset.sum_congr rfl fun j _ => ?_
    unfold term
    rw [hv j.val j.isLt]
  · unfold term masked
    have hne : ¬seg (row r a) = seg (Fin.ofNat 4096 n) := fun he => hc (by
      obtain ⟨c1, c2⟩ := tile_cover (segOf x0) (fun i => by rw [sg]; exact hs _)
        (fun i j hij hj => by rw [sg, sg]; exact mono _ _ (by rw [hv i (by omega), hv j hj]; exact hij)) hr a.isLt hn (by rw [sg, sg]; exact he)
      have c1' : (loW x0 r).toNat ≤ n := c1
      have c2' : n < (hiW x0 r).toNat := c2
      omega)
    rw [if_neg hne]
    exact zero_mul _

include hs mono h0 h1 h4 h5 h6 h7 h8 h2 h3 in
theorem t_real (r : ℕ) (hr : r < 8) (a : Fin 512) (d : Fin 32) :
    k0_pay14 x8 (acc x0 x1 x2 x3 x4 x5 x6 x7 r) (ix2 a d) = (tr x wp wq wk wv wt seg (row r a) d : EReal) := by
  rw [pay14_at]
  refine dot_coe (fun k => ?_) fun k => h8 k d
  rw [acc_sum hs mono h0 h2 h3 h1 h4 h5 h6 r hr, acc_sum hs mono h0 h2 h3 h1 h4 h5 h6 r hr]
  rw [dot_coe (fun j => exp_masked _ _ j) (fun j => vArr_real h1 h4 h7 j k), dot_coe (fun j => exp_masked _ _ j) (fun j => vArr_last j)]
  simp only [mul_one]
  exact div_real _ (wgt_sum_pos x wp wq wk seg (row r a)).ne'

include hs mono h0 h1 h4 h5 h6 h7 h8 h2 h3 in
theorem sum1_real (d : Fin 32) : ∀ r, r ≤ 8 → sum1 x0 x1 x2 x3 x4 x5 x6 x7 x8 r (ix2 0 d)
    = ((∑ k ∈ Finset.range r, ∑ a : Fin 512, tr x wp wq wk wv wt seg (Fin.ofNat 4096 (512 * k + a.val)) d : ℝ) : EReal)
  | 0, _ => (pay7_at _).trans (by simp)
  | r + 1, h => by
    rw [Finset.sum_range_succ, EReal.coe_add, ← sum1_real d r (by omega), ← sum_coe]
    refine (pay16_at x8 _ _ d).trans (congrArg (_ + ·) (Finset.sum_congr rfl fun a _ => ?_))
    exact t_real hs mono h0 h2 h3 h1 h4 h5 h6 h7 h8 r (by omega) a d

include hs mono h0 h1 h4 h5 h6 h7 h8 h2 h3 in
theorem sum2_real (d : Fin 32) : ∀ r, r ≤ 8 → sum2 x0 x1 x2 x3 x4 x5 x6 x7 x8 r (ix2 0 d)
    = ((∑ k ∈ Finset.range r, ∑ a : Fin 512, (fun i => tr x wp wq wk wv wt seg i d * tr x wp wq wk wv wt seg i d) (Fin.ofNat 4096 (512 * k + a.val)) : ℝ) : EReal)
  | 0, _ => (pay8_at _).trans (by simp)
  | r + 1, h => by
    rw [Finset.sum_range_succ, EReal.coe_add, ← sum2_real d r (by omega), ← sum_coe]
    refine (pay17_at x8 _ _ d).trans (congrArg (_ + ·) (Finset.sum_congr rfl fun a _ => ?_))
    rw [t_real hs mono h0 h2 h3 h1 h4 h5 h6 h7 h8 r (by omega) a d, ← EReal.coe_mul]; rfl

theorem sum_tiles (f : Fin 4096 → ℝ) : ∑ k ∈ Finset.range 8, ∑ a : Fin 512, f (Fin.ofNat 4096 (512 * k + a.val)) = ∑ i, f i := by
  rw [sum_blocks 512 (fun n => f (Fin.ofNat 4096 n)) 8, Finset.sum_range]
  exact Finset.sum_congr rfl fun i _ => congrArg f (Fin.ext (Nat.mod_eq_of_lt i.isLt))

include hs mono h0 h1 h4 h5 h6 h7 h8 h2 h3 in
theorem meanV_real (d : Fin 32) : meanV x0 x1 x2 x3 x4 x5 x6 x7 x8 (ix2 0 d) = (mean x wp wq wk wv wt seg d : EReal) := by
  refine (pay80_at _ _ _ d).trans ?_
  have h := sum1_real hs mono h0 h2 h3 h1 h4 h5 h6 h7 h8 d 8 le_rfl
  rw [sum_tiles fun i => tr x wp wq wk wv wt seg i d] at h
  have h' : k0_pay16 x8 (sum1 x0 x1 x2 x3 x4 x5 x6 x7 x8 7) (acc x0 x1 x2 x3 x4 x5 x6 x7 7) (ix2 0 d) = _ := h
  rw [h', Consts.ofBits_4096, div_real _ (by norm_num)]; rfl

include hs mono h0 h1 h4 h5 h6 h7 h8 h2 h3 in
theorem invV_real (d : Fin 32) : invV x0 x1 x2 x3 x4 x5 x6 x7 x8 x9 (ix2 0 d)
    = Ideal.rsqrt ((var x wp wq wk wv wt seg d : EReal) + Ideal.ofBits .f32 0x3727C5AC#32) * x9 (ix2 0 d) := by
  refine (pay81_at _ _ _ _ _ d).trans ?_
  have h := sum2_real hs mono h0 h2 h3 h1 h4 h5 h6 h7 h8 d 8 le_rfl
  rw [sum_tiles fun i => tr x wp wq wk wv wt seg i d * tr x wp wq wk wv wt seg i d] at h
  have h' : k0_pay17 x8 (sum2 x0 x1 x2 x3 x4 x5 x6 x7 x8 7) (acc x0 x1 x2 x3 x4 x5 x6 x7 7) (ix2 0 d) = _ := h
  have hm : k0_pay80 x8 (sum1 x0 x1 x2 x3 x4 x5 x6 x7 x8 7) (acc x0 x1 x2 x3 x4 x5 x6 x7 7) (ix2 0 d) = _ :=
    meanV_real hs mono h0 h2 h3 h1 h4 h5 h6 h7 h8 d
  rw [h', hm, Consts.ofBits_4096, div_real _ (by norm_num), ← EReal.coe_mul, ← EReal.coe_sub, var_eq_moments]

include hs mono h0 h1 h4 h5 h6 h7 h8 h2 h3 in
theorem outArr_real (i : Fin 4096) (d : Fin 32) : outArr x0 x1 x2 x3 x4 x5 x6 x7 x8 x9 x10 (ix2 i d)
    = result x wp wq wk wv wt seg (fun d => x9 (ix2 0 d)) (fun d => x10 (ix2 0 d)) i d := by
  have hi : i.val < 4096 := i.isLt
  have hrow : row (i.val / 512) (Fin.ofNat 512 i.val).val = i := by
    refine Fin.ext ?_; show (512 * (i.val / 512) + i.val % 512) % 4096 = i.val; omega
  obtain ⟨ε, hε, eε⟩ := Consts.ofBits_eps
  show outTile x0 x1 x2 x3 x4 x5 x6 x7 x8 x9 x10 (i.val / 512) (ix2 (Fin.ofNat 512 i.val) d) = _
  unfold outTile tTile
  rw [pay1_at, pay15_eq, pay82_at, t_real hs mono h0 h2 h3 h1 h4 h5 h6 h7 h8 _ (by omega), meanV_real hs mono h0 h2 h3 h1 h4 h5 h6 h7 h8,
    invV_real hs mono h0 h2 h3 h1 h4 h5 h6 h7 h8, hrow]
  have eh : rows (hArr x1 x4) (i.val / 512) (ix2 (Fin.ofNat 512 i.val) d) = (mm x wp i d : EReal) := by
    have := hArr_real h1 h4 (row (i.val / 512) (Fin.ofNat 512 i.val).val) d
    rw [hrow] at this
    rw [← this]
    refine congrArg (fun z => hArr x1 x4 (ix2 z d)) hrow
  rw [eh]
  unfold result
  rw [eε, ← EReal.coe_add]
  exact finish _ _ _ _ (add_pos_of_nonneg_of_pos (var_nonneg' x wp wq wk wv wt seg d) hε) _ _
end

end Cert.KernelIdeal.Run

end
-- ==== Proof.KI.Value.lean ====
/-
  The result of the kernel's run is the eight tiles.
-/
module

public import proofs.«01_k».proof.Proof.KI.Model
public import Idealize.ShloMosaic.Lib.Pipeline.ValueKit

@[expose] public section

set_option maxRecDepth 16384
set_option warn.classDefReducibility false

noncomputable section

namespace Cert.KernelIdeal.Run

open Cert.KernelIdeal Cert.KernelIdeal.Gen Cert.Proof.Words Cert.Proof
open Idealize.ShloMosaic Idealize.ShloMosaic.TcCoe Idealize.ShloMosaic.Tactic
open Idealize.SL Idealize.SL.Sem

variable {F : FTy → Type} [FloatOps F] [Named F]

variable
  (arg0 : Memref sig .tc .smem S1x4096 .i32) (harg0 : arg0.IsWhole)
  (arg1 : Memref sig .tc .vmem S4096x16 .f32) (harg1 : arg1.IsWhole)
  (arg2 : Memref sig .tc .vmem S4096x1 .i32) (harg2 : arg2.IsWhole)
  (arg3 : Memref sig .tc .vmem S1x4096 .i32) (harg3 : arg3.IsWhole)
  (arg4 : Memref sig .tc .vmem S16x32 .f32) (harg4 : arg4.IsWhole)
  (arg5 : Memref sig .tc .vmem S32x32 .f32) (harg5 : arg5.IsWhole)
  (arg6 : Memref sig .tc .vmem S32x32 .f32) (harg6 : arg6.IsWhole)
  (arg7 : Memref sig .tc .vmem S32x32 .f32) (harg7 : arg7.IsWhole)
  (arg8 : Memref sig .tc .vmem S32x32 .f32) (harg8 : arg8.IsWhole)
  (arg9 : Memref sig .tc .vmem S1x32 .f32) (harg9 : arg9.IsWhole)
  (arg10 : Memref sig .tc .vmem S1x32 .f32) (harg10 : arg10.IsWhole)
  (arg11 : Memref sig .tc .vmem S4096x32 .f32) (harg11 : arg11.IsWhole)
  (arg12 : Memref sig .tc .vmem S4096x32 .f32) (harg12 : arg12.IsWhole)
  (arg13 : Memref sig .tc .vmem S4096x32 .bf16) (harg13 : arg13.IsWhole)
  (arg14 : Memref sig .tc .vmem S4096x33 .bf16) (harg14 : arg14.IsWhole)
  (arg15 : Memref sig .tc .vmem S4096x32 .f32) (harg15 : arg15.IsWhole)
  (arg16 : Memref sig .tc .smem S1x5 .i32) (harg16 : arg16.IsWhole)

variable (c : Dev nD) (x0 : Vec F S1x4096 .i32) (x1 : Vec F S4096x16 .f32) (x2 : Vec F S4096x1 .i32) (x3 : Vec F S1x4096 .i32) (x4 : Vec F S16x32 .f32)
  (x5 x6 x7 x8 : Vec F S32x32 .f32) (x9 x10 : Vec F S1x32 .f32) (hseg : ∀ i, (x0 i).toNat < 4)

/-- The tiles of the transformed attention, as the kernel keeps them. -/
theorem H15_eq : View.canon (kernelRun.sl.H15_8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg) = tiled (tTile x0 x1 x2 x3 x4 x5 x6 x7 x8) := by
  unfold kernelRun.sl.H15_8 kernelRun.sl.r_22
  rw [st5_eq, st4_eq, st7_eq, st6_eq, st11_eq, st10_eq, st13_eq, st12_eq, st15_eq, st14_eq, st17_eq, st16_eq, st19_eq, st18_eq]
  rw [r9_eq arg12 harg12, r10_eq, r12_eq, r13_eq, r19_eq, r20_eq, r16_eq, r21_eq, r37_eq, r38_eq, r34_eq, r39_eq, r48_eq, r49_eq, r44_eq, r45_eq, r56_eq, r57_eq, r54_eq, r55_eq, r60_eq, r66_eq, r64_eq, r65_eq, r70_eq, r71_eq, r73_eq, r74_eq, r_31_eq]
  · exact canon_tiled (tTile x0 x1 x2 x3 x4 x5 x6 x7 x8) _ _ _ _ _ _ _ _
  · exact (congrArg BitVec.toNat (r73_eq arg0 harg0 arg16 harg16 x0 hseg)).trans_le (loW_le x0 7)
  · exact (congrArg BitVec.toNat (r74_eq arg0 harg0 arg16 harg16 x0 hseg)).trans_le (hiW_le x0 7)
  · exact (congrArg BitVec.toNat (r64_eq arg0 harg0 arg16 harg16 x0 hseg)).trans_le (loW_le x0 6)
  · exact (congrArg BitVec.toNat (r65_eq arg0 harg0 arg16 harg16 x0 hseg)).trans_le (hiW_le x0 6)
  · exact (congrArg BitVec.toNat (r54_eq arg0 harg0 arg16 harg16 x0 hseg)).trans_le (loW_le x0 5)
  · exact (congrArg BitVec.toNat (r55_eq arg0 harg0 arg16 harg16 x0 hseg)).trans_le (hiW_le x0 5)
  · exact (congrArg BitVec.toNat (r44_eq arg0 harg0 arg16 harg16 x0 hseg)).trans_le (loW_le x0 4)
  · exact (congrArg BitVec.toNat (r45_eq arg0 harg0 arg16 harg16 x0 hseg)).trans_le (hiW_le x0 4)
  · exact (congrArg BitVec.toNat (r34_eq arg0 harg0 arg16 harg16 x0 hseg)).trans_le (loW_le x0 3)
  · exact (congrArg BitVec.toNat (r39_eq arg0 harg0 arg16 harg16 x0 hseg)).trans_le (hiW_le x0 3)
  · exact (congrArg BitVec.toNat (r16_eq arg0 harg0 arg16 harg16 x0 hseg)).trans_le (loW_le x0 1)
  · exact (congrArg BitVec.toNat (r21_eq arg0 harg0 arg16 harg16 x0 hseg)).trans_le (hiW_le x0 1)
  · exact (congrArg BitVec.toNat (r12_eq arg0 harg0 arg16 harg16 x0 hseg)).trans_le (loW_le x0 0)
  · exact (congrArg BitVec.toNat (r13_eq arg0 harg0 arg16 harg16 x0 hseg)).trans_le (hiW_le x0 0)

theorem v619_eq : kernelRun.sl.v619 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = tTile x0 x1 x2 x3 x4 x5 x6 x7 x8 0 := by
  unfold kernelRun.sl.v619
  exact tile_read arg15 harg15 (tTile x0 x1 x2 x3 x4 x5 x6 x7 x8) 0 rfl _ _ (H15_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg)
theorem v629_eq : kernelRun.sl.v629 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = tTile x0 x1 x2 x3 x4 x5 x6 x7 x8 1 := by
  unfold kernelRun.sl.v629
  exact tile_read arg15 harg15 (tTile x0 x1 x2 x3 x4 x5 x6 x7 x8) 1 rfl _ _ (H15_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg)
theorem v639_eq : kernelRun.sl.v639 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = tTile x0 x1 x2 x3 x4 x5 x6 x7 x8 2 := by
  unfold kernelRun.sl.v639
  exact tile_read arg15 harg15 (tTile x0 x1 x2 x3 x4 x5 x6 x7 x8) 2 rfl _ _ (H15_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg)
theorem v649_eq : kernelRun.sl.v649 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = tTile x0 x1 x2 x3 x4 x5 x6 x7 x8 3 := by
  unfold kernelRun.sl.v649
  exact tile_read arg15 harg15 (tTile x0 x1 x2 x3 x4 x5 x6 x7 x8) 3 rfl _ _ (H15_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg)
theorem v659_eq : kernelRun.sl.v659 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = tTile x0 x1 x2 x3 x4 x5 x6 x7 x8 4 := by
  unfold kernelRun.sl.v659
  exact tile_read arg15 harg15 (tTile x0 x1 x2 x3 x4 x5 x6 x7 x8) 4 rfl _ _ (H15_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg)
theorem v669_eq : kernelRun.sl.v669 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = tTile x0 x1 x2 x3 x4 x5 x6 x7 x8 5 := by
  unfold kernelRun.sl.v669
  exact tile_read arg15 harg15 (tTile x0 x1 x2 x3 x4 x5 x6 x7 x8) 5 rfl _ _ (H15_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg)
theorem v679_eq : kernelRun.sl.v679 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = tTile x0 x1 x2 x3 x4 x5 x6 x7 x8 6 := by
  unfold kernelRun.sl.v679
  exact tile_read arg15 harg15 (tTile x0 x1 x2 x3 x4 x5 x6 x7 x8) 6 rfl _ _ (H15_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg)
theorem v689_eq : kernelRun.sl.v689 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg = tTile x0 x1 x2 x3 x4 x5 x6 x7 x8 7 := by
  unfold kernelRun.sl.v689
  exact tile_read arg15 harg15 (tTile x0 x1 x2 x3 x4 x5 x6 x7 x8) 7 rfl _ _ (H15_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 hseg)

theorem outArr_tiled : outArr x0 x1 x2 x3 x4 x5 x6 x7 x8 x9 x10 = tiled (outTile x0 x1 x2 x3 x4 x5 x6 x7 x8 x9 x10) := rfl

/-- The run's result. -/
theorem kernelRun_val : (kernelRun arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 x9 x10 hseg).1 = outArr x0 x1 x2 x3 x4 x5 x6 x7 x8 x9 x10 := by
  show View.canon (kernelRun.sl.H11_8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c x0 x1 x2 x3 x4 x5 x6 x7 x8 x9 x10 hseg) = _
  unfold kernelRun.sl.H11_8 kernelRun.sl.r_78
  rw [r_75_eq, r_76_eq, r_77_eq, v619_eq, v629_eq, v639_eq, v649_eq, v659_eq, v669_eq, v679_eq, v689_eq]
  rw [rows_read arg12 harg12 0 rfl (by decide), rows_read arg12 harg12 1 rfl (by decide), rows_read arg12 harg12 2 rfl (by decide), rows_read arg12 harg12 3 rfl (by decide), rows_read arg12 harg12 4 rfl (by decide), rows_read arg12 harg12 5 rfl (by decide), rows_read arg12 harg12 6 rfl (by decide), rows_read arg12 harg12 7 rfl (by decide)]
  exact canon_tiled (outTile x0 x1 x2 x3 x4 x5 x6 x7 x8 x9 x10) _ _ _ _ _ _ _ _

end Cert.KernelIdeal.Run

end
-- ==== Proof.Equal.lean ====
/-
  The kernel's result and the reference's are the same numbers.
-/
module

public import proofs.«01_k».proof.Proof.RefResult
public import proofs.«01_k».proof.Proof.Finite
public import proofs.«01_k».proof.Proof.KI.Result
public import proofs.«01_k».proof.Proof.KI.Value
public import proofs.«01_k».proof.Proof.KI.Blocks

@[expose] public section

set_option maxRecDepth 16384

noncomputable section

namespace Cert.Proof

open Idealize.ShloMosaic Idealize.ShloMosaic.TcCoe
open Cert.KernelIdeal Cert.KernelIdeal.Gen Cert.KernelIdeal.Run

theorem row_at (v : IVec S4096 32) (h) (j : Fin 4096) : shapeCast S1x4096 v h (ix2 0 j) = v (ix1 j) := by pointwise
theorem col_at (v : IVec S4096 32) (h) (j : Fin 4096) : shapeCast S4096x1 v h (ix2 j 0) = v (ix1 j) := by pointwise
theorem vec_at (v : FVec Ideal S32 .f32) (h) (d : Fin 32) : shapeCast S1x32 v h (ix2 0 d) = v (ix1 d) := by pointwise

variable (m : (ℓ : Loc nD τ sig) → Buf (Elt Ideal) ℓ) (c : Dev nD) (hm : SegRange m)

/-- What the body leaves in the result is the reference's result of the arguments. -/
theorem outs_eq (hs : ∀ i : S4096.Idx, (m ((c : Thread nD τ).loc main_arg1) i : BitVec 32).toNat < 4)
    (mono : ∀ i j : Fin 4096, i ≤ j → (m ((c : Thread nD τ).loc main_arg1) (ix1 i) : BitVec 32).toNat ≤ (m ((c : Thread nD τ).loc main_arg1) (ix1 j) : BitVec 32).toNat)
    (f0 : ∀ i : S4096x16.Idx, (m ((c : Thread nD τ).loc main_arg0) i : EReal) = (((m ((c : Thread nD τ).loc main_arg0) i : EReal).toReal : ℝ) : EReal))
    (f2 : ∀ i : S16x32.Idx, (m ((c : Thread nD τ).loc main_arg2) i : EReal) = (((m ((c : Thread nD τ).loc main_arg2) i : EReal).toReal : ℝ) : EReal))
    (f3 : ∀ i : S32x32.Idx, (m ((c : Thread nD τ).loc main_arg3) i : EReal) = (((m ((c : Thread nD τ).loc main_arg3) i : EReal).toReal : ℝ) : EReal))
    (f4 : ∀ i : S32x32.Idx, (m ((c : Thread nD τ).loc main_arg4) i : EReal) = (((m ((c : Thread nD τ).loc main_arg4) i : EReal).toReal : ℝ) : EReal))
    (f5 : ∀ i : S32x32.Idx, (m ((c : Thread nD τ).loc main_arg5) i : EReal) = (((m ((c : Thread nD τ).loc main_arg5) i : EReal).toReal : ℝ) : EReal))
    (f6 : ∀ i : S32x32.Idx, (m ((c : Thread nD τ).loc main_arg6) i : EReal) = (((m ((c : Thread nD τ).loc main_arg6) i : EReal).toReal : ℝ) : EReal)) :
    outsAt hm c point0 = Ref.outOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  have hk : outsAt hm c point0 = outArr (iblk m c 0 point0) (iblk m c 1 point0) (iblk m c 2 point0) (iblk m c 3 point0) (iblk m c 4 point0)
      (iblk m c 5 point0) (iblk m c 6 point0) (iblk m c 7 point0) (iblk m c 8 point0) (iblk m c 9 point0) (iblk m c 10 point0) :=
    kernelRun_val ..
  rw [hk]
  funext j
  obtain ⟨i, d, rfl⟩ : ∃ (i : Fin 4096) (d : Fin 32), j = ix2 i d := ⟨j 0, j 1, eq_ix2 j⟩
  rw [Ref.outOf_at (x := fun i k => (m ((c : Thread nD τ).loc main_arg0) (ix2 i k) : EReal).toReal)
    (wp := fun k d => (m ((c : Thread nD τ).loc main_arg2) (ix2 k d) : EReal).toReal)
    (wq := fun k d => (m ((c : Thread nD τ).loc main_arg3) (ix2 k d) : EReal).toReal)
    (wk := fun k d => (m ((c : Thread nD τ).loc main_arg4) (ix2 k d) : EReal).toReal)
    (wv := fun k d => (m ((c : Thread nD τ).loc main_arg5) (ix2 k d) : EReal).toReal)
    (wt := fun k d => (m ((c : Thread nD τ).loc main_arg6) (ix2 k d) : EReal).toReal)
    (fun i k => f0 _) (fun i k => f2 _) (fun i k => f3 _) (fun i k => f4 _) (fun i k => f5 _) (fun i k => f6 _)]
  have e9 : (fun d : Fin 32 => (iblk m c 9 point0 (ix2 0 d) : EReal)) = fun d => (m ((c : Thread nD τ).loc main_arg7) (ix1 d) : EReal) :=
    funext fun d => (congrFun (iblk9 m c point0) (ix2 0 d)).trans (vec_at _ _ d)
  have e10 : (fun d : Fin 32 => (iblk m c 10 point0 (ix2 0 d) : EReal)) = fun d => (m ((c : Thread nD τ).loc main_arg8) (ix1 d) : EReal) :=
    funext fun d => (congrFun (iblk10 m c point0) (ix2 0 d)).trans (vec_at _ _ d)
  rw [← e9, ← e10]
  exact outArr_real (fun i => hs _) mono
    (fun j => (congrFun (iblk0 m c point0) (ix2 0 j)).trans (row_at _ _ j))
    (fun j => (congrFun (iblk2 m c point0) (ix2 j 0)).trans (col_at _ _ j))
    (fun j => (congrFun (iblk3 m c point0) (ix2 0 j)).trans (row_at _ _ j))
    (fun i k => (congrFun (iblk1 m c point0) (ix2 i k)).trans (f0 _))
    (fun i k => (congrFun (iblk4 m c point0) (ix2 i k)).trans (f2 _))
    (fun i k => (congrFun (iblk5 m c point0) (ix2 i k)).trans (f3 _))
    (fun i k => (congrFun (iblk6 m c point0) (ix2 i k)).trans (f4 _))
    (fun i k => (congrFun (iblk7 m c point0) (ix2 i k)).trans (f5 _))
    (fun i k => (congrFun (iblk8 m c point0) (ix2 i k)).trans (f6 _)) i d

end Cert.Proof

end
-- ==== Proof.lean ====
/-
  The claims: the frames of the three programs, that the named constant is the one the kernel had, and that kernel and
  reference end with equal results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_segments_in_range
public import proofs.«01_k».proof.Proof.Gen.Pre_sorted_and_finite
public import proofs.«01_k».proof.Proof.Pre
public import proofs.«01_k».proof.Proof.KI.Blocks
public import proofs.«01_k».proof.Proof.Equal
public import proofs.«01_k».proof.Proof.K.Blocks
public import Idealize.ShloMosaic.Adequacy
public import Idealize.ShloMosaic.Init

@[expose] public section

noncomputable section

namespace Cert.Proof

open Idealize.ShloMosaic Idealize.SL.Sem

/-- The segment ids are segments, read from the precondition of the kernel's frame. -/
theorem range_kernel {m : (ℓ : Loc Cert.Kernel.nD Cert.Kernel.τ Cert.Kernel.sig) → Buf (Elt Bits) ℓ} (h : Cert.Pre_Kernel m) :
    Cert.Kernel.Run.SegRange m :=
  Cert.Kernel.Run.segRange_of m fun c i => Pre.range_of_pre (h c) i

theorem range_ideal {m : (ℓ : Loc Cert.KernelIdeal.nD Cert.KernelIdeal.τ Cert.KernelIdeal.sig) → Buf (Elt Ideal) ℓ} (h : Cert.Pre_KernelIdeal m) :
    Cert.KernelIdeal.Run.SegRange m :=
  Cert.KernelIdeal.Run.segRange_of m fun c i => Pre.range_of_pre (h c) i

/-- The reference runs, leaves its arguments and has no counter that is not zero. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- Sorted and finite arguments have their segment ids in range. -/
theorem range_sorted {m : (ℓ : Loc Cert.KernelIdeal.nD Cert.KernelIdeal.τ Cert.KernelIdeal.sig) → Buf (Elt Ideal) ℓ} (h : Cert.Pre_KernelIdeal_sorted_and_finite m) :
    Cert.KernelIdeal.Run.SegRange m :=
  Cert.KernelIdeal.Run.segRange_of m fun c i => Pre.sorted_range (h c).1 i

/-- The kernel's run leaves what the body left, and its arguments. -/
theorem value_run (m : (ℓ : Loc Cert.KernelIdeal.nD Cert.KernelIdeal.τ Cert.KernelIdeal.sig) → Buf (Elt Ideal) ℓ) (g : Dev Cert.KernelIdeal.nD → PrngReg)
    (hm : Cert.KernelIdeal.Run.SegRange m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v4) = Cert.KernelIdeal.Run.outsAt hm c Cert.KernelIdeal.Run.point0
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) := by
  have h := Cert.KernelIdeal.Run.run_main m g hm
  have hf := Cert.KernelIdeal.Run.frame m g hm
  exact ⟨fun t ht hp c => ⟨(((h.post t ht hp).1 c).1 11).trans (Cert.KernelIdeal.Run.final11 m c hm), (hf.post t ht hp).1 c⟩, h.progress, h.fair⟩

/-- On sorted, finite arguments the kernel and the reference end with equal results. -/
theorem equal_results : Cert.algebraic_KernelIdeal_ReferenceIdeal_pre_sorted_and_finite := by
  intro m g m' g' hp hargs
  have hm := range_sorted hp
  refine ⟨fun c => Cert.KernelIdeal.Run.outsAt hm c Cert.KernelIdeal.Run.point0, value_run m g hm, ?_⟩
  refine (θ_run _ _ _).mono (fun r h c => ⟨(h c).1.trans ?_, (h c).2⟩) (Cert.ReferenceIdeal.Value.run m' g')
  obtain ⟨e0, e1, e2, e3, e4, e5, e6, e7, e8⟩ := hargs c
  obtain ⟨p0, p1, p2, p3, p4, p5, p6, p7⟩ := hp c
  rw [Ref.res_eq, e0, e1, e2, e3, e4, e5, e6, e7, e8]
  exact (outs_eq m c hm (Pre.sorted_range p0) (Pre.sorted_mono (Pre.sorted_range p0) p1) (Pre.finite0 p2) (Pre.finite2 p3) (Pre.finite3 p4)
    (Pre.finite4 p5) (Pre.finite5 p6) (Pre.finite6 p7)).symm

theorem claim : Cert.Claim :=
  ⟨Cert.Kernel.Gen.facts, Cert.KernelIdeal.Gen.facts, Cert.ReferenceIdeal.Gen.facts, Cert.Pre_segments_in_range.Gen.facts, Cert.Pre_sorted_and_finite.Gen.facts,
    fun m g h => Cert.Kernel.Run.frame m g (range_kernel h),
    fun m g h => Cert.KernelIdeal.Run.frame m g (range_ideal h),
    fun m g h => Cert.KernelIdeal.Run.frame m g (range_sorted h),
    reference_frame,
    fun m g _ => reference_frame m g trivial,
    IdealRules.named_const.statement Cert.KernelIdeal.κ "mask" .f32 0xF149F2CA#32 ⊥ rfl,
    equal_results⟩

end Cert.Proof

end
